-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_v57) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S32768x512 : Shape := ⟨2, ![32768, 512]⟩
abbrev S8x15x31 : Shape := ⟨3, ![8, 15, 31]⟩
abbrev S_ : Shape := ⟨0, ![]⟩

class Facts : Prop where
  bcast_S_S32768x512 : S_.BroadcastsInDim S32768x512 (![] : Fin 0 → Fin S32768x512.rank)
  bcast_S_S8x15x31 : S_.BroadcastsInDim S8x15x31 (![] : Fin 0 → Fin S8x15x31.rank)

variable [Facts]

def fn {F : FTy → Type} [FloatOps F] (main_arg0 : FVec F S32768x512 .f32) (main_arg1 : FVec F S32768x512 .f32) (main_arg2 : FVec F S32768x512 .f32) (main_arg3 : FVec F S8x15x31 .f32) : IVec S32768x512 1 × IVec S32768x512 1 × IVec S8x15x31 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S8x15x31 .f32 := Host.absf main_arg3
  let main_cst_1 : FVec F S_ .f32 := constant S_ .f32 0x7F800000#32
  let main_v7 : FVec F S8x15x31 .f32 := broadcastInDim S8x15x31 ![] bcast_S_S8x15x31 main_cst_1
  let main_v8 : IVec S8x15x31 1 := cmpf .olt main_v6 main_v7
  (main_v2, main_v5, main_v8)
-- ==== Kernel.lean ====
abbrev S32768x512 : Shape := ⟨2, ![32768, 512]⟩
abbrev S8x15x31 : Shape := ⟨3, ![8, 15, 31]⟩
abbrev S64x64 : Shape := ⟨2, ![64, 64]⟩
abbrev S_ : Shape := ⟨0, ![]⟩
abbrev S64x64x1 : Shape := ⟨3, ![64, 64, 1]⟩
abbrev S8x15x64x64 : Shape := ⟨4, ![8, 15, 64, 64]⟩
abbrev S8x17x64x64 : Shape := ⟨4, ![8, 17, 64, 64]⟩
abbrev S8x16x64x64 : Shape := ⟨4, ![8, 16, 64, 64]⟩
abbrev S8x16x64x128 : Shape := ⟨4, ![8, 16, 64, 128]⟩
abbrev S8x48x64x128 : Shape := ⟨4, ![8, 48, 64, 128]⟩
abbrev S4x8192x512 : Shape := ⟨3, ![4, 8192, 512]⟩
abbrev S2048x512 : Shape := ⟨2, ![2048, 512]⟩
abbrev S1x2560x512 : Shape := ⟨3, ![1, 2560, 512]⟩
abbrev S256x640 : Shape := ⟨2, ![256, 640]⟩
abbrev S128x128 : Shape := ⟨2, ![128, 128]⟩
abbrev S640x128 : Shape := ⟨2, ![640, 128]⟩
abbrev S1x640x128 : Shape := ⟨3, ![1, 640, 128]⟩
abbrev S256x128 : Shape := ⟨2, ![256, 128]⟩
abbrev S1x1x64x128 : Shape := ⟨4, ![1, 1, 64, 128]⟩
abbrev S64x128 : Shape := ⟨2, ![64, 128]⟩
abbrev S64x640 : Shape := ⟨2, ![64, 640]⟩
abbrev S128x640 : Shape := ⟨2, ![128, 640]⟩
abbrev S128 : Shape := ⟨1, ![128]⟩
abbrev S128x1 : Shape := ⟨2, ![128, 1]⟩
abbrev S640x256 : Shape := ⟨2, ![640, 256]⟩
abbrev S256x256 : Shape := ⟨2, ![256, 256]⟩

abbrev nBuf : Space → Nat
  | .hbm => 47
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S8x15x31, .f32⟩
  | .hbm, ⟨4, _⟩ => ⟨S64x64, .i32⟩
  | .hbm, ⟨5, _⟩ => ⟨S64x64, .i1⟩
  | .hbm, ⟨6, _⟩ => ⟨S64x64, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S32768x512, .bf16⟩
  | .hbm, ⟨14, _⟩ => ⟨S32768x512, .bf16⟩
  | .hbm, ⟨15, _⟩ => ⟨S32768x512, .bf16⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x15x31, .f32⟩
  | .hbm, ⟨21, _⟩ => ⟨S8x15x31, .f32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S64x64, .i32⟩
  | .hbm, ⟨26, _⟩ => ⟨S64x64x1, .i32⟩
  | .hbm, ⟨27, _⟩ => ⟨S8x15x64x64, .f32⟩
  | .hbm, ⟨28, _⟩ => ⟨S_, .f32⟩
  | .hbm, ⟨29, _⟩ => ⟨S_, .f32⟩
  | .hbm, ⟨30, _⟩ => ⟨S8x15x64x64, .i1⟩
  | .hbm, ⟨31, _⟩ => ⟨S8x15x64x64, .f32⟩
  | .hbm, ⟨32, _⟩ => ⟨S8x15x64x64, .f32⟩
  | .hbm, ⟨33, _⟩ => ⟨S_, .f32⟩
  | .hbm, ⟨34, _⟩ => ⟨S_, .f32⟩
  | .hbm, ⟨35, _⟩ => ⟨S8x17x64x64, .f32⟩
  | .hbm, ⟨36, _⟩ => ⟨S8x16x64x64, .f32⟩
  | .hbm, ⟨37, _⟩ => ⟨S8x16x64x64, .f32⟩
  | .hbm, ⟨38, _⟩ => ⟨S_, .f32⟩
  | .hbm, ⟨39, _⟩ => ⟨S8x16x64x64, .f32⟩
  | .hbm, ⟨40, _⟩ => ⟨S8x16x64x128, .f32⟩
  | .hbm, ⟨41, _⟩ => ⟨S8x16x64x128, .f32⟩
  | .hbm, ⟨42, _⟩ => ⟨S8x16x64x128, .f32⟩
  | .hbm, ⟨43, _⟩ => ⟨S8x48x64x128, .f32⟩
  | .hbm, ⟨44, _⟩ => ⟨S4x8192x512, .bf16⟩
  | .hbm, ⟨45, _⟩ => ⟨S4x8192x512, .bf16⟩
  | .hbm, ⟨46, _⟩ => ⟨S32768x512, .f32⟩
  | .local _ .vmem, ⟨0, _⟩ => ⟨S2048x512, .bf16⟩
  | .local _ .vmem, ⟨1, _⟩ => ⟨S2048x512, .bf16⟩
  | .local _ .vmem, ⟨2, _⟩ => ⟨S1x2560x512, .bf16⟩
  | .local _ .vmem, ⟨3, _⟩ => ⟨S1x2560x512, .bf16⟩
  | .local _ .vmem, ⟨4, _⟩ => ⟨S1x2560x512, .bf16⟩
  | .local _ .vmem, ⟨5, _⟩ => ⟨S1x2560x512, .bf16⟩
  | .local _ .vmem, ⟨6, _⟩ => ⟨S8x48x64x128, .f32⟩
  | .local _ .vmem, ⟨7, _⟩ => ⟨S2048x512, .f32⟩
  | .local _ .vmem, ⟨8, _⟩ => ⟨S2048x512, .f32⟩
  | .local _ .vmem, ⟨9, _⟩ => ⟨S256x640, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_cst : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v16 : Ref sig .tc := ⟨.hbm, 32, rfl⟩
abbrev main_cst_7 : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_8 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 : BitVec 32 :=
  let c0_i32_4 : BitVec 32 := 0#32
  c0_i32_4
def k0_mult2 (i : grid0.Coords) : BitVec 32 :=
  let c118_i32 : BitVec 32 := 118#32
  let c0_i32_3 : BitVec 32 := 0#32
  let c2_i32_2 : BitVec 32 := 2#32
  let arg1 : BitVec 32 := BitVec.ofNat 32 (i 1).val
  let c16_i32_0 : BitVec 32 := 16#32
  let v9 : BitVec 32 := Scalar.muli arg1 c16_i32_0
  let c0_i32_1 : BitVec 32 := 0#32
  let v10 : BitVec 32 := Scalar.addi v9 c0_i32_1
  let v11 : BitVec 32 := Scalar.muli c2_i32_2 v10
  let c4_i32 : BitVec 32 := 4#32
  let v12 : BitVec 32 := Scalar.subi v11 c4_i32
  let v13 : BitVec 32 := Scalar.maxsi c0_i32_3 v12
  let v14 : BitVec 32 := Scalar.minsi c118_i32 v13
  let c64_i32_5 : BitVec 32 := 64#32
  let v16 : BitVec 32 := Scalar.muli v14 c64_i32_5
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v17 : BitVec 32 := Scalar.subi v16 v4
  v17
def k0_off1 (i : grid0.Coords) : Fin 3 → Nat :=
  let c0_6 : Index := 0#32
  let c118_i32 : BitVec 32 := 118#32
  let c0_i32_3 : BitVec 32 := 0#32
  let c2_i32_2 : BitVec 32 := 2#32
  let arg1 : BitVec 32 := BitVec.ofNat 32 (i 1).val
  let c16_i32_0 : BitVec 32 := 16#32
  let v9 : BitVec 32 := Scalar.muli arg1 c16_i32_0
  let c0_i32_1 : BitVec 32 := 0#32
  let v10 : BitVec 32 := Scalar.addi v9 c0_i32_1
  let v11 : BitVec 32 := Scalar.muli c2_i32_2 v10
  let c4_i32 : BitVec 32 := 4#32
  let v12 : BitVec 32 := Scalar.subi v11 c4_i32
  let v13 : BitVec 32 := Scalar.maxsi c0_i32_3 v12
  let v14 : BitVec 32 := Scalar.minsi c118_i32 v13
  let c64_i32_5 : BitVec 32 := 64#32
  let v16 : BitVec 32 := Scalar.muli v14 c64_i32_5
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v17 : BitVec 32 := Scalar.subi v16 v4
  let v18 : BitVec 32 := v17
  let v22 : Index := Scalar.indexCast v18
  let c0_7 : Index := 0#32
  ![0, v22.toNat, 0]
@[reducible] def k0_t1_loop : Scf.Loop 32 :=
  let c0_i32_12 : BitVec 32 := 0#32
  let c4_i32_13 : BitVec 32 := 4#32
  let v33 : BitVec 32 := Scalar.addi c0_i32_12 c4_i32_13
  let c1_i32 : BitVec 32 := 1#32
  ⟨c0_i32_12, v33, c1_i32⟩
def k0_mult3 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let c0_i32_16 : BitVec 32 := 0#32
  let v35 : BitVec 32 := Scalar.addi v34 c0_i32_16
  let c128_i32_22 : BitVec 32 := 128#32
  let v42 : BitVec 32 := Scalar.muli v35 c128_i32_22
  v42
def k0_mult4 (i : grid0.Coords) (k0_t1 : Fin k0_t1_loop.trips) : BitVec 32 :=
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let c0_i32_16 : BitVec 32 := 0#32
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let c64_i32_23 : BitVec 32 := 64#32
  let v44 : BitVec 32 := Scalar.muli v41 c64_i32_23
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v45 : BitVec 32 := Scalar.subi v44 v4
  v45
def k0_mult5 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_179 : BitVec 32 := 4#32
  let v307 : BitVec 32 := Scalar.muli arg8 c4_i32_179
  let c1_i32_180 : BitVec 32 := 1#32
  let v308 : BitVec 32 := Scalar.addi v307 c1_i32_180
  let c128_i32_186 : BitVec 32 := 128#32
  let v315 : BitVec 32 := Scalar.muli v308 c128_i32_186
  v315
def k0_mult6 (i : grid0.Coords) (k0_t1 : Fin k0_t1_loop.trips) : BitVec 32 :=
  let c118_i32_185 : BitVec 32 := 118#32
  let c0_i32_184 : BitVec 32 := 0#32
  let c2_i32_182 : BitVec 32 := 2#32
  let arg1 : BitVec 32 := BitVec.ofNat 32 (i 1).val
  let c16_i32_181 : BitVec 32 := 16#32
  let v309 : BitVec 32 := Scalar.muli arg1 c16_i32_181
  let c0_i32_12 : BitVec 32 := 0#32
  let c1_i32 : BitVec 32 := 1#32
  let arg8 : BitVec 32 := Scf.iv c0_i32_12 c1_i32 k0_t1
  let c4_i32_179 : BitVec 32 := 4#32
  let v307 : BitVec 32 := Scalar.muli arg8 c4_i32_179
  let c1_i32_180 : BitVec 32 := 1#32
  let v308 : BitVec 32 := Scalar.addi v307 c1_i32_180
  let v310 : BitVec 32 := Scalar.addi v309 v308
  let v311 : BitVec 32 := Scalar.muli c2_i32_182 v310
  let c4_i32_183 : BitVec 32 := 4#32
  let v312 : BitVec 32 := Scalar.subi v311 c4_i32_183
  let v313 : BitVec 32 := Scalar.maxsi c0_i32_184 v312
  let v314 : BitVec 32 := Scalar.minsi c118_i32_185 v313
  let c64_i32_187 : BitVec 32 := 64#32
  let v317 : BitVec 32 := Scalar.muli v314 c64_i32_187
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v318 : BitVec 32 := Scalar.subi v317 v4
  v318
def k0_mult7 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_348 : BitVec 32 := 4#32
  let v580 : BitVec 32 := Scalar.muli arg8 c4_i32_348
  let c2_i32_349 : BitVec 32 := 2#32
  let v581 : BitVec 32 := Scalar.addi v580 c2_i32_349
  let c128_i32_355 : BitVec 32 := 128#32
  let v588 : BitVec 32 := Scalar.muli v581 c128_i32_355
  v588
def k0_mult8 (i : grid0.Coords) (k0_t1 : Fin k0_t1_loop.trips) : BitVec 32 :=
  let c118_i32_354 : BitVec 32 := 118#32
  let c0_i32_353 : BitVec 32 := 0#32
  let c2_i32_351 : BitVec 32 := 2#32
  let arg1 : BitVec 32 := BitVec.ofNat 32 (i 1).val
  let c16_i32_350 : BitVec 32 := 16#32
  let v582 : BitVec 32 := Scalar.muli arg1 c16_i32_350
  let c0_i32_12 : BitVec 32 := 0#32
  let c1_i32 : BitVec 32 := 1#32
  let arg8 : BitVec 32 := Scf.iv c0_i32_12 c1_i32 k0_t1
  let c4_i32_348 : BitVec 32 := 4#32
  let v580 : BitVec 32 := Scalar.muli arg8 c4_i32_348
  let c2_i32_349 : BitVec 32 := 2#32
  let v581 : BitVec 32 := Scalar.addi v580 c2_i32_349
  let v583 : BitVec 32 := Scalar.addi v582 v581
  let v584 : BitVec 32 := Scalar.muli c2_i32_351 v583
  let c4_i32_352 : BitVec 32 := 4#32
  let v585 : BitVec 32 := Scalar.subi v584 c4_i32_352
  let v586 : BitVec 32 := Scalar.maxsi c0_i32_353 v585
  let v587 : BitVec 32 := Scalar.minsi c118_i32_354 v586
  let c64_i32_356 : BitVec 32 := 64#32
  let v590 : BitVec 32 := Scalar.muli v587 c64_i32_356
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v591 : BitVec 32 := Scalar.subi v590 v4
  v591
def k0_mult9 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c4_i32_517 : BitVec 32 := 4#32
  let v853 : BitVec 32 := Scalar.muli arg8 c4_i32_517
  let c3_i32 : BitVec 32 := 3#32
  let v854 : BitVec 32 := Scalar.addi v853 c3_i32
  let c128_i32_523 : BitVec 32 := 128#32
  let v861 : BitVec 32 := Scalar.muli v854 c128_i32_523
  v861
def k0_mult10 (i : grid0.Coords) (k0_t1 : Fin k0_t1_loop.trips) : BitVec 32 :=
  let c118_i32_522 : BitVec 32 := 118#32
  let c0_i32_521 : BitVec 32 := 0#32
  let c2_i32_519 : BitVec 32 := 2#32
  let arg1 : BitVec 32 := BitVec.ofNat 32 (i 1).val
  let c16_i32_518 : BitVec 32 := 16#32
  let v855 : BitVec 32 := Scalar.muli arg1 c16_i32_518
  let c0_i32_12 : BitVec 32 := 0#32
  let c1_i32 : BitVec 32 := 1#32
  let arg8 : BitVec 32 := Scf.iv c0_i32_12 c1_i32 k0_t1
  let c4_i32_517 : BitVec 32 := 4#32
  let v853 : BitVec 32 := Scalar.muli arg8 c4_i32_517
  let c3_i32 : BitVec 32 := 3#32
  let v854 : BitVec 32 := Scalar.addi v853 c3_i32
  let v856 : BitVec 32 := Scalar.addi v855 v854
  let v857 : BitVec 32 := Scalar.muli c2_i32_519 v856
  let c4_i32_520 : BitVec 32 := 4#32
  let v858 : BitVec 32 := Scalar.subi v857 c4_i32_520
  let v859 : BitVec 32 := Scalar.maxsi c0_i32_521 v858
  let v860 : BitVec 32 := Scalar.minsi c118_i32_522 v859
  let c64_i32_524 : BitVec 32 := 64#32
  let v863 : BitVec 32 := Scalar.muli v860 c64_i32_524
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v864 : BitVec 32 := Scalar.subi v863 v4
  v864
def k0_off2 (k0_t1 : Fin k0_t1_loop.trips) (c0_i32_16 : BitVec 32) : Fin 2 → Nat :=
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let c128_i32_22 : BitVec 32 := 128#32
  let v42 : BitVec 32 := Scalar.muli v35 c128_i32_22
  let v43 : BitVec 32 := v42
  let v1127 : Index := Scalar.indexCast v43
  let c128 : Index := 128#32
  ![v1127.toNat, 128]
def k0_off3 (i : grid0.Coords) (k0_t1 : Fin k0_t1_loop.trips) (c0_i32_16 : BitVec 32) : Fin 3 → Nat :=
  let c0_687 : Index := 0#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let c64_i32_23 : BitVec 32 := 64#32
  let v44 : BitVec 32 := Scalar.muli v41 c64_i32_23
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v45 : BitVec 32 := Scalar.subi v44 v4
  let v46 : BitVec 32 := v45
  let v1130 : Index := Scalar.indexCast v46
  let c128_688 : Index := 128#32
  ![0, v1130.toNat, 128]
def k0_off4 (i : grid0.Coords) (k0_t1 : Fin k0_t1_loop.trips) (c0_i32_16 : BitVec 32) (c0_i32_28 : BitVec 32) (c0_i32_25 : BitVec 32) : Fin 4 → Nat :=
  let c0_691 : Index := 0#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1138 : Index := Scalar.indexCast v72
  let c0_692 : Index := 0#32
  let c0_693 : Index := 0#32
  ![0, v1138.toNat, 0, 0]
def k0_off5 (i : grid0.Coords) (k0_t1 : Fin k0_t1_loop.trips) (c0_i32_16 : BitVec 32) (c0_i32_28 : BitVec 32) (c0_i32_25 : BitVec 32) : Fin 4 → Nat :=
  let c1 : Index := 1#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1179 : Index := Scalar.indexCast v72
  let c0_722 : Index := 0#32
  let c0_723 : Index := 0#32
  ![1, v1179.toNat, 0, 0]
def k0_off6 (i : grid0.Coords) (k0_t1 : Fin k0_t1_loop.trips) (c0_i32_16 : BitVec 32) : Fin 3 → Nat :=
  let c0_752 : Index := 0#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let c64_i32_23 : BitVec 32 := 64#32
  let v44 : BitVec 32 := Scalar.muli v41 c64_i32_23
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v45 : BitVec 32 := Scalar.subi v44 v4
  let v46 : BitVec 32 := v45
  let v1220 : Index := Scalar.indexCast v46
  let c0_753 : Index := 0#32
  ![0, v1220.toNat, 0]
def k0_off7 (k0_t1 : Fin k0_t1_loop.trips) (c0_i32_16 : BitVec 32) : Fin 2 → Nat :=
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let c128_i32_22 : BitVec 32 := 128#32
  let v42 : BitVec 32 := Scalar.muli v35 c128_i32_22
  let v43 : BitVec 32 := v42
  let v1232 : Index := Scalar.indexCast v43
  let c0_755 : Index := 0#32
  ![v1232.toNat, 0]
def k0_off8 (k0_t1 : Fin k0_t1_loop.trips) (c0_i32_16 : BitVec 32) : Fin 2 → Nat :=
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let c128_i32_22 : BitVec 32 := 128#32
  let v42 : BitVec 32 := Scalar.muli v35 c128_i32_22
  let v43 : BitVec 32 := v42
  let v1234 : Index := Scalar.indexCast v43
  let c256 : Index := 256#32
  ![v1234.toNat, 256]
def k0_off9 (i : grid0.Coords) (k0_t1 : Fin k0_t1_loop.trips) (c0_i32_16 : BitVec 32) : Fin 3 → Nat :=
  let c0_756 : Index := 0#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let c64_i32_23 : BitVec 32 := 64#32
  let v44 : BitVec 32 := Scalar.muli v41 c64_i32_23
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v45 : BitVec 32 := Scalar.subi v44 v4
  let v46 : BitVec 32 := v45
  let v1237 : Index := Scalar.indexCast v46
  let c256_757 : Index := 256#32
  ![0, v1237.toNat, 256]
def k0_off10 (i : grid0.Coords) (k0_t1 : Fin k0_t1_loop.trips) (c0_i32_16 : BitVec 32) (c0_i32_28 : BitVec 32) (c0_i32_25 : BitVec 32) : Fin 4 → Nat :=
  let c2 : Index := 2#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1245 : Index := Scalar.indexCast v72
  let c0_760 : Index := 0#32
  let c0_761 : Index := 0#32
  ![2, v1245.toNat, 0, 0]
def k0_off11 (i : grid0.Coords) (k0_t1 : Fin k0_t1_loop.trips) (c0_i32_16 : BitVec 32) (c0_i32_28 : BitVec 32) (c0_i32_25 : BitVec 32) : Fin 4 → Nat :=
  let c3 : Index := 3#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1286 : Index := Scalar.indexCast v72
  let c0_790 : Index := 0#32
  let c0_791 : Index := 0#32
  ![3, v1286.toNat, 0, 0]
def k0_off12 (k0_t1 : Fin k0_t1_loop.trips) (c0_i32_16 : BitVec 32) : Fin 2 → Nat :=
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let c128_i32_22 : BitVec 32 := 128#32
  let v42 : BitVec 32 := Scalar.muli v35 c128_i32_22
  let v43 : BitVec 32 := v42
  let v1341 : Index := Scalar.indexCast v43
  let c384 : Index := 384#32
  ![v1341.toNat, 384]
def k0_off13 (i : grid0.Coords) (k0_t1 : Fin k0_t1_loop.trips) (c0_i32_16 : BitVec 32) : Fin 3 → Nat :=
  let c0_824 : Index := 0#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let c64_i32_23 : BitVec 32 := 64#32
  let v44 : BitVec 32 := Scalar.muli v41 c64_i32_23
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v45 : BitVec 32 := Scalar.subi v44 v4
  let v46 : BitVec 32 := v45
  let v1344 : Index := Scalar.indexCast v46
  let c384_825 : Index := 384#32
  ![0, v1344.toNat, 384]
def k0_off14 (i : grid0.Coords) (k0_t1 : Fin k0_t1_loop.trips) (c0_i32_16 : BitVec 32) (c0_i32_28 : BitVec 32) (c0_i32_25 : BitVec 32) : Fin 4 → Nat :=
  let c4 : Index := 4#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1352 : Index := Scalar.indexCast v72
  let c0_828 : Index := 0#32
  let c0_829 : Index := 0#32
  ![4, v1352.toNat, 0, 0]
def k0_off15 (i : grid0.Coords) (k0_t1 : Fin k0_t1_loop.trips) (c0_i32_16 : BitVec 32) (c0_i32_28 : BitVec 32) (c0_i32_25 : BitVec 32) : Fin 4 → Nat :=
  let c5 : Index := 5#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1393 : Index := Scalar.indexCast v72
  let c0_858 : Index := 0#32
  let c0_859 : Index := 0#32
  ![5, v1393.toNat, 0, 0]
def k0_off16 (i : grid0.Coords) (k0_t1 : Fin k0_t1_loop.trips) (c0_i32_16 : BitVec 32) (c0_i32_28 : BitVec 32) (c0_i32_25 : BitVec 32) : Fin 4 → Nat :=
  let c6 : Index := 6#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1459 : Index := Scalar.indexCast v72
  let c0_897 : Index := 0#32
  let c0_898 : Index := 0#32
  ![6, v1459.toNat, 0, 0]
def k0_off17 (i : grid0.Coords) (k0_t1 : Fin k0_t1_loop.trips) (c0_i32_16 : BitVec 32) (c0_i32_28 : BitVec 32) (c0_i32_25 : BitVec 32) : Fin 4 → Nat :=
  let c7 : Index := 7#32
  let c118_i32_21 : BitVec 32 := 118#32
  let c0_i32_20 : BitVec 32 := 0#32
  let c2_i32_18 : BitVec 32 := 2#32
  let arg1 : BitVec 32 := BitVec.ofNat 32 (i 1).val
  let c16_i32_17 : BitVec 32 := 16#32
  let v36 : BitVec 32 := Scalar.muli arg1 c16_i32_17
  let c0_i32_12 : BitVec 32 := 0#32
  let c1_i32 : BitVec 32 := 1#32
  let arg8 : BitVec 32 := Scf.iv c0_i32_12 c1_i32 k0_t1
  let c4_i32_15 : BitVec 32 := 4#32
  let v34 : BitVec 32 := Scalar.muli arg8 c4_i32_15
  let v35 : BitVec 32 := Scalar.addi v34 c0_i32_16
  let v37 : BitVec 32 := Scalar.addi v36 v35
  let v38 : BitVec 32 := Scalar.muli c2_i32_18 v37
  let c4_i32_19 : BitVec 32 := 4#32
  let v39 : BitVec 32 := Scalar.subi v38 c4_i32_19
  let v40 : BitVec 32 := Scalar.maxsi c0_i32_20 v39
  let v41 : BitVec 32 := Scalar.minsi c118_i32_21 v40
  let v52 : BitVec 32 := Scalar.addi v41 c0_i32_28
  let c120_i32 : BitVec 32 := 120#32
  let c0_i32_27 : BitVec 32 := 0#32
  let c2_i32_24 : BitVec 32 := 2#32
  let v47 : BitVec 32 := Scalar.muli c2_i32_24 v37
  let v48 : BitVec 32 := Scalar.addi v47 c0_i32_25
  let c4_i32_26 : BitVec 32 := 4#32
  let v49 : BitVec 32 := Scalar.subi v48 c4_i32_26
  let v50 : BitVec 32 := Scalar.maxsi c0_i32_27 v49
  let v51 : BitVec 32 := Scalar.minsi c120_i32 v50
  let v53 : BitVec 1 := Scalar.cmpi .sge v52 v51
  let c8_i32 : BitVec 32 := 8#32
  let v54 : BitVec 32 := Scalar.addi v51 c8_i32
  let v55 : BitVec 1 := Scalar.cmpi .slt v52 v54
  let v56 : BitVec 1 := Scalar.andi v53 v55
  let c1_i32_29 : BitVec 32 := 1#32
  let v57 : BitVec 32 := Scalar.addi v52 c1_i32_29
  let v58 : BitVec 1 := Scalar.cmpi .sge v57 v51
  let c1_i32_30 : BitVec 32 := 1#32
  let v59 : BitVec 32 := Scalar.addi v52 c1_i32_30
  let c8_i32_31 : BitVec 32 := 8#32
  let v60 : BitVec 32 := Scalar.addi v51 c8_i32_31
  let v61 : BitVec 1 := Scalar.cmpi .slt v59 v60
  let v62 : BitVec 1 := Scalar.andi v58 v61
  let v67 : BitVec 1 := Scalar.andi v56 v62
  let c15_i32 : BitVec 32 := 15#32
  let c0_i32_33 : BitVec 32 := 0#32
  let v63 : BitVec 32 := Scalar.subi v52 v48
  let c8_i32_32 : BitVec 32 := 8#32
  let v64 : BitVec 32 := Scalar.addi v63 c8_i32_32
  let v65 : BitVec 32 := Scalar.maxsi c0_i32_33 v64
  let v66 : BitVec 32 := Scalar.minsi c15_i32 v65
  let c16_i32_34 : BitVec 32 := 16#32
  let v68 : BitVec 32 := Scalar.addi c16_i32_34 v66
  let c32_i32 : BitVec 32 := 32#32
  let v69 : BitVec 32 := Scalar.addi c32_i32 v66
  let c16_i32_35 : BitVec 32 := 16#32
  let v70 : BitVec 32 := Scalar.select v62 v69 c16_i32_35
  let v71 : BitVec 32 := Scalar.select v56 v68 v70
  let v72 : BitVec 32 := Scalar.select v67 v66 v71
  let v1500 : Index := Scalar.indexCast v72
  let c0_927 : Index := 0#32
  let c0_928 : Index := 0#32
  ![7, v1500.toNat, 0, 0]
def k0_mult11 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c1_i32_1742 : BitVec 32 := 1#32
  let v2732 : BitVec 32 := Scalar.addi arg8 c1_i32_1742
  let c4_i32_1743 : BitVec 32 := 4#32
  let v2733 : BitVec 32 := Scalar.muli v2732 c4_i32_1743
  let c15_i32_1744 : BitVec 32 := 15#32
  let v2734 : BitVec 32 := Scalar.minsi v2733 c15_i32_1744
  let c128_i32_1750 : BitVec 32 := 128#32
  let v2741 : BitVec 32 := Scalar.muli v2734 c128_i32_1750
  v2741
def k0_mult12 (i : grid0.Coords) (k0_t1 : Fin k0_t1_loop.trips) : BitVec 32 :=
  let c118_i32_1749 : BitVec 32 := 118#32
  let c0_i32_1748 : BitVec 32 := 0#32
  let c2_i32_1746 : BitVec 32 := 2#32
  let arg1 : BitVec 32 := BitVec.ofNat 32 (i 1).val
  let c16_i32_1745 : BitVec 32 := 16#32
  let v2735 : BitVec 32 := Scalar.muli arg1 c16_i32_1745
  let c0_i32_12 : BitVec 32 := 0#32
  let c1_i32 : BitVec 32 := 1#32
  let arg8 : BitVec 32 := Scf.iv c0_i32_12 c1_i32 k0_t1
  let c1_i32_1742 : BitVec 32 := 1#32
  let v2732 : BitVec 32 := Scalar.addi arg8 c1_i32_1742
  let c4_i32_1743 : BitVec 32 := 4#32
  let v2733 : BitVec 32 := Scalar.muli v2732 c4_i32_1743
  let c15_i32_1744 : BitVec 32 := 15#32
  let v2734 : BitVec 32 := Scalar.minsi v2733 c15_i32_1744
  let v2736 : BitVec 32 := Scalar.addi v2735 v2734
  let v2737 : BitVec 32 := Scalar.muli c2_i32_1746 v2736
  let c4_i32_1747 : BitVec 32 := 4#32
  let v2738 : BitVec 32 := Scalar.subi v2737 c4_i32_1747
  let v2739 : BitVec 32 := Scalar.maxsi c0_i32_1748 v2738
  let v2740 : BitVec 32 := Scalar.minsi c118_i32_1749 v2739
  let c64_i32_1751 : BitVec 32 := 64#32
  let v2743 : BitVec 32 := Scalar.muli v2740 c64_i32_1751
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v2744 : BitVec 32 := Scalar.subi v2743 v4
  v2744
def k0_off18 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c1_i32_1742 : BitVec 32 := 1#32
  let v2732 : BitVec 32 := Scalar.addi arg8 c1_i32_1742
  let c4_i32_1743 : BitVec 32 := 4#32
  let v2733 : BitVec 32 := Scalar.muli v2732 c4_i32_1743
  let c15_i32_1744 : BitVec 32 := 15#32
  let v2734 : BitVec 32 := Scalar.minsi v2733 c15_i32_1744
  let c128_i32_1750 : BitVec 32 := 128#32
  let v2741 : BitVec 32 := Scalar.muli v2734 c128_i32_1750
  let v2742 : BitVec 32 := v2741
  let v2746 : Index := Scalar.indexCast v2742
  let c0_1752 : Index := 0#32
  ![v2746.toNat, 0]
def k0_off19 (i : grid0.Coords) (k0_t1 : Fin k0_t1_loop.trips) : Fin 3 → Nat :=
  let c0_1753 : Index := 0#32
  let c118_i32_1749 : BitVec 32 := 118#32
  let c0_i32_1748 : BitVec 32 := 0#32
  let c2_i32_1746 : BitVec 32 := 2#32
  let arg1 : BitVec 32 := BitVec.ofNat 32 (i 1).val
  let c16_i32_1745 : BitVec 32 := 16#32
  let v2735 : BitVec 32 := Scalar.muli arg1 c16_i32_1745
  let c0_i32_12 : BitVec 32 := 0#32
  let c1_i32 : BitVec 32 := 1#32
  let arg8 : BitVec 32 := Scf.iv c0_i32_12 c1_i32 k0_t1
  let c1_i32_1742 : BitVec 32 := 1#32
  let v2732 : BitVec 32 := Scalar.addi arg8 c1_i32_1742
  let c4_i32_1743 : BitVec 32 := 4#32
  let v2733 : BitVec 32 := Scalar.muli v2732 c4_i32_1743
  let c15_i32_1744 : BitVec 32 := 15#32
  let v2734 : BitVec 32 := Scalar.minsi v2733 c15_i32_1744
  let v2736 : BitVec 32 := Scalar.addi v2735 v2734
  let v2737 : BitVec 32 := Scalar.muli c2_i32_1746 v2736
  let c4_i32_1747 : BitVec 32 := 4#32
  let v2738 : BitVec 32 := Scalar.subi v2737 c4_i32_1747
  let v2739 : BitVec 32 := Scalar.maxsi c0_i32_1748 v2738
  let v2740 : BitVec 32 := Scalar.minsi c118_i32_1749 v2739
  let c64_i32_1751 : BitVec 32 := 64#32
  let v2743 : BitVec 32 := Scalar.muli v2740 c64_i32_1751
  let c44_i32 : BitVec 32 := 44#32
  let c0_i32 : BitVec 32 := 0#32
  let c16_i32 : BitVec 32 := 16#32
  let v0 : BitVec 32 := Scalar.muli arg1 c16_i32
  let c2_i32 : BitVec 32 := 2#32
  let v1 : BitVec 32 := Scalar.subi v0 c2_i32
  let v2 : BitVec 32 := Scalar.maxsi c0_i32 v1
  let v3 : BitVec 32 := Scalar.minsi c44_i32 v2
  let c128_i32 : BitVec 32 := 128#32
  let v4 : BitVec 32 := Scalar.muli v3 c128_i32
  let v2744 : BitVec 32 := Scalar.subi v2743 v4
  let v2745 : BitVec 32 := v2744
  let v2749 : Index := Scalar.indexCast v2745
  let c0_1754 : Index := 0#32
  ![0, v2749.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.subi v0 c2_i32
  let c0_i32 : BitVec 32 := 0#32
  let c44_i32 : BitVec 32 := 44#32
  let v2 : BitVec 32 := Scalar.maxsi c0_i32 v1
  let v3 : BitVec 32 := Scalar.minsi c44_i32 v2
  let c128_i32 : BitVec 32 := 128#32
  let v4 : BitVec 32 := Scalar.muli v3 c128_i32
  let c0_i32_0 : BitVec 32 := 0#32
  let c0_i32_1 : BitVec 32 := 0#32
  ![arg0.toNat, v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.subi v0 c2_i32
  let c0_i32 : BitVec 32 := 0#32
  let c44_i32 : BitVec 32 := 44#32
  let v2 : BitVec 32 := Scalar.maxsi c0_i32 v1
  let v3 : BitVec 32 := Scalar.minsi c44_i32 v2
  let c128_i32 : BitVec 32 := 128#32
  let v4 : BitVec 32 := Scalar.muli v3 c128_i32
  let c0_i32_0 : BitVec 32 := 0#32
  let c0_i32_1 : BitVec 32 := 0#32
  ![arg0.toNat, v4.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2560x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2560x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x48x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32768x512 : Shape := ⟨2, ![32768, 512]⟩
abbrev S8x15x31 : Shape := ⟨3, ![8, 15, 31]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S1x1x64x1x64 : Shape := ⟨5, ![1, 1, 64, 1, 64]⟩
abbrev S4x128x64x8x64 : Shape := ⟨5, ![4, 128, 64, 8, 64]⟩
abbrev S4x8x128x64x64 : Shape := ⟨5, ![4, 8, 128, 64, 64]⟩
abbrev S128x8x1 : Shape := ⟨3, ![128, 8, 1]⟩
abbrev S4x8x128x8x64x64 : Shape := ⟨6, ![4, 8, 128, 8, 64, 64]⟩
abbrev S4x8x128x64x8x64 : Shape := ⟨6, ![4, 8, 128, 64, 8, 64]⟩
abbrev S1x8x128x64x8x64 : Shape := ⟨6, ![1, 8, 128, 64, 8, 64]⟩
abbrev S4x8x128x64x512 : Shape := ⟨5, ![4, 8, 128, 64, 512]⟩
abbrev S4x8x128x64 : Shape := ⟨4, ![4, 8, 128, 64]⟩
abbrev S4x8x128x64x1 : Shape := ⟨5, ![4, 8, 128, 64, 1]⟩

abbrev nBuf : Space → Nat
  | .hbm => 151
  | .vmem => 0
  | .smem => 0
  | _ => 0

abbrev hbmTy0_0 (i : Nat) : BufTy := match i % 128 with
  | 0 => ⟨S32768x512, .f32⟩
  | 1 => ⟨S32768x512, .f32⟩
  | 2 => ⟨S32768x512, .f32⟩
  | 3 => ⟨S8x15x31, .f32⟩
  | 4 => ⟨S128, .i32⟩
  | 5 => ⟨S_, .i32⟩
  | 6 => ⟨S128, .i32⟩
  | 7 => ⟨S128, .i32⟩
  | 8 => ⟨S_, .i32⟩
  | 9 => ⟨S_, .i32⟩
  | 10 => ⟨S_, .i32⟩
  | 11 => ⟨S128, .i32⟩
  | 12 => ⟨S128, .i32⟩
  | 13 => ⟨S_, .i32⟩
  | 14 => ⟨S128, .i32⟩
  | 15 => ⟨S128, .i32⟩
  | 16 => ⟨S128x1, .i32⟩
  | 17 => ⟨S8, .i32⟩
  | 18 => ⟨S1x8, .i32⟩
  | 19 => ⟨S128x8, .i32⟩
  | 20 => ⟨S128x8, .i32⟩
  | 21 => ⟨S128x8, .i32⟩
  | 22 => ⟨S128x1, .i32⟩
  | 23 => ⟨S128x8, .i32⟩
  | 24 => ⟨S128x8, .i32⟩
  | 25 => ⟨S64, .i32⟩
  | 26 => ⟨S_, .i32⟩
  | 27 => ⟨S64, .i32⟩
  | 28 => ⟨S64, .i32⟩
  | 29 => ⟨S_, .i32⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i32⟩
  | 37 => ⟨S1x64, .i32⟩
  | 38 => ⟨S64x1, .i32⟩
  | 39 => ⟨S64x64, .i32⟩
  | 40 => ⟨S64x64, .i32⟩
  | 41 => ⟨S64x64, .i32⟩
  | 42 => ⟨S1x64, .i32⟩
  | 43 => ⟨S64x1, .i32⟩
  | 44 => ⟨S64x64, .i32⟩
  | 45 => ⟨S64x64, .i32⟩
  | 46 => ⟨S64x64, .i1⟩
  | 47 => ⟨S1x64, .i32⟩
  | 48 => ⟨S64x1, .i32⟩
  | 49 => ⟨S_, .i32⟩
  | 50 => ⟨S64x1, .i32⟩
  | 51 => ⟨S64x1, .i32⟩
  | 52 => ⟨S64x64, .i32⟩
  | 53 => ⟨S64x64, .i32⟩
  | 54 => ⟨S64x64, .i1⟩
  | 55 => ⟨S64x64, .i1⟩
  | 56 => ⟨S_, .i32⟩
  | 57 => ⟨S_, .i32⟩
  | 58 => ⟨S_, .i32⟩
  | 59 => ⟨S64x64, .i32⟩
  | 60 => ⟨S64x64, .i32⟩
  | 61 => ⟨S_, .i32⟩
  | 62 => ⟨S64x64, .i32⟩
  | 63 => ⟨S64x64, .i32⟩
  | 64 => ⟨S_, .i32⟩
  | 65 => ⟨S64x64, .i32⟩
  | 66 => ⟨S64x64, .i32⟩
  | 67 => ⟨S_, .i32⟩
  | 68 => ⟨S128x8, .i32⟩
  | 69 => ⟨S128x8, .i32⟩
  | 70 => ⟨S128x1x8x1, .i32⟩
  | 71 => ⟨S1x64x1x64, .i32⟩
  | 72 => ⟨S_, .i32⟩
  | 73 => ⟨S128x1x8x1, .i32⟩
  | 74 => ⟨S128x1x8x1, .i1⟩
  | 75 => ⟨S_, .i32⟩
  | 76 => ⟨S128x1x8x1, .i32⟩
  | 77 => ⟨S128x1x8x1, .i32⟩
  | 78 => ⟨S128x1x8x1, .i32⟩
  | 79 => ⟨S_, .i32⟩
  | 80 => ⟨S1x64x1x64, .i32⟩
  | 81 => ⟨S1x64x1x64, .i1⟩
  | 82 => ⟨S_, .i32⟩
  | 83 => ⟨S1x64x1x64, .i32⟩
  | 84 => ⟨S1x64x1x64, .i32⟩
  | 85 => ⟨S1x64x1x64, .i32⟩
  | 86 => ⟨S128x64x8x64, .i32⟩
  | 87 => ⟨S128x64x8x64, .i32⟩
  | 88 => ⟨S128x64x8x64x1, .i32⟩
  | 89 => ⟨S128x64x8x64x1, .i32⟩
  | 90 => ⟨S128x64x8x64x2, .i32⟩
  | 91 => ⟨S8x128x64x8x64, .f32⟩
  | 92 => ⟨S_, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S1x1x64x1x64, .f32⟩
  | 99 => ⟨S8x128x64x8x64, .f32⟩
  | 100 => ⟨S8x128x64x8x64, .f32⟩
  | 101 => ⟨S4x128x64x8x64, .f32⟩
  | 102 => ⟨S4x8x128x64x64, .f32⟩
  | 103 => ⟨S_, .f32⟩
  | 104 => ⟨S4x8x128x64x64, .f32⟩
  | 105 => ⟨S4x8x128x64x64, .f32⟩
  | 106 => ⟨S4x128x64x8x64, .f32⟩
  | 107 => ⟨S4x8x128x64x64, .f32⟩
  | 108 => ⟨S_, .i32⟩
  | 109 => ⟨S128x8, .i32⟩
  | 110 => ⟨S128x8, .i1⟩
  | 111 => ⟨S_, .i32⟩
  | 112 => ⟨S128x8, .i32⟩
  | 113 => ⟨S128x8, .i32⟩
  | 114 => ⟨S128x8, .i32⟩
  | 115 => ⟨S128x8x1, .i32⟩
  | 116 => ⟨S4x8x128x8x64x64, .f32⟩
  | 117 => ⟨S4x128x64x8x64, .f32⟩
  | 118 => ⟨S4x8x128x64x64, .f32⟩
  | 119 => ⟨S_, .i32⟩
  | 120 => ⟨S128x8, .i32⟩
  | 121 => ⟨S128x8, .i1⟩
  | 122 => ⟨S_, .i32⟩
  | 123 => ⟨S128x8, .i32⟩
  | 124 => ⟨S128x8, .i32⟩
  | 125 => ⟨S128x8, .i32⟩
  | 126 => ⟨S128x8x1, .i32⟩
  | 127 => ⟨S4x8x128x8x64x64, .f32⟩
  | _ => ⟨S32768x512, .f32⟩

abbrev hbmTy0_1 (i : Nat) : BufTy := match i % 128 with
  | 0 => ⟨S4x8x128x64x8x64, .f32⟩
  | 1 => ⟨S1x8x128x64x8x64, .f32⟩
  | 2 => ⟨S4x8x128x64x8x64, .f32⟩
  | 3 => ⟨S4x8x128x64x8x64, .f32⟩
  | 4 => ⟨S4x8x128x64x512, .f32⟩
  | 5 => ⟨S_, .f32⟩
  | 6 => ⟨S4x8x128x64, .f32⟩
  | 7 => ⟨S_, .f32⟩
  | 8 => ⟨S4x8x128x64, .f32⟩
  | 9 => ⟨S4x8x128x64, .f32⟩
  | 10 => ⟨S4x8x128x64x1, .f32⟩
  | 11 => ⟨S4x8x128x64x512, .f32⟩
  | 12 => ⟨S4x8x128x64x512, .f32⟩
  | 13 => ⟨S4x8x128x64x512, .f32⟩
  | 14 => ⟨S_, .f32⟩
  | 15 => ⟨S4x8x128x64, .f32⟩
  | 16 => ⟨S4x8x128x64x1, .f32⟩
  | 17 => ⟨S4x8x128x64x512, .f32⟩
  | 18 => ⟨S4x8x128x64x512, .f32⟩
  | 19 => ⟨S4x8x128x64x8x64, .f32⟩
  | 20 => ⟨S4x8x128x64x64, .f32⟩
  | 21 => ⟨S4x128x64x8x64, .f32⟩
  | 22 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst : Ref sig .tc := ⟨.hbm, 92, rfl⟩
abbrev main_cst_14 : Ref sig .tc := ⟨.hbm, 93, rfl⟩
abbrev main_call3_v0 : Ref sig .tc := ⟨.hbm, 94, rfl⟩
abbrev main_call3_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_16 : Ref sig .tc := ⟨.hbm, 108, rfl⟩
abbrev main_v69 : Ref sig .tc := ⟨.hbm, 109, rfl⟩
abbrev main_v70 : Ref sig .tc := ⟨.hbm, 110, rfl⟩
abbrev main_c_17 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_18 : Ref sig .tc := ⟨.hbm, 119, rfl⟩
abbrev main_v78 : Ref sig .tc := ⟨.hbm, 120, rfl⟩
abbrev main_v79 : Ref sig .tc := ⟨.hbm, 121, rfl⟩
abbrev main_c_19 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_22 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩

abbrev nD : Nat := 1
abbrev τ : Topo := Topo.v7x

variable {F : FTy → Type} [FloatOps F]
-- ==== Kernel2.lean ====
abbrev S32768x512 : Shape := ⟨2, ![32768, 512]⟩
abbrev S32768x1024 : Shape := ⟨2, ![32768, 1024]⟩
abbrev S2x512 : Shape := ⟨2, ![2, 512]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x512 : Shape := ⟨2, ![1, 512]⟩
abbrev S512 : Shape := ⟨1, ![512]⟩
abbrev S1x1024 : Shape := ⟨2, ![1, 1024]⟩
abbrev S1024 : Shape := ⟨1, ![1024]⟩
abbrev S1024x512 : Shape := ⟨2, ![1024, 512]⟩
abbrev S1024x1024 : Shape := ⟨2, ![1024, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S4x256x2816 : Shape := ⟨3, ![4, 256, 2816]⟩
abbrev S256x512 : Shape := ⟨2, ![256, 512]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩
abbrev S2816x1024 : Shape := ⟨2, ![2816, 1024]⟩

abbrev nBuf : Space → Nat
  | .hbm => 36
  | .vmem => 19
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S2x512, .f32⟩
  | .hbm, ⟨4, _⟩ => ⟨S2x512, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S2x1024, .f32⟩
  | .hbm, ⟨12, _⟩ => ⟨S2x1024, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S2x1024x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2x1024x2816, .bf16⟩
  | .hbm, ⟨27, _⟩ => ⟨S2x1024x2816, .bf16⟩
  | .hbm, ⟨28, _⟩ => ⟨S2x2816x1024, .bf16⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S32768x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1x512, .f32⟩
  | .local _ .vmem, ⟨7, _⟩ => ⟨S1x512, .f32⟩
  | .local _ .vmem, ⟨8, _⟩ => ⟨S1x1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S4x256x2816, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x512 : Shape := ⟨2, ![32768, 512]⟩
abbrev S32768x1024 : Shape := ⟨2, ![32768, 1024]⟩
abbrev S2x512 : Shape := ⟨2, ![2, 512]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x512 : Shape := ⟨2, ![1, 512]⟩
abbrev S512 : Shape := ⟨1, ![512]⟩
abbrev S_ : Shape := ⟨0, ![]⟩
abbrev S32768 : Shape := ⟨1, ![32768]⟩
abbrev S32768x1 : Shape := ⟨2, ![32768, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 145
  | .vmem => 0
  | .smem => 0
  | _ => 0

abbrev hbmTy0_0 (i : Nat) : BufTy := match i % 128 with
  | 0 => ⟨S32768x512, .f32⟩
  | 1 => ⟨S32768x512, .f32⟩
  | 2 => ⟨S32768x1024, .f32⟩
  | 3 => ⟨S2x512, .f32⟩
  | 4 => ⟨S2x512, .f32⟩
  | 5 => ⟨S2x1024x1024, .f32⟩
  | 6 => ⟨S2x1024, .f32⟩
  | 7 => ⟨S2x1024, .f32⟩
  | 8 => ⟨S2x1024x2816, .f32⟩
  | 9 => ⟨S2x1024x2816, .f32⟩
  | 10 => ⟨S2x2816x1024, .f32⟩
  | 11 => ⟨S2x1024, .f32⟩
  | 12 => ⟨S2x1024, .f32⟩
  | 13 => ⟨S1x512, .f32⟩
  | 14 => ⟨S512, .f32⟩
  | 15 => ⟨S32768x512, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x512, .f32⟩
  | 27 => ⟨S32768x512, .f32⟩
  | 28 => ⟨S1x512, .f32⟩
  | 29 => ⟨S32768x512, .f32⟩
  | 30 => ⟨S32768x512, .f32⟩
  | 31 => ⟨S1x512, .f32⟩
  | 32 => ⟨S512, .f32⟩
  | 33 => ⟨S32768x512, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S_, .f32⟩
  | 41 => ⟨S32768x1, .f32⟩
  | 42 => ⟨S32768x1, .f32⟩
  | 43 => ⟨S32768x1, .f32⟩
  | 44 => ⟨S32768x512, .f32⟩
  | 45 => ⟨S32768x512, .f32⟩
  | 46 => ⟨S1x512, .f32⟩
  | 47 => ⟨S32768x512, .f32⟩
  | 48 => ⟨S32768x512, .f32⟩
  | 49 => ⟨S32768x1024, .f32⟩
  | 50 => ⟨S_, .f32⟩
  | 51 => ⟨S32768x1024, .f32⟩
  | 52 => ⟨S32768x1024, .f32⟩
  | 53 => ⟨S1x1024x1024, .f32⟩
  | 54 => ⟨S1024x1024, .f32⟩
  | 55 => ⟨S32768x1024, .f32⟩
  | 56 => ⟨S32768x1024, .f32⟩
  | 57 => ⟨S1x1024, .f32⟩
  | 58 => ⟨S1024, .f32⟩
  | 59 => ⟨S1x1024, .f32⟩
  | 60 => ⟨S1024, .f32⟩
  | 61 => ⟨S_, .f32⟩
  | 62 => ⟨S32768, .f32⟩
  | 63 => ⟨S32768x1, .f32⟩
  | 64 => ⟨S_, .f32⟩
  | 65 => ⟨S32768x1, .f32⟩
  | 66 => ⟨S32768x1, .f32⟩
  | 67 => ⟨S32768x1024, .f32⟩
  | 68 => ⟨S32768x1024, .f32⟩
  | 69 => ⟨S32768x1024, .f32⟩
  | 70 => ⟨S_, .f32⟩
  | 71 => ⟨S32768, .f32⟩
  | 72 => ⟨S32768x1, .f32⟩
  | 73 => ⟨S_, .f32⟩
  | 74 => ⟨S32768x1, .f32⟩
  | 75 => ⟨S32768x1, .f32⟩
  | 76 => ⟨S_, .f32⟩
  | 77 => ⟨S32768x1, .f32⟩
  | 78 => ⟨S32768x1, .f32⟩
  | 79 => ⟨S32768x1, .f32⟩
  | 80 => ⟨S32768x1024, .f32⟩
  | 81 => ⟨S32768x1024, .f32⟩
  | 82 => ⟨S1x1024, .f32⟩
  | 83 => ⟨S32768x1024, .f32⟩
  | 84 => ⟨S32768x1024, .f32⟩
  | 85 => ⟨S1x1024, .f32⟩
  | 86 => ⟨S32768x1024, .f32⟩
  | 87 => ⟨S32768x1024, .f32⟩
  | 88 => ⟨S_, .f32⟩
  | 89 => ⟨S32768x1024, .f32⟩
  | 90 => ⟨S32768x1024, .f32⟩
  | 91 => ⟨S1x1024x2816, .f32⟩
  | 92 => ⟨S1024x2816, .f32⟩
  | 93 => ⟨S1x1024x2816, .f32⟩
  | 94 => ⟨S1024x2816, .f32⟩
  | 95 => ⟨S1x2816x1024, .f32⟩
  | 96 => ⟨S2816x1024, .f32⟩
  | 97 => ⟨S32768x2816, .f32⟩
  | 98 => ⟨S32768x2816, .f32⟩
  | 99 => ⟨S32768x2816, .f32⟩
  | 100 => ⟨S_, .f32⟩
  | 101 => ⟨S32768x2816, .f32⟩
  | 102 => ⟨S32768x2816, .f32⟩
  | 103 => ⟨S_, .f32⟩
  | 104 => ⟨S32768x2816, .f32⟩
  | 105 => ⟨S32768x2816, .f32⟩
  | 106 => ⟨S32768x2816, .f32⟩
  | 107 => ⟨S32768x2816, .f32⟩
  | 108 => ⟨S32768x2816, .f32⟩
  | 109 => ⟨S32768x1024, .f32⟩
  | 110 => ⟨S_, .f32⟩
  | 111 => ⟨S32768x1024, .f32⟩
  | 112 => ⟨S32768x1024, .f32⟩
  | 113 => ⟨S32768x1024, .f32⟩
  | 114 => ⟨S1x1024, .f32⟩
  | 115 => ⟨S1024, .f32⟩
  | 116 => ⟨S1x1024, .f32⟩
  | 117 => ⟨S1024, .f32⟩
  | 118 => ⟨S_, .f32⟩
  | 119 => ⟨S32768, .f32⟩
  | 120 => ⟨S32768x1, .f32⟩
  | 121 => ⟨S_, .f32⟩
  | 122 => ⟨S32768x1, .f32⟩
  | 123 => ⟨S32768x1, .f32⟩
  | 124 => ⟨S32768x1024, .f32⟩
  | 125 => ⟨S32768x1024, .f32⟩
  | 126 => ⟨S32768x1024, .f32⟩
  | 127 => ⟨S_, .f32⟩
  | _ => ⟨S32768x512, .f32⟩

abbrev hbmTy0_1 (i : Nat) : BufTy := match i % 128 with
  | 0 => ⟨S32768, .f32⟩
  | 1 => ⟨S32768x1, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S32768x1024, .f32⟩
  | 10 => ⟨S32768x1024, .f32⟩
  | 11 => ⟨S1x1024, .f32⟩
  | 12 => ⟨S32768x1024, .f32⟩
  | 13 => ⟨S32768x1024, .f32⟩
  | 14 => ⟨S1x1024, .f32⟩
  | 15 => ⟨S32768x1024, .f32⟩
  | 16 => ⟨S32768x1024, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_15 : Ref sig .tc := ⟨.hbm, 127, rfl⟩
abbrev main_v90 : Ref sig .tc := ⟨.hbm, 128, rfl⟩
abbrev main_v91 : Ref sig .tc := ⟨.hbm, 129, rfl⟩
abbrev main_cst_16 : Ref sig .tc := ⟨.hbm, 130, rfl⟩
abbrev main_v92 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩

abbrev nD : Nat := 1
abbrev τ : Topo := Topo.v7x

variable {F : FTy → Type} [FloatOps F]
-- ==== Kernel3.lean ====
abbrev S32768x1024 : Shape := ⟨2, ![32768, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S32768x512 : Shape := ⟨2, ![32768, 512]⟩
abbrev S4x32768x128 : Shape := ⟨3, ![4, 32768, 128]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1x1024x2048 : Shape := ⟨3, ![1, 1024, 2048]⟩
abbrev S1024x512 : Shape := ⟨2, ![1024, 512]⟩
abbrev S4x1024x128 : Shape := ⟨3, ![4, 1024, 128]⟩
abbrev S4x256x2816 : Shape := ⟨3, ![4, 256, 2816]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩
abbrev S1x1024x512 : Shape := ⟨3, ![1, 1024, 512]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 22
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S2x1024, .f32⟩
  | .hbm, ⟨5, _⟩ => ⟨S2x1024, .f32⟩
  | .hbm, ⟨6, _⟩ => ⟨S2x1024x2048, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2x1024x2048, .bf16⟩
  | .hbm, ⟨17, _⟩ => ⟨S32768x1024, .f32⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S4x32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x2048, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S4x1024x128, .f32⟩
  | .local _ .vmem, ⟨17, _⟩ => ⟨S4x1024x128, .f32⟩
  | .local _ .vmem, ⟨18, _⟩ => ⟨S4x256x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S32768x1024 : Shape := ⟨2, ![32768, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S2x1024x2048 : Shape := ⟨3, ![2, 1024, 2048]⟩
abbrev S_ : Shape := ⟨0, ![]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩
abbrev S1x1024x2048 : Shape := ⟨3, ![1, 1024, 2048]⟩
abbrev S1024x2048 : Shape := ⟨2, ![1024, 2048]⟩
abbrev S32768x2048 : Shape := ⟨2, ![32768, 2048]⟩
abbrev S32768x512 : Shape := ⟨2, ![32768, 512]⟩
abbrev S32768x4x128 : Shape := ⟨3, ![32768, 4, 128]⟩
abbrev S4x32768x128 : Shape := ⟨3, ![4, 32768, 128]⟩

abbrev nBuf : Space → Nat
  | .hbm => 82
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S2x1024, .f32⟩
  | .hbm, ⟨5, _⟩ => ⟨S2x1024, .f32⟩
  | .hbm, ⟨6, _⟩ => ⟨S2x1024x2048, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S1x1024x2816, .f32⟩
  | .hbm, ⟨11, _⟩ => ⟨S1024x2816, .f32⟩
  | .hbm, ⟨12, _⟩ => ⟨S1x1024x2816, .f32⟩
  | .hbm, ⟨13, _⟩ => ⟨S1024x2816, .f32⟩
  | .hbm, ⟨14, _⟩ => ⟨S1x2816x1024, .f32⟩
  | .hbm, ⟨15, _⟩ => ⟨S2816x1024, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S_, .f32⟩
  | .hbm, ⟨20, _⟩ => ⟨S32768x2816, .f32⟩
  | .hbm, ⟨21, _⟩ => ⟨S32768x2816, .f32⟩
  | .hbm, ⟨22, _⟩ => ⟨S_, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S1x1024, .f32⟩
  | .hbm, ⟨62, _⟩ => ⟨S32768x1024, .f32⟩
  | .hbm, ⟨63, _⟩ => ⟨S32768x1024, .f32⟩
  | .hbm, ⟨64, _⟩ => ⟨S1x1024x2048, .f32⟩
  | .hbm, ⟨65, _⟩ => ⟨S1024x2048, .f32⟩
  | .hbm, ⟨66, _⟩ => ⟨S32768x2048, .f32⟩
  | .hbm, ⟨67, _⟩ => ⟨S32768x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S32768x512, .f32⟩
  | .hbm, ⟨76, _⟩ => ⟨S32768x512, .f32⟩
  | .hbm, ⟨77, _⟩ => ⟨S32768x4x128, .f32⟩
  | .hbm, ⟨78, _⟩ => ⟨S32768x512, .bf16⟩
  | .hbm, ⟨79, _⟩ => ⟨S32768x512, .bf16⟩
  | .hbm, ⟨80, _⟩ => ⟨S32768x512, .bf16⟩
  | .hbm, ⟨81, _⟩ => ⟨S4x32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Proof.Unit.lean ====
/-
  One block of the neighbourhood attention kernel as plain functions of the block's operands: where in its operands
  each step of the body reads (closed forms of the body's word arithmetic), the scores of one step, its softmax
  against the bias tiles and the weighted values, and the whole output block put together from the steps. Stated for
  every float interpretation.
-/
module

public import proofs.«01_k».proof.Proof.Gen.KernelIdeal.Frame.Runs
public import Idealize.ShloMosaic.Lib.ValueIdxCore

@[expose] public section

set_option maxRecDepth 16384

noncomputable section

namespace Cert.KernelIdeal.Gen

open Idealize.ShloMosaic Idealize.ShloMosaic.TcCoe Idealize.SL.Sem Idealize.ShloMosaic.ValueIdx

variable {F : FTy → Type} [FloatOps F]

/-! ## Where a step reads -/

/-- The first row of the ten-row band that row pair `P` of an image looks at. -/
def bandRow (P : ℕ) : ℕ := min (2 * P - 4) 118
/-- The place, in the key rows staged for the block of 16 row pairs `n`, of the band of its pair `p`. -/
def kvOff (n p : ℕ) : ℕ := 64 * bandRow (16 * n + p) - 128 * min (16 * n - 2) 44
/-- The bias table of tile `t` of the band, for row `a` of pair `P`: `r` is the image row, `kr` the first of the
    tile's two key rows, `w` the first row of the window of `r`. -/
def tileIx (P a t : ℕ) : ℕ :=
  let r := 2 * P + a
  let kr := bandRow P + 2 * t
  let w := min (r - 4) 120
  let e := min (kr + 8 - r) 15
  if w ≤ kr ∧ kr < w + 8 then (if w ≤ kr + 1 ∧ kr + 1 < w + 8 then e else 16 + e)
  else (if w ≤ kr + 1 ∧ kr + 1 < w + 8 then 32 + e else 16)

theorem kvOff_lt (n : Fin 4) (p : Fin 16) : kvOff n p + 640 ≤ 2560 := by revert n p; decide +kernel
theorem tileIx_lt (n : Fin 4) (p : Fin 16) (a : Fin 2) (t : Fin 5) : tileIx (16 * n + p) a t < 48 := by
  revert n p a t; decide +kernel

/-! ## The closed forms of the body's offsets -/

theorem off7_eq : ∀ (k : Fin k0_t1_loop.trips) (j : Fin 4), k0_off7 k (BitVec.ofNat 32 j) = ![128 * (4 * k.val + j.val), 128 * 0] := by decide +kernel
theorem off2_eq : ∀ (k : Fin k0_t1_loop.trips) (j : Fin 4), k0_off2 k (BitVec.ofNat 32 j) = ![128 * (4 * k.val + j.val), 128 * 1] := by decide +kernel
theorem off8_eq : ∀ (k : Fin k0_t1_loop.trips) (j : Fin 4), k0_off8 k (BitVec.ofNat 32 j) = ![128 * (4 * k.val + j.val), 128 * 2] := by decide +kernel
theorem off12_eq : ∀ (k : Fin k0_t1_loop.trips) (j : Fin 4), k0_off12 k (BitVec.ofNat 32 j) = ![128 * (4 * k.val + j.val), 128 * 3] := by decide +kernel

theorem off6_eq : ∀ (i : grid0.Coords) (k : Fin k0_t1_loop.trips) (j : Fin 4), k0_off6 i k (BitVec.ofNat 32 j) = ![0, kvOff (i 1).val (4 * k.val + j.val), 128 * 0] := by decide +kernel
theorem off3_eq (i : grid0.Coords) (k : Fin k0_t1_loop.trips) (j : Fin 4) : k0_off3 i k (BitVec.ofNat 32 j) = ![0, kvOff (i 1).val (4 * k.val + j.val), 128 * 1] := by
  rw [show k0_off3 i k (BitVec.ofNat 32 j) = ![0, k0_off6 i k (BitVec.ofNat 32 j) 1, 128] from rfl, off6_eq]; rfl
theorem off9_eq (i : grid0.Coords) (k : Fin k0_t1_loop.trips) (j : Fin 4) : k0_off9 i k (BitVec.ofNat 32 j) = ![0, kvOff (i 1).val (4 * k.val + j.val), 128 * 2] := by
  rw [show k0_off9 i k (BitVec.ofNat 32 j) = ![0, k0_off6 i k (BitVec.ofNat 32 j) 1, 256] from rfl, off6_eq]; rfl
theorem off13_eq (i : grid0.Coords) (k : Fin k0_t1_loop.trips) (j : Fin 4) : k0_off13 i k (BitVec.ofNat 32 j) = ![0, kvOff (i 1).val (4 * k.val + j.val), 128 * 3] := by
  rw [show k0_off13 i k (BitVec.ofNat 32 j) = ![0, k0_off6 i k (BitVec.ofNat 32 j) 1, 384] from rfl, off6_eq]; rfl

theorem off1_eq : ∀ (i : grid0.Coords), k0_off1 i = ![0, kvOff (i 1).val 0, 128 * 0] := by decide +kernel
theorem off18_eq : ∀ (k : Fin k0_t1_loop.trips), k0_off18 k = ![128 * (min (4 * k.val + 4) 15), 128 * 0] := by decide +kernel
theorem off19_eq : ∀ (i : grid0.Coords) (k : Fin k0_t1_loop.trips), k0_off19 i k = ![0, kvOff (i 1).val (min (4 * k.val + 4) 15), 128 * 0] := by decide +kernel

/-- The offset of a bias tile of head 0, from which those of the other heads differ in the head alone. -/
theorem off4_eq : ∀ (i : grid0.Coords) (k : Fin k0_t1_loop.trips) (j : Fin 4) (t : Fin 5) (a : Fin 2),
    k0_off4 i k (BitVec.ofNat 32 j) (BitVec.ofNat 32 (2 * t)) (BitVec.ofNat 32 a)
      = ![0, tileIx (16 * (i 1).val + (4 * k.val + j.val)) a t, 0, 0] := by decide +kernel

/-- The offset of the bias tile of head `h`: the body's own word arithmetic. -/
def offT (h : Fin 8) (i : grid0.Coords) (k : Fin k0_t1_loop.trips) (j t a : BitVec 32) : Fin 4 → ℕ :=
  match h with
  | 0 => k0_off4 i k j t a
  | 1 => k0_off5 i k j t a
  | 2 => k0_off10 i k j t a
  | 3 => k0_off11 i k j t a
  | 4 => k0_off14 i k j t a
  | 5 => k0_off15 i k j t a
  | 6 => k0_off16 i k j t a
  | 7 => k0_off17 i k j t a

theorem offT_eq_off4 (h : Fin 8) (i : grid0.Coords) (k : Fin k0_t1_loop.trips) (j t a : BitVec 32) :
    offT h i k j t a = ![h.val, k0_off4 i k j t a 1, 0, 0] := by
  match h with
  | 0 => rfl
  | 1 => rfl
  | 2 => rfl
  | 3 => rfl
  | 4 => rfl
  | 5 => rfl
  | 6 => rfl
  | 7 => rfl

theorem offT_eq (h : Fin 8) (i : grid0.Coords) (k : Fin k0_t1_loop.trips) (j : Fin 4) (t : Fin 5) (a : Fin 2) :
    offT h i k (BitVec.ofNat 32 j) (BitVec.ofNat 32 (2 * t)) (BitVec.ofNat 32 a)
      = ![h.val, tileIx (16 * (i 1).val + (4 * k.val + j.val)) a t, 0, 0] := by
  rw [offT_eq_off4, off4_eq]; rfl

/-! ## What a step reads, as functions of the block's operands -/

/-- The queries of row pair `p` of the block, heads `2g` and `2g + 1`. -/
def qBlk (x0 : Vec F S2048x512 .bf16) (p : Fin 16) (g : Fin 4) : Vec F S128x128 .bf16 := fun y =>
  x0 (ix2 ⟨128 * p.val + (y 0).val, by have := idx2_lt0 y; omega⟩ ⟨128 * g.val + (y 1).val, by have := idx2_lt1 y; omega⟩)
/-- The band of keys (or values) of row pair `p`, heads `2g` and `2g + 1`. -/
def kvBlk (x1 : Vec F S1x2560x512 .bf16) (n : Fin 4) (p : Fin 16) (g : Fin 4) : Vec F S1x640x128 .bf16 := fun y =>
  x1 (ix3 0 ⟨kvOff n p + (y 1).val, by have := kvOff_lt n p; have h : (y 1).val < 640 := (y 1).isLt; omega⟩
    ⟨128 * g.val + (y 2).val, by have h : (y 2).val < 128 := (y 2).isLt; omega⟩)
/-- Bias tile `t` of head `h` for row `a` of row pair `p`. -/
def tzBlk (x3 : Vec F S8x48x64x128 .f32) (n : Fin 4) (p : Fin 16) (h : Fin 8) (a : Fin 2) (t : Fin 5) :
    Vec F S1x1x64x128 .f32 := fun y =>
  x3 (ix4 h ⟨tileIx (16 * n + p) a t, tileIx_lt n p a t⟩ (y 2) (y 3))

/-! ## What a step computes -/

/-- The scores of a row pair against its band, both heads of the pair of heads. -/
def scoresOf (q : Vec F S128x128 .bf16) (k : Vec F S1x640x128 .bf16) : FVec F S256x640 .f32 := k0_pay1 k0_pay141 q k

/-- The bias of one row of the pair over the band: its five tiles side by side. -/
def biasRow (T : Fin 5 → Vec F S1x1x64x128 .f32) : FVec F S64x640 .f32 :=
  concatenate S64x640 1
    [⟨S64x128, shapeCast S64x128 (T 0) shapeCasts_S1x1x64x128_S64x128⟩, ⟨S64x128, shapeCast S64x128 (T 1) shapeCasts_S1x1x64x128_S64x128⟩,
     ⟨S64x128, shapeCast S64x128 (T 2) shapeCasts_S1x1x64x128_S64x128⟩, ⟨S64x128, shapeCast S64x128 (T 3) shapeCasts_S1x1x64x128_S64x128⟩,
     ⟨S64x128, shapeCast S64x128 (T 4) shapeCasts_S1x1x64x128_S64x128⟩]
    concatenates_S64x128_S64x128_S64x128_S64x128_S64x128_S64x640_d1

/-- The scores of one head with the bias added. -/
def biased (s : FVec F S128x640 .f32) (T : Fin 2 → Fin 5 → Vec F S1x1x64x128 .f32) : FVec F S128x640 .f32 :=
  addf s (concatenate S128x640 0 [⟨S64x640, biasRow (T 0)⟩, ⟨S64x640, biasRow (T 1)⟩] concatenates_S64x640_S64x640_S128x640_d0)

/-- The powers of two of biased scores less their row maximum. -/
def powers (x : FVec F S128x640 .f32) : FVec F S128x640 .bf16 :=
  truncf .bf16 (exp2 (subf x (broadcastTo S128x640 (shapeCast S128x1
    (multiReduction .maximumf [1] S128 x 0xFF800000#32 reduces_S128x640_S128 (.inl rfl) rfl) shapeCasts_S128_S128x1)
    broadcasts_S128x1_S128x640))) bitsLt_bf16_f32

/-- The powers against the values beside a block of ones: the weighted sums in the first 128 lanes, the row sums in
    the last 128. -/
def sums (p0 p1 : FVec F S128x640 .bf16) (v : Vec F S1x640x128 .bf16) : FVec F S256x256 .f32 :=
  matmul dot_S256x640_S640x256_S256x256_1_0_0_1_n_n none
    (concatenate S256x640 0 [⟨S128x640, p0⟩, ⟨S128x640, p1⟩] concatenates_S128x640_S128x640_S256x640_d0)
    (concatenate S640x256 1 [⟨S640x128, shapeCast S640x128 v shapeCasts_S1x640x128_S640x128⟩, ⟨S640x128, k0_pay142⟩] concatenates_S640x128_S640x128_S640x256_d1)
    (constant S256x256 .f32 0x00000000#32)

/-- The weighted sums over the row sums, each lane from its own head. -/
def quotient (w : FVec F S256x256 .f32) : FVec F S128x128 .f32 :=
  select k0_pay141
    (extractStridedSlice S128x128 ![0, 0] (divf (extractStridedSlice S256x128 ![0, 0] w slices_S256x256_o0_0_S256x128)
      (extractStridedSlice S256x128 ![0, 128] w slices_S256x256_o0_128_S256x128)) slices_S256x128_o0_0_S128x128)
    (extractStridedSlice S128x128 ![128, 0] (divf (extractStridedSlice S256x128 ![0, 0] w slices_S256x256_o0_0_S256x128)
      (extractStridedSlice S256x128 ![0, 128] w slices_S256x256_o0_128_S256x128)) slices_S256x128_o128_0_S128x128)

/-- One step after its scores. -/
def finish (s : FVec F S256x640 .f32) (T : Fin 2 → Fin 2 → Fin 5 → Vec F S1x1x64x128 .f32) (v : Vec F S1x640x128 .bf16) :
    FVec F S128x128 .f32 :=
  quotient (sums (powers (biased (extractStridedSlice S128x640 ![0, 0] s slices_S256x640_o0_0_S128x640) (T 0)))
    (powers (biased (extractStridedSlice S128x640 ![128, 0] s slices_S256x640_o128_0_S128x640) (T 1))) v)

/-- The output of row pair `p` of block `n` for heads `2g` and `2g + 1`. -/
def unitOut (n : Fin 4) (x0 : Vec F S2048x512 .bf16) (x1 x2 : Vec F S1x2560x512 .bf16) (x3 : Vec F S8x48x64x128 .f32)
    (p : Fin 16) (g : Fin 4) : FVec F S128x128 .f32 :=
  finish (scoresOf (qBlk x0 p g) (kvBlk x1 n p g))
    (fun e a t => tzBlk x3 n p ⟨2 * g.val + e.val, by omega⟩ a t) (kvBlk x2 n p g)

/-- The whole output block. -/
def blockOut (n : Fin 4) (x0 : Vec F S2048x512 .bf16) (x1 x2 : Vec F S1x2560x512 .bf16) (x3 : Vec F S8x48x64x128 .f32) :
    Vec F S2048x512 .f32 := fun y =>
  unitOut n x0 x1 x2 x3 ⟨(y 0).val / 128, by have := idx2_lt0 y; omega⟩ ⟨(y 1).val / 128, by have := idx2_lt1 y; omega⟩
    (ix2 ⟨(y 0).val % 128, Nat.mod_lt _ (by decide)⟩ ⟨(y 1).val % 128, Nat.mod_lt _ (by decide)⟩)

end Cert.KernelIdeal.Gen

end
-- ==== Proof.Trip.lean ====
/-
  One trip of the body's loop: the sixteen steps it stores are the steps of `blockOut` at their places, whatever is in
  the output block before; and it leaves in the scratch buffer the scores of the next trip's first step.
-/
module

public import proofs.«01_k».proof.Proof.Unit
public import Idealize.ShloMosaic.Lib.Pipeline.Value
public import Idealize.ShloMosaic.Lib.Pipeline.ValueKit

@[expose] public section

set_option maxRecDepth 16384

noncomputable section

namespace Cert.KernelIdeal.Gen

open Idealize.ShloMosaic Idealize.ShloMosaic.TcCoe Idealize.SL.Sem Idealize.ShloMosaic.ValueIdx

variable {F : FTy → Type} [FloatOps F]

/-! ## Loads at the closed-form offsets -/

section Loads

variable {arg2 : Memref sig .tc .vmem S2048x512 .bf16} {arg3 : Memref sig .tc .vmem S1x2560x512 .bf16}
  {arg5 : Memref sig .tc .vmem S8x48x64x128 .f32}

theorem read_q (X : BufTy.Contents (Elt F) arg2.view.ty) (p : Fin 16) (g : Fin 4) {off : Fin 2 → ℕ} (inb)
    (h : off = ![128 * p.val, 128 * g.val]) :
    View.readAt (Elt F) arg2.view (Rect.unit (s := S2048x512) off S128x128.size inb).toLoadRect X
      = qBlk (arg2.view.read (Elt F) X) p g := by
  subst h
  rw [View.readAt_eq_ld]
  funext y
  exact View.ld_unit_apply_of _ _ _ _ y _ (fun a => match a with | ⟨0, _⟩ => rfl | ⟨1, _⟩ => rfl)

theorem read_kv (X : BufTy.Contents (Elt F) arg3.view.ty) (n : Fin 4) (p : Fin 16) (g : Fin 4) {off : Fin 3 → ℕ} (inb)
    (h : off = ![0, kvOff n p, 128 * g.val]) :
    View.readAt (Elt F) arg3.view (Rect.unit (s := S1x2560x512) off S1x640x128.size inb).toLoadRect X
      = kvBlk (arg3.view.read (Elt F) X) n p g := by
  subst h
  rw [View.readAt_eq_ld]
  funext y
  exact View.ld_unit_apply_of _ _ _ _ y _ (fun a => match a with
    | ⟨0, _⟩ => by have h : (y 0).val < 1 := (y 0).isLt; show 0 = 0 + (y 0).val; omega
    | ⟨1, _⟩ => rfl | ⟨2, _⟩ => rfl)

theorem read_tz (X : BufTy.Contents (Elt F) arg5.view.ty) (n : Fin 4) (p : Fin 16) (h : Fin 8) (a : Fin 2) (t : Fin 5)
    {off : Fin 4 → ℕ} (inb) (ho : off = ![h.val, tileIx (16 * n + p) a t, 0, 0]) :
    View.readAt (Elt F) arg5.view (Rect.unit (s := S8x48x64x128) off S1x1x64x128.size inb).toLoadRect X
      = tzBlk (arg5.view.read (Elt F) X) n p h a t := by
  subst ho
  rw [View.readAt_eq_ld]
  funext y
  exact View.ld_unit_apply_of _ _ _ _ y _ (fun b => match b with
    | ⟨0, _⟩ => by have hy : (y 0).val < 1 := (y 0).isLt; show h.val = h.val + (y 0).val; omega
    | ⟨1, _⟩ => by have hy : (y 1).val < 1 := (y 1).isLt; show _ = _ + (y 1).val; simp only [Nat.lt_one_iff] at hy; rw [hy]; rfl
    | ⟨2, _⟩ => (Nat.zero_add _).symm
    | ⟨3, _⟩ => (Nat.zero_add _).symm)

end Loads

/-- A stored step agrees with the whole block at its place. -/
theorem piece_ok (n : Fin 4) (x0 : Vec F S2048x512 .bf16) (x1 x2 : Vec F S1x2560x512 .bf16) (x3 : Vec F S8x48x64x128 .f32)
    (p : Fin 16) (g : Fin 4) {off : Fin 2 → ℕ} (inb) (pay : FVec F S128x128 .f32)
    (h : off = ![128 * p.val, 128 * g.val]) (hp : pay = unitOut n x0 x1 x2 x3 p g) (x : S128x128.Idx) :
    pay x = blockOut n x0 x1 x2 x3 ((Rect.unit (s := S2048x512) off S128x128.size inb).emb x) := by
  subst h hp
  have h0 : (((Rect.unit (s := S2048x512) ![128 * p.val, 128 * g.val] S128x128.size inb).emb x 0 : Fin _) : ℕ) = 128 * p.val + (x 0).val :=
    ValueKit.rect_emb_unit_val _ _ inb x 0
  have h1 : (((Rect.unit (s := S2048x512) ![128 * p.val, 128 * g.val] S128x128.size inb).emb x 1 : Fin _) : ℕ) = 128 * g.val + (x 1).val :=
    ValueKit.rect_emb_unit_val _ _ inb x 1
  have l0 : (x 0).val < 128 := (x 0).isLt
  have l1 : (x 1).val < 128 := (x 1).isLt
  unfold blockOut
  congr 1
  · apply Fin.ext; show p.val = _ / 128; rw [h0]; omega
  · apply Fin.ext; show g.val = _ / 128; rw [h1]; omega
  · funext b
    match b with
    | ⟨0, _⟩ => apply Fin.ext; show (x 0).val = _ % 128; rw [h0]; omega
    | ⟨1, _⟩ => apply Fin.ext; show (x 1).val = _ % 128; rw [h1]; omega

/-- A step on what the body reads is the step on the operands. -/
theorem step_eq (arg2 : Memref sig .tc .vmem S2048x512 .bf16) (arg3 arg4 : Memref sig .tc .vmem S1x2560x512 .bf16)
    (arg5 : Memref sig .tc .vmem S8x48x64x128 .f32) (X2 : BufTy.Contents (Elt F) arg2.view.ty) (X3 : BufTy.Contents (Elt F) arg3.view.ty)
    (X4 : BufTy.Contents (Elt F) arg4.view.ty) (X5 : BufTy.Contents (Elt F) arg5.view.ty)
    (i : grid0.Coords) (k : Fin k0_t1_loop.trips) (j : Fin 4) (p : Fin 16) (hp : p.val = 4 * k.val + j.val) (g : Fin 4)
    {oq : Fin 2 → ℕ} {ok : Fin 3 → ℕ} (iq ik)
    (hq : oq = ![128 * (4 * k.val + j.val), 128 * g.val]) (hk : ok = ![0, kvOff (i 1).val (4 * k.val + j.val), 128 * g.val]) :
    finish (scoresOf (View.readAt (Elt F) arg2.view (Rect.unit (s := S2048x512) oq S128x128.size iq).toLoadRect X2)
        (View.readAt (Elt F) arg3.view (Rect.unit (s := S1x2560x512) ok S1x640x128.size ik).toLoadRect X3))
      (fun e a t => View.readAt (Elt F) arg5.view (Rect.unit (s := S8x48x64x128)
        (offT ⟨2 * g.val + e.val, by omega⟩ i k (BitVec.ofNat 32 j) (BitVec.ofNat 32 (2 * t)) (BitVec.ofNat 32 a)) S1x1x64x128.size
        (by rw [offT_eq, ← hp]
            exact fun b => match b with
              | ⟨0, _⟩ => by show 2 * g.val + e.val + 1 ≤ 8; omega
              | ⟨1, _⟩ => tileIx_lt (i 1) p a t
              | ⟨2, _⟩ => le_refl 64 | ⟨3, _⟩ => le_refl 128)).toLoadRect X5)
      (View.readAt (Elt F) arg4.view (Rect.unit (s := S1x2560x512) ok S1x640x128.size ik).toLoadRect X4)
    = unitOut (i 1) (arg2.view.read (Elt F) X2) (arg3.view.read (Elt F) X3) (arg4.view.read (Elt F) X4) (arg5.view.read (Elt F) X5) p g := by
  unfold unitOut
  rw [← hp] at hq hk
  rw [read_q X2 p g iq hq, read_kv X3 (i 1) p g ik hk, read_kv X4 (i 1) p g ik hk]
  congr 1
  funext e a t
  exact read_tz X5 (i 1) p _ a t _ (by rw [offT_eq, ← hp])

section Trip

variable (c : Dev nD) (i : grid0.Coords) (arg2 : Memref sig .tc .vmem S2048x512 .bf16) (harg2 : arg2.IsWhole)
  (arg3 : Memref sig .tc .vmem S1x2560x512 .bf16) (harg3 : arg3.IsWhole) (arg4 : Memref sig .tc .vmem S1x2560x512 .bf16) (harg4 : arg4.IsWhole)
  (arg5 : Memref sig .tc .vmem S8x48x64x128 .f32) (harg5 : arg5.IsWhole) (arg6 : Memref sig .tc .vmem S2048x512 .f32) (harg6 : arg6.IsWhole)
  (arg7 : Memref sig .tc .vmem S256x640 .f32) (harg7 : arg7.IsWhole) (arg1 v4 c0 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)

/-- The scores of the first step of row pair `p`. -/
def firstScores (n : Fin 4) (x0 : Vec F S2048x512 .bf16) (x1 : Vec F S1x2560x512 .bf16) (p : Fin 16) : FVec F S256x640 .f32 :=
  scoresOf (qBlk x0 p 0) (kvBlk x1 n p 0)

/-- The stores of one trip into the output block are steps of `blockOut`. -/
theorem trip_out (k : Fin k0_t1_loop.trips) (f6 : BufTy.Contents (Elt F) arg6.view.ty) (f7 : BufTy.Contents (Elt F) arg7.view.ty)
    (p0 : Fin 16) (hp0 : p0.val = 4 * k.val)
    (h7 : arg7.view.read (Elt F) f7 = firstScores (i 1) (arg2.view.read (Elt F) X2) (arg3.view.read (Elt F) X3) p0) :
    ∀ q ∈ (trip_k0_t1 (F := F) Variants.none c none i arg2 harg2 arg3 harg3 arg4 harg4 arg5 harg5 arg6 harg6 arg7 harg7 arg1 v4
        k0_pay141 k0_pay142 c0 X2 X3 X4 X5 k).1 f6 f7, ∀ x : q.1.shape.Idx,
      q.2 x = blockOut (i 1) (arg2.view.read (Elt F) X2) (arg3.view.read (Elt F) X3) (arg4.view.read (Elt F) X4)
        (arg5.view.read (Elt F) X5) (q.1.emb x) := by
  have hk : k.val < 4 := Nat.lt_of_lt_of_le k.isLt k0_t1_abs.2.1
  have hs : ∀ j : Fin 4, 4 * k.val + j.val < 16 := fun j => by omega
  unfold trip_k0_t1
  dsimp only
  simp only [List.forall_mem_cons]
  refine ⟨?_, ?_, ?_, ?_, ?_, ?_, ?_, ?_, ?_, ?_, ?_, ?_, ?_, ?_, ?_, ?_, fun _ h => absurd h List.not_mem_nil⟩
  · exact piece_ok (i 1) _ _ _ _ ⟨_, hs 3⟩ 3 _ _ (off12_eq k 3) (step_eq arg2 arg3 arg4 arg5 X2 X3 X4 X5 i k 3 ⟨_, hs 3⟩ rfl 3 _ _ (off12_eq k 3) (off13_eq i k 3))
  · exact piece_ok (i 1) _ _ _ _ ⟨_, hs 3⟩ 2 _ _ (off8_eq k 3) (step_eq arg2 arg3 arg4 arg5 X2 X3 X4 X5 i k 3 ⟨_, hs 3⟩ rfl 2 _ _ (off8_eq k 3) (off9_eq i k 3))
  · exact piece_ok (i 1) _ _ _ _ ⟨_, hs 3⟩ 1 _ _ (off2_eq k 3) (step_eq arg2 arg3 arg4 arg5 X2 X3 X4 X5 i k 3 ⟨_, hs 3⟩ rfl 1 _ _ (off2_eq k 3) (off3_eq i k 3))
  · exact piece_ok (i 1) _ _ _ _ ⟨_, hs 3⟩ 0 _ _ (off7_eq k 3) (step_eq arg2 arg3 arg4 arg5 X2 X3 X4 X5 i k 3 ⟨_, hs 3⟩ rfl 0 _ _ (off7_eq k 3) (off6_eq i k 3))
  · exact piece_ok (i 1) _ _ _ _ ⟨_, hs 2⟩ 3 _ _ (off12_eq k 2) (step_eq arg2 arg3 arg4 arg5 X2 X3 X4 X5 i k 2 ⟨_, hs 2⟩ rfl 3 _ _ (off12_eq k 2) (off13_eq i k 2))
  · exact piece_ok (i 1) _ _ _ _ ⟨_, hs 2⟩ 2 _ _ (off8_eq k 2) (step_eq arg2 arg3 arg4 arg5 X2 X3 X4 X5 i k 2 ⟨_, hs 2⟩ rfl 2 _ _ (off8_eq k 2) (off9_eq i k 2))
  · exact piece_ok (i 1) _ _ _ _ ⟨_, hs 2⟩ 1 _ _ (off2_eq k 2) (step_eq arg2 arg3 arg4 arg5 X2 X3 X4 X5 i k 2 ⟨_, hs 2⟩ rfl 1 _ _ (off2_eq k 2) (off3_eq i k 2))
  · exact piece_ok (i 1) _ _ _ _ ⟨_, hs 2⟩ 0 _ _ (off7_eq k 2) (step_eq arg2 arg3 arg4 arg5 X2 X3 X4 X5 i k 2 ⟨_, hs 2⟩ rfl 0 _ _ (off7_eq k 2) (off6_eq i k 2))
  · exact piece_ok (i 1) _ _ _ _ ⟨_, hs 1⟩ 3 _ _ (off12_eq k 1) (step_eq arg2 arg3 arg4 arg5 X2 X3 X4 X5 i k 1 ⟨_, hs 1⟩ rfl 3 _ _ (off12_eq k 1) (off13_eq i k 1))
  · exact piece_ok (i 1) _ _ _ _ ⟨_, hs 1⟩ 2 _ _ (off8_eq k 1) (step_eq arg2 arg3 arg4 arg5 X2 X3 X4 X5 i k 1 ⟨_, hs 1⟩ rfl 2 _ _ (off8_eq k 1) (off9_eq i k 1))
  · exact piece_ok (i 1) _ _ _ _ ⟨_, hs 1⟩ 1 _ _ (off2_eq k 1) (step_eq arg2 arg3 arg4 arg5 X2 X3 X4 X5 i k 1 ⟨_, hs 1⟩ rfl 1 _ _ (off2_eq k 1) (off3_eq i k 1))
  · exact piece_ok (i 1) _ _ _ _ ⟨_, hs 1⟩ 0 _ _ (off7_eq k 1) (step_eq arg2 arg3 arg4 arg5 X2 X3 X4 X5 i k 1 ⟨_, hs 1⟩ rfl 0 _ _ (off7_eq k 1) (off6_eq i k 1))
  · exact piece_ok (i 1) _ _ _ _ ⟨_, hs 0⟩ 3 _ _ (off12_eq k 0) (step_eq arg2 arg3 arg4 arg5 X2 X3 X4 X5 i k 0 ⟨_, hs 0⟩ rfl 3 _ _ (off12_eq k 0) (off13_eq i k 0))
  · exact piece_ok (i 1) _ _ _ _ ⟨_, hs 0⟩ 2 _ _ (off8_eq k 0) (step_eq arg2 arg3 arg4 arg5 X2 X3 X4 X5 i k 0 ⟨_, hs 0⟩ rfl 2 _ _ (off8_eq k 0) (off9_eq i k 0))
  · exact piece_ok (i 1) _ _ _ _ ⟨_, hs 0⟩ 1 _ _ (off2_eq k 0) (step_eq arg2 arg3 arg4 arg5 X2 X3 X4 X5 i k 0 ⟨_, hs 0⟩ rfl 1 _ _ (off2_eq k 0) (off3_eq i k 0))
  · have hr : trip_k0_t1.sl.r (F := F) arg7 f7
      = scoresOf (View.readAt (Elt F) arg2.view (Rect.unit (s := S2048x512) (k0_off7 k 0#32) S128x128.size (k0_off7_inb k 0)).toLoadRect X2)
        (View.readAt (Elt F) arg3.view (Rect.unit (s := S1x2560x512) (k0_off6 i k 0#32) S1x640x128.size (k0_off6_inb i k 0)).toLoadRect X3) := by
      rw [read_q (off := k0_off7 k 0#32) X2 ⟨_, hs 0⟩ 0 (k0_off7_inb k 0) (off7_eq k 0), read_kv (off := k0_off6 i k 0#32) X3 (i 1) ⟨_, hs 0⟩ 0 (k0_off6_inb i k 0) (off6_eq i k 0)]
      obtain rfl : p0 = ⟨_, hs 0⟩ := Fin.ext hp0
      refine Eq.trans ?_ h7
      unfold trip_k0_t1.sl.r
      rw [View.readAt_eq_ld]
      exact View.ld_unit_zero (by decide) _ _
    refine piece_ok (i 1) _ _ _ _ ⟨_, hs 0⟩ 0 _ _ (off7_eq k 0) ?_
    have hst := step_eq arg2 arg3 arg4 arg5 X2 X3 X4 X5 i k 0 ⟨_, hs 0⟩ rfl 0 (k0_off7_inb k 0) (k0_off6_inb i k 0) (off7_eq k 0) (off6_eq i k 0)
    refine Eq.trans ?_ hst
    refine Eq.trans ?_ (congrArg (fun s => finish s _ _) hr)
    rfl

/-- After a trip the scratch buffer holds the scores of the next trip's first step. -/
theorem trip_scr (k : Fin k0_t1_loop.trips) (f6 : BufTy.Contents (Elt F) arg6.view.ty) (f7 : BufTy.Contents (Elt F) arg7.view.ty)
    (p0 : Fin 16) (hp0 : p0.val = min (4 * k.val + 4) 15) (f : BufTy.Contents (Elt F) arg7.view.ty) (L : List (View.Piece (Elt F) S256x640 .f32)) :
    arg7.view.read (Elt F) (arg7.view.writes (Elt F) f ((trip_k0_t1 (F := F) Variants.none c none i arg2 harg2 arg3 harg3 arg4 harg4 arg5 harg5 arg6 harg6 arg7 harg7 arg1 v4
        k0_pay141 k0_pay142 c0 X2 X3 X4 X5 k).2.1 f6 f7 ++ L))
      = firstScores (i 1) (arg2.view.read (Elt F) X2) (arg3.view.read (Elt F) X3) p0 := by
  unfold trip_k0_t1
  dsimp only
  rw [List.singleton_append, View.read_writes_eq_canon _ _ _ (fun y => ⟨_, List.mem_cons_self, View.mem_set_unit_zero (by decide) (by decide) y⟩),
    View.canon_cons_unit_zero (by decide)]
  unfold firstScores
  rw [← read_q X2 p0 0 (k0_off18_inb k) (by rw [off18_eq, ← hp0]; rfl), ← read_kv X3 (i 1) p0 0 (k0_off19_inb i k) (by rw [off19_eq, ← hp0]; rfl)]
  exact shapeCast_self _ _

end Trip

end Cert.KernelIdeal.Gen

end
-- ==== Proof.Loop.lean ====
/-
  The body's whole loop: the stores of its four trips are steps of `blockOut` and cover the output block.
-/
module

public import proofs.«01_k».proof.Proof.Trip

@[expose] public section

set_option maxRecDepth 16384

noncomputable section

namespace Cert.KernelIdeal.Gen

open Idealize.ShloMosaic Idealize.ShloMosaic.TcCoe Idealize.SL.Sem Idealize.ShloMosaic.ValueIdx

variable {F : FTy → Type} [FloatOps F]

/-- An index is in the tile its quotients by 128 name. -/
theorem mem_tile (y : S2048x512.Idx) (p g : ℕ) {off : Fin 2 → ℕ} (inb) (h : off = ![128 * p, 128 * g])
    (h0 : (y 0).val / 128 = p) (h1 : (y 1).val / 128 = g) :
    y ∈ (Rect.unit (s := S2048x512) off S128x128.size inb).set := by
  subst h
  refine Rect.mem_set_unit.mpr fun a => ?_
  match a with
  | ⟨0, _⟩ => show 128 * p ≤ (y 0).val ∧ (y 0).val < 128 * p + 128; omega
  | ⟨1, _⟩ => show 128 * g ≤ (y 1).val ∧ (y 1).val < 128 * g + 128; omega

section Loop

variable (c : Dev nD) (i : grid0.Coords) (arg2 : Memref sig .tc .vmem S2048x512 .bf16) (harg2 : arg2.IsWhole)
  (arg3 : Memref sig .tc .vmem S1x2560x512 .bf16) (harg3 : arg3.IsWhole) (arg4 : Memref sig .tc .vmem S1x2560x512 .bf16) (harg4 : arg4.IsWhole)
  (arg5 : Memref sig .tc .vmem S8x48x64x128 .f32) (harg5 : arg5.IsWhole) (arg6 : Memref sig .tc .vmem S2048x512 .f32) (harg6 : arg6.IsWhole)
  (arg7 : Memref sig .tc .vmem S256x640 .f32) (harg7 : arg7.IsWhole) (arg1 v4 c0 : BitVec 32)
  (X2 : BufTy.Contents (Elt F) arg2.view.ty) (X3 : BufTy.Contents (Elt F) arg3.view.ty)
  (X4 : BufTy.Contents (Elt F) arg4.view.ty) (X5 : BufTy.Contents (Elt F) arg5.view.ty)

/-- The stores of trip `k` cover the rows of its four row pairs. -/
theorem trip_cover (k : Fin k0_t1_loop.trips) (f6 : BufTy.Contents (Elt F) arg6.view.ty) (f7 : BufTy.Contents (Elt F) arg7.view.ty)
    (y : S2048x512.Idx) (hy : (y 0).val / 512 = k.val) :
    ∃ q ∈ (trip_k0_t1 (F := F) Variants.none c none i arg2 harg2 arg3 harg3 arg4 harg4 arg5 harg5 arg6 harg6 arg7 harg7 arg1 v4
        k0_pay141 k0_pay142 c0 X2 X3 X4 X5 k).1 f6 f7, y ∈ q.1.set := by
  obtain ⟨j, hj⟩ : ∃ j : Fin 4, (y 0).val / 128 = 4 * k.val + j.val := ⟨⟨(y 0).val / 128 - 4 * k.val, by omega⟩, by show _ = _ + (_ - _); omega⟩
  obtain ⟨g, hg⟩ : ∃ g : Fin 4, (y 1).val / 128 = g.val := ⟨⟨(y 1).val / 128, by have := idx2_lt1 y; omega⟩, rfl⟩
  unfold trip_k0_t1
  dsimp only
  simp only [List.exists_mem_cons_iff]
  match j, g, hj, hg with
  | 3, 3, hj, hg => exact .inl (mem_tile y _ _ _ (off12_eq k 3) hj hg)
  | 3, 2, hj, hg => exact .inr (.inl (mem_tile y _ _ _ (off8_eq k 3) hj hg))
  | 3, 1, hj, hg => exact .inr (.inr (.inl (mem_tile y _ _ _ (off2_eq k 3) hj hg)))
  | 3, 0, hj, hg => exact .inr (.inr (.inr (.inl (mem_tile y _ _ _ (off7_eq k 3) hj hg))))
  | 2, g, hj, hg =>
    refine .inr (.inr (.inr (.inr ?_)))
    match g, hg with
    | 3, hg => exact .inl (mem_tile y _ _ _ (off12_eq k 2) hj hg)
    | 2, hg => exact .inr (.inl (mem_tile y _ _ _ (off8_eq k 2) hj hg))
    | 1, hg => exact .inr (.inr (.inl (mem_tile y _ _ _ (off2_eq k 2) hj hg)))
    | 0, hg => exact .inr (.inr (.inr (.inl (mem_tile y _ _ _ (off7_eq k 2) hj hg))))
  | 1, g, hj, hg =>
    refine .inr (.inr (.inr (.inr (.inr (.inr (.inr (.inr ?_)))))))
    match g, hg with
    | 3, hg => exact .inl (mem_tile y _ _ _ (off12_eq k 1) hj hg)
    | 2, hg => exact .inr (.inl (mem_tile y _ _ _ (off8_eq k 1) hj hg))
    | 1, hg => exact .inr (.inr (.inl (mem_tile y _ _ _ (off2_eq k 1) hj hg)))
    | 0, hg => exact .inr (.inr (.inr (.inl (mem_tile y _ _ _ (off7_eq k 1) hj hg))))
  | 0, g, hj, hg =>
    refine .inr (.inr (.inr (.inr (.inr (.inr (.inr (.inr (.inr (.inr (.inr (.inr ?_)))))))))))
    match g, hg with
    | 3, hg => exact .inl (mem_tile y _ _ _ (off12_eq k 0) hj hg)
    | 2, hg => exact .inr (.inl (mem_tile y _ _ _ (off8_eq k 0) hj hg))
    | 1, hg => exact .inr (.inr (.inl (mem_tile y _ _ _ (off2_eq k 0) hj hg)))
    | 0, hg => exact .inr (.inr (.inr (.inl (mem_tile y _ _ _ (off7_eq k 0) hj hg))))

set_option maxHeartbeats 2000000 in
/-- The pieces of the trips before `n`: steps of `blockOut`, covering the rows of those trips; and the scores the
    scratch buffer then holds. -/
theorem pb_ok (G6 : BufTy.Contents (Elt F) arg6.view.ty) (G7 : BufTy.Contents (Elt F) arg7.view.ty)
    (h7 : arg7.view.read (Elt F) G7 = firstScores (i 1) (arg2.view.read (Elt F) X2) (arg3.view.read (Elt F) X3) 0) (n : ℕ) (hn : n ≤ 4) :
    (∀ q ∈ (pb_k0_t1 (F := F) Variants.none c none i arg2 harg2 arg3 harg3 arg4 harg4 arg5 harg5 arg6 harg6 arg7 harg7 arg1 v4
        k0_pay141 k0_pay142 c0 X2 X3 X4 X5 G6 G7 n).1, ∀ x : q.1.shape.Idx,
      q.2 x = blockOut (i 1) (arg2.view.read (Elt F) X2) (arg3.view.read (Elt F) X3) (arg4.view.read (Elt F) X4)
        (arg5.view.read (Elt F) X5) (q.1.emb x))
    ∧ (∀ p0 : Fin 16, p0.val = min (4 * n) 15 →
        arg7.view.read (Elt F) (arg7.view.writes (Elt F) G7 (pb_k0_t1 (F := F) Variants.none c none i arg2 harg2 arg3 harg3 arg4 harg4 arg5 harg5 arg6 harg6 arg7 harg7 arg1 v4
          k0_pay141 k0_pay142 c0 X2 X3 X4 X5 G6 G7 n).2)
        = firstScores (i 1) (arg2.view.read (Elt F) X2) (arg3.view.read (Elt F) X3) p0)
    ∧ (∀ y : S2048x512.Idx, (y 0).val / 512 < n →
        ∃ q ∈ (pb_k0_t1 (F := F) Variants.none c none i arg2 harg2 arg3 harg3 arg4 harg4 arg5 harg5 arg6 harg6 arg7 harg7 arg1 v4
        k0_pay141 k0_pay142 c0 X2 X3 X4 X5 G6 G7 n).1, y ∈ q.1.set) := by
  induction n with
  | zero =>
    refine ⟨fun q h => absurd h List.not_mem_nil, fun p0 h0 => ?_, fun y h => absurd h (Nat.not_lt_zero _)⟩
    obtain rfl : p0 = 0 := Fin.ext h0
    exact h7
  | succ n ih =>
    obtain ⟨ih1, ih2, ih3⟩ := ih (by omega)
    have hn' : n < k0_t1_loop.trips := Nat.lt_of_lt_of_le hn (by decide)
    have hs := pb_k0_t1_succ (F := F) Variants.none c none i arg2 harg2 arg3 harg3 arg4 harg4 arg5 harg5 arg6 harg6 arg7 harg7 arg1 v4
        k0_pay141 k0_pay142 c0 X2 X3 X4 X5 G6 G7 ⟨n, hn'⟩
    simp only at hs
    rw [hs]
    generalize pb_k0_t1 (F := F) Variants.none c none i arg2 harg2 arg3 harg3 arg4 harg4 arg5 harg5 arg6 harg6 arg7 harg7 arg1 v4
        k0_pay141 k0_pay142 c0 X2 X3 X4 X5 G6 G7 n = L at ih1 ih2 ih3 ⊢
    simp only [tripL_k0_t1]
    refine ⟨fun q hq => ?_, fun p0 h0 => ?_, fun y hy => ?_⟩
    · rcases List.mem_append.mp hq with hq | hq
      · exact trip_out c i arg2 harg2 arg3 harg3 arg4 harg4 arg5 harg5 arg6 harg6 arg7 harg7 arg1 v4 c0 X2 X3 X4 X5 ⟨n, hn'⟩ _ _
          ⟨4 * n, by omega⟩ rfl (ih2 _ (by show 4 * n = _; omega)) q hq
      · exact ih1 q hq
    · have e0 : p0.val = min (4 * n + 4) 15 := by rw [h0, Nat.mul_succ]
      exact trip_scr c i arg2 harg2 arg3 harg3 arg4 harg4 arg5 harg5 arg6 harg6 arg7 harg7 arg1 v4 c0 X2 X3 X4 X5 ⟨n, hn'⟩
        (arg6.view.writes (Elt F) G6 L.1) (arg7.view.writes (Elt F) G7 L.2) p0 e0 G7 L.2
    · rcases Nat.lt_or_ge ((y 0).val / 512) n with h | h
      · obtain ⟨q, hq, hm⟩ := ih3 y h
        exact ⟨q, List.mem_append_right _ hq, hm⟩
      · obtain ⟨q, hq, hm⟩ := trip_cover c i arg2 harg2 arg3 harg3 arg4 harg4 arg5 harg5 arg6 harg6 arg7 harg7 arg1 v4 c0 X2 X3 X4 X5 ⟨n, hn'⟩
          _ _ y (by show _ = n; omega)
        exact ⟨q, List.mem_append_left _ hq, hm⟩

/-- What the loop leaves in the output block, whatever was there. -/
theorem loop_out (G6 : BufTy.Contents (Elt F) arg6.view.ty) (G7 : BufTy.Contents (Elt F) arg7.view.ty)
    (h7 : arg7.view.read (Elt F) G7 = firstScores (i 1) (arg2.view.read (Elt F) X2) (arg3.view.read (Elt F) X3) 0) :
    arg6.view.read (Elt F) (arg6.view.writes (Elt F) G6 (pb_k0_t1 (F := F) Variants.none c none i arg2 harg2 arg3 harg3 arg4 harg4 arg5 harg5 arg6 harg6 arg7 harg7 arg1 v4
        k0_pay141 k0_pay142 c0 X2 X3 X4 X5 G6 G7 k0_t1_loop.trips).1)
    = blockOut (i 1) (arg2.view.read (Elt F) X2) (arg3.view.read (Elt F) X3) (arg4.view.read (Elt F) X4) (arg5.view.read (Elt F) X5) := by
  obtain ⟨h1, -, h3⟩ := pb_ok c i arg2 harg2 arg3 harg3 arg4 harg4 arg5 harg5 arg6 harg6 arg7 harg7 arg1 v4 c0 X2 X3 X4 X5 G6 G7 h7
    k0_t1_loop.trips (by decide)
  have hc : ∀ y : S2048x512.Idx, _ := fun y => h3 y (by have := idx2_lt0 y; show _ < 4; omega)
  rw [View.read_writes_eq_canon _ _ _ hc]
  funext y
  exact View.canon_apply_of_pieces _ _ h1 y (hc y)

end Loop

end Cert.KernelIdeal.Gen

end
-- ==== Proof.Body.lean ====
/-
  The body as the pipeline calls it, run once on its staging buffers: the inputs stay as they were and the output
  block ends as `blockOut` of them.
-/
module

public import proofs.«01_k».proof.Proof.Loop
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- One run of the body: from the inputs at `x0 … x3`, the output block and the scratch at anything, to the inputs as
    they were and the output block at `blockOut`. -/
theorem body_run (c : Dev nD) (i : grid0.Coords) (arg2 : Memref sig .tc .vmem S2048x512 .bf16) (harg2 : arg2.IsWhole)
    (arg3 : Memref sig .tc .vmem S1x2560x512 .bf16) (harg3 : arg3.IsWhole) (arg4 : Memref sig .tc .vmem S1x2560x512 .bf16) (harg4 : arg4.IsWhole)
    (arg5 : Memref sig .tc .vmem S8x48x64x128 .f32) (harg5 : arg5.IsWhole) (arg6 : Memref sig .tc .vmem S2048x512 .f32) (harg6 : arg6.IsWhole)
    (arg7 : Memref sig .tc .vmem S256x640 .f32) (harg7 : arg7.IsWhole)
    (x0 : Vec F S2048x512 .bf16) (x1 x2 : Vec F S1x2560x512 .bf16) (x3 : Vec F S8x48x64x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (blockOut (i 1) x0 x1 x2 x3)
            ∗ (∃ d, owns (c : Thread nD τ) arg7 fullShare d)) -∗ K ⟨⟩))
      ⊢ wp frame (wpE (defs₀ (F := F)) Variants.none c none) E (cc0_nattn i arg2 harg2 arg3 harg3 arg4 harg4 arg5 harg5 arg6 harg6 arg7 harg7) K := by
  simp only [cc0_nattn_eq_skeleton]; unfold cc0_nattn_skel
  simp only [k0_part80_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  subst hf0 hf1 hf2 hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    refine loop_out c i arg2 harg2 arg3 harg3 arg4 harg4 arg5 harg5 arg6 harg6 arg7 harg7 _ _ _ f0 f1 f2 f3 _ _ ?_
    unfold body_run.sl.HS0_1
    rw [View.read_writes_eq_canon _ _ _ (fun y => ⟨_, List.mem_cons_self, View.mem_set_unit_zero (by decide) (by decide) y⟩),
      View.canon_cons_unit_zero (by decide)]
    unfold firstScores
    rw [← read_q (off := ![0, 0]) f0 0 0 inb_S2048x512_S128x128_0_0 rfl, ← read_kv f1 (i 1) 0 0 (k0_off1_inb i) (off1_eq i)]
    exact shapeCast_self _ _
  iexists _, _; isplitr; swap; · iexact HS0
  ipureintro; rfl

end Cert.KernelIdeal.Gen

end
-- ==== Proof.Launch.lean ====
/-
  The attention call run over its whole grid: what each grid point leaves in its staging buffers, the run of the
  program with the result array named, the arguments kept and every counter at zero at the end.
-/
module

public import proofs.«01_k».proof.Proof.Body
public import proofs.«01_k».proof.Proof.Gen.KernelIdeal.Frame.Runs
public import Idealize.ShloMosaic.Lib.Pipeline.Value
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The output block after point `t`. -/
def left (c : Dev nD) (t : Fin cfg0.N) : Vec F S2048x512 .f32 :=
  blockOut (grid0.coords t 1) (iblk m c 0 t) (iblk m c 1 t) (iblk m c 2 t) (iblk m c 3 t)

/-- The pipeline's data: each input buffer at its block, the output buffer at `left`, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_tz (c : Dev nD) (t : Fin cfg0.N) : (dats m 0 c).after 3 t = iblk m c 3 t := by dsimp only [dats]
theorem after_out (c : Dev nD) (t : Fin cfg0.N) : (dats m 0 c).after 4 t = left m c t := by dsimp only [dats]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_q m c), before0_1_of m (dats m 0 c) (A_eq m c 1) (after_k m c),
    before0_2_of m (dats m 0 c) (A_eq m c 2) (after_v m c), before0_3_of m (dats m 0 c) (A_eq m c 3) (after_tz m c)]
  rw [show (dats m 0 c).Φ t.succ = (dats m 0 c).Φ t.castSucc from rfl,
    show (dats m 0 c).owesAt () t.succ = (dats m 0 c).owesAt () t.castSucc from rfl,
    after_q, after_k, after_v, after_tz, after_out]
  rw [show (dats m 0 c).Φ t.castSucc = Pipeline.ΦA spec0 c from rfl, PhiA0_eq]
  unfold left
  iintro ⟨⟨HS, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch: every array at what the data say, every other buffer as found, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The result array -/

/-- The grid point of row `R` of the result. -/
def pointOf (y : S32768x512.Idx) : Fin cfg0.N :=
  ⟨(y 0).val / 2048, by have h : (y 0).val < 32768 := (y 0).isLt; rw [show cfg0.N = 16 from N_0]; omega⟩

/-- The result: each 2048 rows from their own grid point. -/
def attended (c : Dev nD) : Vec F S32768x512 .f32 := fun y =>
  left m c (pointOf y) (ix2 ⟨(y 0).val % 2048, Nat.mod_lt _ (by decide)⟩ (y 1))

theorem index_out : ∀ t : Fin cfg0.N, win0_4.index t 0 = t.val ∧ win0_4.index t 1 = 0 :=
  (by decide +kernel : ∀ t : Fin grid0.N, win0_4.index t 0 = t.val ∧ win0_4.index t 1 = 0)

theorem xsize_out : ∀ t : Fin cfg0.N, win0_4.xsize (grid0.coords t) 0 = 2048 ∧ win0_4.xsize (grid0.coords t) 1 = 512 :=
  (by decide +kernel : ∀ t : Fin grid0.N, win0_4.xsize (grid0.coords t) 0 = 2048 ∧ win0_4.xsize (grid0.coords t) 1 = 512)

/-- Where element `j` of point `t`'s output block lies in the result. -/
theorem emb_out (t : Fin cfg0.N) (j : S2048x512.Idx) :
    ((((cfg0.win 4).blk t).view.emb j : S32768x512.Idx) 0).val = 2048 * t.val + (j 0).val
      ∧ ((((cfg0.win 4).blk t).view.emb j : S32768x512.Idx) 1).val = (j 1).val := by
  have h := index_out t
  constructor
  · show win0_4.index t 0 * 2048 + 1 * (j 0).val = _; rw [h.1]; omega
  · show win0_4.index t 1 * 512 + 1 * (j 1).val = _; rw [h.2]; omega

theorem flushed_eq (c : Dev nD) (t : Fin cfg0.N) :
    (dats m 0 c).flushed 4 t = ((cfg0.win 4).blk t).view.read (Elt F) (attended m c) := by
  show (cfg0.win 4).cut (grid0.coords t) ((dats m 0 c).after 4 t) = _
  rw [after_out]
  funext j
  rw [View.read_apply]
  have he := emb_out t j
  have hj : (j 0).val < 2048 := ValueIdx.idx2_lt0 (j : S2048x512.Idx)
  show left m c t j = attended m c (((cfg0.win 4).blk t).view.emb j)
  unfold attended
  have hp : pointOf (((cfg0.win 4).blk t).view.emb j) = t := Fin.ext (by
    show ((((cfg0.win 4).blk t).view.emb j : S32768x512.Idx) 0).val / 2048 = t.val
    rw [he.1]; omega)
  rw [hp]
  congr 1
  refine (eq_ix2 (j : S2048x512.Idx)).trans ?_
  congr 1
  · exact Fin.ext (by show (j 0).val = ((((cfg0.win 4).blk t).view.emb j : S32768x512.Idx) 0).val % 2048; rw [he.1]; omega)
  · exact Fin.ext he.2.symm

theorem cover (y : S32768x512.Idx) : ∃ t : Fin cfg0.N, (cfg0.win 4).flush t = true ∧ y ∈ ((cfg0.win 4).blk t).view.set := by
  refine ⟨pointOf y, flush0_4 _, ?_⟩
  show y ∈ ((View.whole main_v27).slice (win0_4.rect (pointOf y))).set
  rw [View.set_slice_whole, Rect.mem_set_unit]
  have h0 : (y 0 : Nat) < 32768 := (y 0).isLt
  have h1 : (y 1 : Nat) < 512 := (y 1).isLt
  have hi := index_out (pointOf y)
  have hx := xsize_out (pointOf y)
  intro a
  match a with
  | ⟨0, _⟩ =>
    show win0_4.index (pointOf y) 0 * 2048 ≤ (y 0 : Nat) ∧ (y 0 : Nat) < win0_4.index (pointOf y) 0 * 2048 + win0_4.xsize (grid0.coords (pointOf y)) 0
    rw [hi.1, hx.1]; show (y 0).val / 2048 * 2048 ≤ _ ∧ _ < (y 0).val / 2048 * 2048 + 2048; omega
  | ⟨1, _⟩ =>
    show win0_4.index (pointOf y) 1 * 512 ≤ (y 1 : Nat) ∧ (y 1 : Nat) < win0_4.index (pointOf y) 1 * 512 + win0_4.xsize (grid0.coords (pointOf y)) 1
    rw [hi.2, hx.2]; omega

theorem final (c : Dev nD) : (dats m 0 c).arrAt 4 cfg0.N = attended m c :=
  (dats m 0 c).arrAt_eq_of_cover 4 (attended m c) (fun t _ => flushed_eq m c t) cover

/-- The run read: the result array at `attended`, the arguments unchanged. -/
theorem run_value : θ_run defs (onTc (τ := τ) (main (F := F))) ⟨m, fun _ => 0, ρ⟩ fun r => ∀ c : Dev nD,
      r.2.mem ((c : Thread nD τ).loc main_v27) = attended m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Gen

end
-- ==== Proof.Host.lean ====
/-
  The arrays the attention call reads: what the operations before the call leave in them.
-/
module

public import proofs.«01_k».proof.Proof.Launch
public import Idealize.ShloMosaic.Lib.ValueIdx
public import Idealize.ShloMosaic.Lib.StableHlo.Run

@[expose] public section

set_option maxRecDepth 16384

noncomputable section

namespace Cert.KernelIdeal.Gen

open Idealize.ShloMosaic Idealize.ShloMosaic.TcCoe Idealize.SL.Sem Idealize.ShloMosaic.StableHlo

variable {F : FTy → Type} [FloatOps F]

/-- The logarithm of two. -/
def logTwo : FVec F S_ .f32 := Host.log (constant S_ .f32 0x40000000#32)
/-- The scaled queries. -/
def queries (q : Vec F S32768x512 .f32) : FVec F S32768x512 .bf16 :=
  truncf .bf16 (mulf q (broadcastInDim S32768x512 ![] bcast_S_S32768x512 (Host.divf (constant S_ .f32 0x3E000000#32) logTwo))) bitsLt_bf16_f32
/-- Keys or values, one image after another. -/
def images (k : Vec F S32768x512 .f32) : FVec F S4x8192x512 .bf16 :=
  shapeCast S4x8192x512 (truncf .bf16 k bitsLt_bf16_f32) shapeCasts_S32768x512_S4x8192x512
/-- The bias in units of the logarithm of two. -/
def biases (b : Vec F S8x15x31 .f32) : FVec F S8x15x31 .f32 :=
  mulf b (broadcastInDim S8x15x31 ![] bcast_S_S8x15x31 (Host.divf (constant S_ .f32 0x3F800000#32) logTwo))
/-- The column offsets, one index per pair of columns. -/
def offsets : IVec S64x64x1 32 :=
  broadcastInDim S64x64x1 ![0, 1] bcast_S64x64_S64x64x1_0_1
    (select (constantI S64x64 1 0#1) (addi (fun i => lit0 (S64x64.rowMajor i)) (broadcastInDim S64x64 ![] bcast_S_S64x64 (constantI S_ 32 31#32)))
      (fun i => lit0 (S64x64.rowMajor i)))
/-- The bias of every pair of columns, row offset by row offset. -/
def pairs (b : Vec F S8x15x31 .f32) : FVec F S8x15x64x64 .f32 :=
  Host.gather gather_S8x15x31_S64x64x1_S8x15x64x64_01_2_n_n_2_2_8151 (biases b) offsets
/-- The same with minus infinity outside the window of columns. -/
def masked (b : Vec F S8x15x31 .f32) : FVec F S8x15x64x64 .f32 :=
  select (broadcastInDim S8x15x64x64 ![2, 3] bcast_S64x64_S8x15x64x64_2_3 fun i => lit1 (S64x64.rowMajor i)) (pairs b)
    (broadcastInDim S8x15x64x64 ![] bcast_S_S8x15x64x64 (constant S_ .f32 0xFF800000#32))
/-- The same with a row of minus infinity on either side. -/
def padded (b : Vec F S8x15x31 .f32) : FVec F S8x17x64x64 .f32 :=
  pad S8x17x64x64 ![0, 1, 0, 0] ![0, 1, 0, 0] ![0, 0, 0, 0] (masked b) (constant S_ .f32 0xFF800000#32)
    pads_S8x15x64x64_S8x17x64x64_000_110_000_000 h_S_
/-- The rows offset by none and by one. -/
def lower (b : Vec F S8x15x31 .f32) : FVec F S8x16x64x64 .f32 :=
  extractStridedSlice S8x16x64x64 ![0, 0, 0, 0] (padded b) slices_S8x17x64x64_S8x16x64x64_0_0_0_0
def upper (b : Vec F S8x15x31 .f32) : FVec F S8x16x64x64 .f32 :=
  extractStridedSlice S8x16x64x64 ![0, 1, 0, 0] (padded b) slices_S8x17x64x64_S8x16x64x64_0_1_0_0
def blank : FVec F S8x16x64x64 .f32 := broadcastInDim S8x16x64x64 ![] bcast_S_S8x16x64x64 (constant S_ .f32 0xFF800000#32)
/-- Two half tiles side by side. -/
def halves (x y : FVec F S8x16x64x64 .f32) : FVec F S8x16x64x128 .f32 :=
  concatenate S8x16x64x128 3 [⟨S8x16x64x64, x⟩, ⟨S8x16x64x64, y⟩] concatenates_S8x16x64x64_S8x16x64x64_S8x16x64x128_d3
/-- The bias tables. -/
def tables (b : Vec F S8x15x31 .f32) : FVec F S8x48x64x128 .f32 :=
  concatenate S8x48x64x128 1 [⟨S8x16x64x128, halves (lower b) (upper b)⟩, ⟨S8x16x64x128, halves (lower b) blank⟩,
    ⟨S8x16x64x128, halves blank (upper b)⟩] concatenates_S8x16x64x128_S8x16x64x128_S8x16x64x128_S8x48x64x128_d1

section Read
variable (m : (ℓ : Loc nD τ sig) → Buf (Elt F) ℓ) (c : Dev nD)

theorem V_queries : V m c main_v4 = queries (m (c, main_arg0)) := by
  unfold V
  simp only [hostOps0, hostOps0_1, hostOps0_2, hostOps0_3, hostOps0_4, List.flatten, List.append, List.cons_append, List.nil_append, TRef.binary, TRef.ternary, TRef.unary, TRef.toBuf, TRef.ofBuf, cast_eq]
  after_results_simp <;> rfl
theorem V_keys : V m c main_v25 = images (m (c, main_arg1)) := by
  unfold V
  simp only [hostOps0, hostOps0_1, hostOps0_2, hostOps0_3, hostOps0_4, List.flatten, List.append, List.cons_append, List.nil_append, TRef.binary, TRef.ternary, TRef.unary, TRef.toBuf, TRef.ofBuf, cast_eq]
  after_results_simp <;> rfl
theorem V_values : V m c main_v26 = images (m (c, main_arg2)) := by
  unfold V
  simp only [hostOps0, hostOps0_1, hostOps0_2, hostOps0_3, hostOps0_4, List.flatten, List.append, List.cons_append, List.nil_append, TRef.binary, TRef.ternary, TRef.unary, TRef.toBuf, TRef.ofBuf, cast_eq]
  after_results_simp <;> rfl
theorem tables_congr {x x' y y' z z' : FVec F S8x16x64x128 .f32} (hx : x = x') (hy : y = y') (hz : z = z') :
    concatenate S8x48x64x128 1 [⟨S8x16x64x128, x⟩, ⟨S8x16x64x128, y⟩, ⟨S8x16x64x128, z⟩]
        concatenates_S8x16x64x128_S8x16x64x128_S8x16x64x128_S8x48x64x128_d1
      = concatenate S8x48x64x128 1 [⟨S8x16x64x128, x'⟩, ⟨S8x16x64x128, y'⟩, ⟨S8x16x64x128, z'⟩]
        concatenates_S8x16x64x128_S8x16x64x128_S8x16x64x128_S8x48x64x128_d1 := by
  subst hx hy hz; rfl
theorem V_tables : V m c main_v24 = tables (m (c, main_arg3)) := by
  unfold V
  simp only [hostOps0, hostOps0_1, hostOps0_2, hostOps0_3, hostOps0_4, List.flatten, List.append, List.cons_append, List.nil_append, TRef.binary, TRef.ternary, TRef.unary, TRef.toBuf, TRef.ofBuf, cast_eq]
  after_results_simp
  refine tables_congr ?_ ?_ ?_ <;>
    (dsimp only [Matrix.cons_val]; after_results_simp; refine congrArg₂ halves ?_ ?_ <;> (after_results_simp <;> rfl))

end Read

end Cert.KernelIdeal.Gen

end
-- ==== Proof.Block.lean ====
/-
  What one step of the body computes, read at an element over the extended reals: a quotient of two sums over the band.
-/
module

public import proofs.«01_k».proof.Proof.Unit
public import Idealize.ShloMosaic.Lib.ValueIdx
public import Idealize.ShloMosaic.Lib.Pipeline.Value
public import Idealize.ShloMosaic.Lib.IdealHost
public import Idealize.ShloMosaic.PureOps.Ideal.Laws

@[expose] public section

set_option maxRecDepth 65536

noncomputable section

namespace Cert.KernelIdeal.Gen

open Idealize.ShloMosaic Idealize.ShloMosaic.TcCoe Idealize.SL.Sem Idealize.ShloMosaic.ValueIdx

section Joined
variable {α : Type} {n m c N : Nat}

/-- Two blocks of rows, the first block. -/
theorem stack_left (x₁ : (⟨2, ![n, c]⟩ : Shape).Idx → α) (x₂ : (⟨2, ![m, c]⟩ : Shape).Idx → α)
    (h : Shape.Concatenates [⟨2, ![n, c]⟩, ⟨2, ![m, c]⟩] ⟨2, ![N, c]⟩ 0) (Y : Fin N) (d : Fin c) (y : Fin n) (hY : Y.val = y.val) :
    concatenate ⟨2, ![N, c]⟩ 0 [⟨⟨2, ![n, c]⟩, x₁⟩, ⟨⟨2, ![m, c]⟩, x₂⟩] h (ix2 Y d) = x₁ (ix2 y d) :=
  concatenate_pair_apply_left (s₁ := ⟨2, ![n, c]⟩) (t := ⟨2, ![N, c]⟩) 0 x₁ x₂ h (ix2 Y d) rfl (ix2 y d) (fun b => by
    match b with | ⟨0, _⟩ => exact hY.symm | ⟨1, _⟩ => rfl)

/-- Two blocks of rows, the second block. -/
theorem stack_right (x₁ : (⟨2, ![n, c]⟩ : Shape).Idx → α) (x₂ : (⟨2, ![m, c]⟩ : Shape).Idx → α)
    (h : Shape.Concatenates [⟨2, ![n, c]⟩, ⟨2, ![m, c]⟩] ⟨2, ![N, c]⟩ 0) (Y : Fin N) (d : Fin c) (y : Fin m) (hY : y.val + n = Y.val) :
    concatenate ⟨2, ![N, c]⟩ 0 [⟨⟨2, ![n, c]⟩, x₁⟩, ⟨⟨2, ![m, c]⟩, x₂⟩] h (ix2 Y d) = x₂ (ix2 y d) :=
  concatenate_pair_apply_right (s₁ := ⟨2, ![n, c]⟩) (s₂ := ⟨2, ![m, c]⟩) (t := ⟨2, ![N, c]⟩) 0 x₁ x₂ h (ix2 Y d) rfl rfl (ix2 y d)
    (fun b hb => by match b with | ⟨0, _⟩ => exact absurd rfl hb | ⟨1, _⟩ => rfl) hY

/-- Two blocks of lanes, the first block. -/
theorem beside_left (x₁ : (⟨2, ![c, n]⟩ : Shape).Idx → α) (x₂ : (⟨2, ![c, m]⟩ : Shape).Idx → α)
    (h : Shape.Concatenates [⟨2, ![c, n]⟩, ⟨2, ![c, m]⟩] ⟨2, ![c, N]⟩ 1) (d : Fin c) (Y : Fin N) (y : Fin n) (hY : Y.val = y.val) :
    concatenate ⟨2, ![c, N]⟩ 1 [⟨⟨2, ![c, n]⟩, x₁⟩, ⟨⟨2, ![c, m]⟩, x₂⟩] h (ix2 d Y) = x₁ (ix2 d y) :=
  concatenate_pair_apply_left (s₁ := ⟨2, ![c, n]⟩) (t := ⟨2, ![c, N]⟩) 1 x₁ x₂ h (ix2 d Y) rfl (ix2 d y) (fun b => by
    match b with | ⟨0, _⟩ => rfl | ⟨1, _⟩ => exact hY.symm)

/-- Two blocks of lanes, the second block. -/
theorem beside_right (x₁ : (⟨2, ![c, n]⟩ : Shape).Idx → α) (x₂ : (⟨2, ![c, m]⟩ : Shape).Idx → α)
    (h : Shape.Concatenates [⟨2, ![c, n]⟩, ⟨2, ![c, m]⟩] ⟨2, ![c, N]⟩ 1) (d : Fin c) (Y : Fin N) (y : Fin m) (hY : y.val + n = Y.val) :
    concatenate ⟨2, ![c, N]⟩ 1 [⟨⟨2, ![c, n]⟩, x₁⟩, ⟨⟨2, ![c, m]⟩, x₂⟩] h (ix2 d Y) = x₂ (ix2 d y) :=
  concatenate_pair_apply_right (s₁ := ⟨2, ![c, n]⟩) (s₂ := ⟨2, ![c, m]⟩) (t := ⟨2, ![c, N]⟩) 1 x₁ x₂ h (ix2 d Y) rfl rfl (ix2 d y)
    (fun b hb => by match b with | ⟨0, _⟩ => rfl | ⟨1, _⟩ => exact absurd rfl hb) hY

end Joined

/-- The word of minus infinity. -/
theorem ofBits_negInf : Ideal.ofBits .f32 0xFF800000#32 = ⊥ := by
  simp [Ideal.ofBits, Ideal.ieee]

/-- The lane mask: the first 64 lanes. -/
theorem lanes_apply (y d : Fin 128) : k0_pay141 (ix2 y d) = if d.val < 64 then 1#1 else 0#1 := by
  have h : ∀ d : Fin 128, BitVec.ofBool ((BitVec.ofNat 32 d.val).slt 64#32) = if d.val < 64 then 1#1 else 0#1 := by
    decide +kernel
  rw [← h d]
  show BitVec.ofBool (BitVec.slt (iota .tc S128x128 32 [1] iota_S128x128_d1_w32 (ix2 y d)) 64#32) = _
  rw [iota_single_apply]

/-- The query row with the lanes of the other head cleared. -/
def headLane (q : Vec Ideal S128x128 .bf16) (e : Fin 2) (y d : Fin 128) : EReal := if d.val / 64 = e.val then q (ix2 y d) else 0

theorem scoresOf_apply (q : Vec Ideal S128x128 .bf16) (k : Vec Ideal S1x640x128 .bf16) (e : Fin 2) (y : Fin 128) (kk : Fin 640) :
    scoresOf q k (ix2 ⟨128 * e.val + y.val, by omega⟩ kk) = ∑ d : Fin 128, headLane q e y d * k (ix3 0 kk d) := by
  unfold scoresOf k0_pay1
  simp only [matmul]
  rw [Ideal.matmul_constant_zero_apply]
  rw [← Equiv.sum_comp (contrEquiv1 dot_S256x128_S640x128_S256x640_1_1_0_0_n_n 128 rfl rfl).symm]
  refine Finset.sum_congr rfl fun d _ => ?_
  have hl : dot_S256x128_S640x128_S256x640_1_1_0_0_n_n.lhsIdx (ix2 ⟨128 * e.val + y.val, by omega⟩ kk)
      ((contrEquiv1 dot_S256x128_S640x128_S256x640_1_1_0_0_n_n 128 rfl rfl).symm d) = ix2 ⟨128 * e.val + y.val, by omega⟩ d := by
    funext a; match a with | ⟨0, _⟩ => rfl | ⟨1, _⟩ => rfl
  have hr : dot_S256x128_S640x128_S256x640_1_1_0_0_n_n.rhsIdx (ix2 ⟨128 * e.val + y.val, by omega⟩ kk)
      ((contrEquiv1 dot_S256x128_S640x128_S256x640_1_1_0_0_n_n 128 rfl rfl).symm d) = ix2 kk d := by
    funext a; match a with | ⟨0, _⟩ => rfl | ⟨1, _⟩ => rfl
  rw [hl, hr]
  congr 1
  · match e with
    | ⟨0, _⟩ =>
      rw [stack_left _ _ _ _ _ y (by show 128 * 0 + y.val = y.val; omega)]
      rw [select_apply, lanes_apply, shapeCast_self]
      unfold headLane
      by_cases h : d.val < 64
      · rw [if_pos h, if_pos (show d.val / 64 = 0 by omega)]; rfl
      · rw [if_neg h, if_neg (show ¬ d.val / 64 = 0 by omega)]; exact Ideal.ofBits_zero_bf16
    | ⟨1, _⟩ =>
      rw [stack_right _ _ _ _ _ y (by show y.val + 128 = 128 * 1 + y.val; omega)]
      rw [select_apply, lanes_apply, shapeCast_self]
      unfold headLane
      by_cases h : d.val < 64
      · rw [if_pos h, if_neg (show ¬ d.val / 64 = 1 by omega)]; exact Ideal.ofBits_zero_bf16
      · rw [if_neg h, if_pos (show d.val / 64 = 1 by omega)]; rfl
  · exact shapeCast_apply k _ _ (ix3 0 kk d) (by
      rw [Shape.rowMajor_val_three, Shape.rowMajor_val_two]
      show (0 * 640 + kk.val) * 128 + d.val = kk.val * 128 + d.val; omega)

theorem tile_apply (T : Vec Ideal S1x1x64x128 .f32) (y : Fin 64) (c : Fin 128) :
    shapeCast S64x128 T shapeCasts_S1x1x64x128_S64x128 (ix2 y c) = T (ix4 0 0 y c) :=
  shapeCast_apply T _ _ (ix4 0 0 y c) (by
    rw [Shape.rowMajor_val_four, Shape.rowMajor_val_two]
    show ((0 * 1 + 0) * 64 + y.val) * 128 + c.val = y.val * 128 + c.val; omega)

theorem biasRow_apply (T : Fin 5 → Vec Ideal S1x1x64x128 .f32) (y : Fin 64) (t : Fin 5) (c : Fin 128) :
    biasRow T (ix2 y ⟨128 * t.val + c.val, by omega⟩) = T t (ix4 0 0 y c) := by
  unfold biasRow
  rw [← tile_apply (T t) y c]
  have key : ∀ (k : Nat) (hk : k < 5) (xs : List ((s : Shape) × (s.Idx → EReal))) (h : Shape.Concatenates (xs.map (·.1)) S64x640 1)
      (hl : k < xs.length) (x : S64x128.Idx → EReal) (hx : xs[k] = ⟨S64x128, x⟩)
      (hpre : (((xs.take k).map (·.1)).map fun s => if h : s.rank = 2 then s.size ((1 : Fin 2).cast h.symm) else 0).sum = 128 * k),
      concatenate S64x640 1 xs h (ix2 y ⟨128 * k + c.val, by omega⟩) = x (ix2 y c) := by
    intro k hk xs h hl x hx hpre
    exact concatenate_apply_piece (t := S64x640) 1 xs h _ k hl S64x128 x hx rfl (128 * k) hpre (ix2 y c)
      (fun b hb => by match b with | ⟨0, _⟩ => rfl | ⟨1, _⟩ => exact absurd rfl hb) rfl
  match t with
  | ⟨0, _⟩ => exact key 0 (by decide) _ _ (by show (_ : Nat) < 5; decide) _ rfl rfl
  | ⟨1, _⟩ => exact key 1 (by decide) _ _ (by show (_ : Nat) < 5; decide) _ rfl rfl
  | ⟨2, _⟩ => exact key 2 (by decide) _ _ (by show (_ : Nat) < 5; decide) _ rfl rfl
  | ⟨3, _⟩ => exact key 3 (by decide) _ _ (by show (_ : Nat) < 5; decide) _ rfl rfl
  | ⟨4, _⟩ => exact key 4 (by decide) _ _ (by show (_ : Nat) < 5; decide) _ rfl rfl

theorem biased_apply (s : FVec Ideal S128x640 .f32) (T : Fin 2 → Fin 5 → Vec Ideal S1x1x64x128 .f32) (a : Fin 2) (y : Fin 64)
    (kk : Fin 640) :
    biased s T (ix2 ⟨64 * a.val + y.val, by omega⟩ kk)
      = s (ix2 ⟨64 * a.val + y.val, by omega⟩ kk) + T a ⟨kk.val / 128, by omega⟩ (ix4 0 0 y ⟨kk.val % 128, by omega⟩) := by
  unfold biased
  rw [addf_apply]
  congr 1
  have hk : biasRow (T a) (ix2 y kk) = T a ⟨kk.val / 128, by omega⟩ (ix4 0 0 y ⟨kk.val % 128, by omega⟩) := by
    rw [← biasRow_apply (T a) y ⟨kk.val / 128, by omega⟩ ⟨kk.val % 128, by omega⟩]
    congr 2
    exact Fin.ext (by show kk.val = 128 * (kk.val / 128) + kk.val % 128; omega)
  rw [← hk]
  match a with
  | ⟨0, _⟩ => exact stack_left _ _ _ _ _ y (by show 64 * 0 + y.val = y.val; omega)
  | ⟨1, _⟩ => exact stack_right _ _ _ _ _ y (by show y.val + 64 = 64 * 1 + y.val; omega)

theorem powers_apply (x : FVec Ideal S128x640 .f32) (y : Fin 128) (kk : Fin 640) :
    powers x (ix2 y kk)
      = Ideal.exp2 (x (ix2 y kk) - (Finset.univ : Finset (Fin 640)).fold max ⊥ fun kk => x (ix2 y kk)) := by
  unfold powers
  rw [truncf_apply]
  refine congrArg (fun z => Ideal.exp2 (x (ix2 y kk) - z)) ?_
  rw [broadcastTo_apply _ _ _ (ix2 y 0) (fun b => by match b with | ⟨0, _⟩ => rfl | ⟨1, _⟩ => rfl)]
  rw [shapeCast_apply _ _ _ (ix1 y) (by
    rw [Shape.rowMajor_val_one, Shape.rowMajor_val_two]; show y.val = y.val * 1 + 0; omega)]
  refine (Ideal.multiReduction_maximumf_single (a := 1) x _ reduces_S128x640_S128 (.inl rfl) rfl (ix1 y)).trans ?_
  refine (congrArg (fun z => Finset.fold max z _ _) ofBits_negInf).trans ?_
  refine congrArg (fun z => Finset.fold max ⊥ z (Finset.univ : Finset (Fin 640))) ?_
  funext k
  refine congrArg x ?_
  funext b; match b with | ⟨0, _⟩ => rfl | ⟨1, _⟩ => rfl

theorem sums_apply (p : Fin 2 → FVec Ideal S128x640 .bf16) (v : Vec Ideal S1x640x128 .bf16) (e : Fin 2) (y : Fin 128)
    (c : Fin 256) :
    sums (p 0) (p 1) v (ix2 ⟨128 * e.val + y.val, by omega⟩ c)
      = ∑ kk : Fin 640, p e (ix2 y kk) * (if h : c.val < 128 then v (ix3 0 kk ⟨c.val, h⟩) else 1) := by
  unfold sums
  simp only [matmul]
  rw [Ideal.matmul_constant_zero_apply]
  rw [← Equiv.sum_comp (contrEquiv1 dot_S256x640_S640x256_S256x256_1_0_0_1_n_n 640 rfl rfl).symm]
  refine Finset.sum_congr rfl fun d _ => ?_
  have hl : dot_S256x640_S640x256_S256x256_1_0_0_1_n_n.lhsIdx (ix2 ⟨128 * e.val + y.val, by omega⟩ c)
      ((contrEquiv1 dot_S256x640_S640x256_S256x256_1_0_0_1_n_n 640 rfl rfl).symm d) = ix2 ⟨128 * e.val + y.val, by omega⟩ d := by
    funext a; match a with | ⟨0, _⟩ => rfl | ⟨1, _⟩ => rfl
  have hr : dot_S256x640_S640x256_S256x256_1_0_0_1_n_n.rhsIdx (ix2 ⟨128 * e.val + y.val, by omega⟩ c)
      ((contrEquiv1 dot_S256x640_S640x256_S256x256_1_0_0_1_n_n 640 rfl rfl).symm d) = ix2 d c := by
    funext a; match a with | ⟨0, _⟩ => rfl | ⟨1, _⟩ => rfl
  rw [hl, hr]
  congr 1
  · match e with
    | ⟨0, _⟩ => exact stack_left _ _ _ _ _ y (by show 128 * 0 + y.val = y.val; omega)
    | ⟨1, _⟩ => exact stack_right _ _ _ _ _ y (by show y.val + 128 = 128 * 1 + y.val; omega)
  · by_cases h : c.val < 128
    · rw [dif_pos h]
      rw [beside_left _ _ _ d c ⟨c.val, h⟩ rfl]
      exact shapeCast_apply v _ _ (ix3 0 d ⟨c.val, h⟩) (by
        rw [Shape.rowMajor_val_three, Shape.rowMajor_val_two]
        show (0 * 640 + d.val) * 128 + c.val = d.val * 128 + c.val; omega)
    · rw [dif_neg h]
      rw [beside_right _ _ _ d c ⟨c.val - 128, by omega⟩ (by show c.val - 128 + 128 = c.val; omega)]
      exact Ideal.ofBits_one_bf16

theorem quotient_apply (w : FVec Ideal S256x256 .f32) (y l : Fin 128) :
    quotient w (ix2 y l) = Ideal.div (w (ix2 ⟨128 * (l.val / 64) + y.val, by omega⟩ ⟨l.val, by omega⟩))
      (w (ix2 ⟨128 * (l.val / 64) + y.val, by omega⟩ ⟨128 + l.val, by omega⟩)) := by
  have key : ∀ (e : Nat) (he : e < 2) (h : S256x128.Slices ![128 * e, 0] S128x128),
      extractStridedSlice S128x128 ![128 * e, 0] (divf (extractStridedSlice S256x128 ![0, 0] w slices_S256x256_o0_0_S256x128)
        (extractStridedSlice S256x128 ![0, 128] w slices_S256x256_o0_128_S256x128)) h (ix2 y l)
      = Ideal.div (w (ix2 ⟨128 * e + y.val, by omega⟩ ⟨l.val, by omega⟩)) (w (ix2 ⟨128 * e + y.val, by omega⟩ ⟨128 + l.val, by omega⟩)) := by
    intro e he h
    rw [extractStridedSlice_apply _ _ _ _ (ix2 ⟨128 * e + y.val, by omega⟩ l) (fun b => by
      match b with
      | ⟨0, _⟩ => rfl
      | ⟨1, _⟩ => show l.val = 0 + l.val; omega)]
    rw [divf_apply]
    rw [extractStridedSlice_apply _ _ _ _ (ix2 ⟨128 * e + y.val, by omega⟩ ⟨l.val, by omega⟩) (fun b => by
      match b with
      | ⟨0, _⟩ => show 128 * e + y.val = 0 + (128 * e + y.val); omega
      | ⟨1, _⟩ => show l.val = 0 + l.val; omega)]
    rw [extractStridedSlice_apply _ _ _ _ (ix2 ⟨128 * e + y.val, by omega⟩ ⟨128 + l.val, by omega⟩) (fun b => by
      match b with
      | ⟨0, _⟩ => show 128 * e + y.val = 0 + (128 * e + y.val); omega
      | ⟨1, _⟩ => rfl)]
  unfold quotient
  rw [select_apply, lanes_apply]
  by_cases h : l.val < 64
  · rw [if_pos h]
    refine (key 0 (by decide) slices_S256x128_o0_0_S128x128).trans ?_
    have h0 : l.val / 64 = 0 := by omega
    congr 3 <;> exact Fin.ext (by show 128 * 0 + y.val = 128 * (l.val / 64) + y.val; omega)
  · rw [if_neg h]
    refine (key 1 (by decide) slices_S256x128_o128_0_S128x128).trans ?_
    congr 3 <;> exact Fin.ext (by show 128 * 1 + y.val = 128 * (l.val / 64) + y.val; omega)

/-- The biased score of a query row against a key of the band. -/
def bandScore (q : Vec Ideal S128x128 .bf16) (k : Vec Ideal S1x640x128 .bf16) (T : Fin 2 → Fin 2 → Fin 5 → Vec Ideal S1x1x64x128 .f32)
    (e a : Fin 2) (y : Fin 64) (kk : Fin 640) : EReal :=
  (∑ d : Fin 128, headLane q e ⟨64 * a.val + y.val, by omega⟩ d * k (ix3 0 kk d))
    + T e a ⟨kk.val / 128, by omega⟩ (ix4 0 0 y ⟨kk.val % 128, by omega⟩)

/-- One element of a step's output. -/
theorem finish_apply (q : Vec Ideal S128x128 .bf16) (k v : Vec Ideal S1x640x128 .bf16)
    (T : Fin 2 → Fin 2 → Fin 5 → Vec Ideal S1x1x64x128 .f32) (a : Fin 2) (y : Fin 64) (e : Fin 2) (l : Fin 64) :
    finish (scoresOf q k) T v (ix2 ⟨64 * a.val + y.val, by omega⟩ ⟨64 * e.val + l.val, by omega⟩)
      = Ideal.div (∑ kk, Ideal.exp2 (bandScore q k T e a y kk - (Finset.univ : Finset (Fin 640)).fold max ⊥ (bandScore q k T e a y))
            * v (ix3 0 kk ⟨64 * e.val + l.val, by omega⟩))
          (∑ kk, Ideal.exp2 (bandScore q k T e a y kk - (Finset.univ : Finset (Fin 640)).fold max ⊥ (bandScore q k T e a y)) * 1) := by
  unfold finish
  rw [quotient_apply]
  have hb0 : ∀ kk, biased (extractStridedSlice S128x640 ![0, 0] (scoresOf q k) slices_S256x640_o0_0_S128x640) (T 0)
      (ix2 ⟨64 * a.val + y.val, by omega⟩ kk) = bandScore q k T 0 a y kk := fun kk => by
    rw [biased_apply]
    unfold bandScore
    congr 1
    rw [← scoresOf_apply]
    exact extractStridedSlice_apply _ _ _ _ _ (fun b => by
      match b with
      | ⟨0, _⟩ => show 128 * 0 + (64 * a.val + y.val) = 0 + (64 * a.val + y.val); omega
      | ⟨1, _⟩ => show kk.val = 0 + kk.val; omega)
  have hb1 : ∀ kk, biased (extractStridedSlice S128x640 ![128, 0] (scoresOf q k) slices_S256x640_o128_0_S128x640) (T 1)
      (ix2 ⟨64 * a.val + y.val, by omega⟩ kk) = bandScore q k T 1 a y kk := fun kk => by
    rw [biased_apply]
    unfold bandScore
    congr 1
    rw [← scoresOf_apply]
    exact extractStridedSlice_apply _ _ _ _ _ (fun b => by
      match b with
      | ⟨0, _⟩ => show 128 * 1 + (64 * a.val + y.val) = 128 + (64 * a.val + y.val); omega
      | ⟨1, _⟩ => show kk.val = 0 + kk.val; omega)
  let p : Fin 2 → FVec Ideal S128x640 .bf16 := fun
    | 0 => powers (biased (extractStridedSlice S128x640 ![0, 0] (scoresOf q k) slices_S256x640_o0_0_S128x640) (T 0))
    | 1 => powers (biased (extractStridedSlice S128x640 ![128, 0] (scoresOf q k) slices_S256x640_o128_0_S128x640) (T 1))
  have hp : ∀ kk, p e (ix2 ⟨64 * a.val + y.val, by omega⟩ kk)
      = Ideal.exp2 (bandScore q k T e a y kk - (Finset.univ : Finset (Fin 640)).fold max ⊥ (bandScore q k T e a y)) := fun kk => by
    match e with
    | ⟨0, _⟩ => refine (powers_apply _ _ _).trans ?_; simp only [hb0]; rfl
    | ⟨1, _⟩ => refine (powers_apply _ _ _).trans ?_; simp only [hb1]; rfl
  have hrow : (⟨128 * ((64 * e.val + l.val) / 64) + (64 * a.val + y.val), by omega⟩ : Fin 256)
      = ⟨128 * e.val + (64 * a.val + y.val), by omega⟩ :=
    Fin.ext (by show 128 * ((64 * e.val + l.val) / 64) + (64 * a.val + y.val) = 128 * e.val + (64 * a.val + y.val); omega)
  have hs := fun c => sums_apply p v e ⟨64 * a.val + y.val, by omega⟩ c
  show Ideal.div (sums (p 0) (p 1) v (ix2 (⟨128 * ((64 * e.val + l.val) / 64) + (64 * a.val + y.val), by omega⟩ : Fin 256) _))
    (sums (p 0) (p 1) v (ix2 (⟨128 * ((64 * e.val + l.val) / 64) + (64 * a.val + y.val), by omega⟩ : Fin 256) _)) = _
  rw [hrow, hs, hs]
  simp only [hp]
  congr 1
  · refine Finset.sum_congr rfl fun kk _ => ?_
    rw [dif_pos (show 64 * e.val + l.val < 128 by omega)]
  · refine Finset.sum_congr rfl fun kk _ => ?_
    rw [dif_neg (show ¬ 128 + (64 * e.val + l.val) < 128 by omega)]

end Cert.KernelIdeal.Gen

end
-- ==== Proof.Tables.lean ====
/-
  The arrays the attention call reads, element by element over the extended reals.
-/
module

public import proofs.«01_k».proof.Proof.Host
public import proofs.«01_k».proof.Proof.Block
public import Idealize.ShloMosaic.Lib.KernelVsHost
public import Idealize.ShloMosaic.Lib.IdealHost

@[expose] public section

set_option maxRecDepth 65536

noncomputable section

namespace Cert.KernelIdeal.Gen

open Idealize.ShloMosaic Idealize.ShloMosaic.TcCoe Idealize.SL.Sem

/-- The column offset of a pair of columns, limited to the table. -/
def colIx (qc kc : ℕ) : ℕ := min (kc + 15 - qc) 30
/-- Whether a key column is in the window of a query column. -/
abbrev inCols (qc kc : ℕ) : Prop := min (qc - 8) 48 ≤ kc ∧ kc < min (qc - 8) 48 + 16

theorem colIx_lt (qc kc : ℕ) : colIx qc kc < 31 := by unfold colIx; omega

theorem lit0_eq : ∀ n : Fin 4096, lit0 n = BitVec.ofNat 32 (colIx (n.val / 64) (n.val % 64)) := by decide +kernel
theorem lit1_eq : ∀ n : Fin 4096, lit1 n = if inCols (n.val / 64) (n.val % 64) then 1#1 else 0#1 := by decide +kernel

theorem ofBits_two : Ideal.ofBits .f32 0x40000000#32 = ((2 : ℝ) : EReal) := by
  simp [Ideal.ofBits, Ideal.ieee]
  rw [← EReal.coe_mul]
  norm_num
theorem ofBits_eighth : Ideal.ofBits .f32 0x3E000000#32 = ((1 / 8 : ℝ) : EReal) := by
  simp [Ideal.ofBits, Ideal.ieee]
  rw [← EReal.coe_mul]
  norm_num

theorem logTwo_apply (i : S_.Idx) : logTwo (F := Ideal) i = ((Real.log 2 : ℝ) : EReal) := by
  show Ideal.log (Ideal.ofBits .f32 0x40000000#32) = _
  rw [ofBits_two, Ideal.log_coe, if_neg (by norm_num)]

theorem log_two_ne : Real.log 2 ≠ 0 := (Real.log_pos (by norm_num)).ne'

theorem queries_apply (q : Vec Ideal S32768x512 .f32) (i : S32768x512.Idx) :
    queries q i = q i * ((1 / 8 / Real.log 2 : ℝ) : EReal) := by
  show q i * Ideal.div (Ideal.ofBits .f32 0x3E000000#32) (logTwo (F := Ideal) _) = _
  rw [logTwo_apply, ofBits_eighth, Ideal.div_coe log_two_ne, ← EReal.coe_mul]
  congr 2; ring

theorem biases_apply (b : Vec Ideal S8x15x31 .f32) (i : S8x15x31.Idx) :
    biases b i = b i * ((1 / Real.log 2 : ℝ) : EReal) := by
  show b i * Ideal.div (Ideal.ofBits .f32 0x3F800000#32) (logTwo (F := Ideal) _) = _
  rw [logTwo_apply, Ideal.ofBits_one_f32]
  show b i * Ideal.div ((1 : ℝ) : EReal) _ = _
  rw [Ideal.div_coe log_two_ne, ← EReal.coe_mul]
  congr 2; ring

theorem images_apply (k : Vec Ideal S32768x512 .f32) (b : Fin 4) (s : Fin 8192) (l : Fin 512) :
    images k (ValueIdx.ix3 b s l) = k (ValueIdx.ix2 ⟨8192 * b.val + s.val, by omega⟩ l) := by
  unfold images
  refine (shapeCast_apply _ _ _ (ValueIdx.ix2 ⟨8192 * b.val + s.val, by omega⟩ l) ?_).trans rfl
  rw [Shape.rowMajor_val_three, Shape.rowMajor_val_two]
  show (8192 * b.val + s.val) * 512 + l.val = (b.val * 8192 + s.val) * 512 + l.val; omega

theorem offsets_apply (i j : Fin 64) : offsets (ValueIdx.ix3 i j 0) = BitVec.ofNat 32 (colIx i.val j.val) := by
  show lit0 (S64x64.rowMajor (ValueIdx.ix2 i j)) = _
  refine (lit0_eq (S64x64.rowMajor (ValueIdx.ix2 i j))).trans ?_
  have h : (S64x64.rowMajor (ValueIdx.ix2 i j)).val = i.val * 64 + j.val := Shape.rowMajor_val_two _
  rw [h]
  congr 2 <;> omega

theorem pairs_apply (b : Vec Ideal S8x15x31 .f32) (h : Fin 8) (e : Fin 15) (i j : Fin 64) :
    pairs b (ValueIdx.ix4 h e i j) = b (ValueIdx.ix3 h e ⟨colIx i.val j.val, colIx_lt _ _⟩) * ((1 / Real.log 2 : ℝ) : EReal) := by
  rw [← biases_apply]
  unfold pairs Host.gather
  refine congrArg (biases b) (funext fun a => Fin.ext ?_)
  match a with
  | ⟨0, _⟩ => show 0 + 0 + h.val = h.val; omega
  | ⟨1, _⟩ => show 0 + 0 + e.val = e.val; omega
  | ⟨2, _⟩ =>
    show min (offsets (gather_S8x15x31_S64x64x1_S8x15x64x64_01_2_n_n_2_2_8151.siIdx (ValueIdx.ix4 h e i j) ⟨0, by decide⟩)).toInt.toNat 30 + 0 + 0 = colIx i.val j.val
    have hs : gather_S8x15x31_S64x64x1_S8x15x64x64_01_2_n_n_2_2_8151.siIdx (ValueIdx.ix4 h e i j) ⟨0, by decide⟩ = ValueIdx.ix3 i j 0 := by
      funext b
      match b with
      | ⟨0, _⟩ => rfl
      | ⟨1, _⟩ => rfl
      | ⟨2, _⟩ => rfl
    rw [hs, offsets_apply]
    have hc := colIx_lt i.val j.val
    have : (BitVec.ofNat 32 (colIx i.val j.val)).toInt = (colIx i.val j.val : ℤ) := by
      rw [BitVec.toInt_eq_toNat_of_lt (by rw [BitVec.toNat_ofNat]; omega), BitVec.toNat_ofNat, Nat.mod_eq_of_lt (by omega)]
    rw [this]; omega

/-- The bias of a head at a row offset and a pair of columns, minus infinity outside the table and the window. -/
def biasAt (b : Vec Ideal S8x15x31 .f32) (h : Fin 8) (e : ℕ) (i j : Fin 64) : EReal :=
  if he : e < 15 ∧ inCols i.val j.val then b (ValueIdx.ix3 h ⟨e, he.1⟩ ⟨colIx i.val j.val, colIx_lt _ _⟩) * ((1 / Real.log 2 : ℝ) : EReal) else ⊥

theorem masked_apply (b : Vec Ideal S8x15x31 .f32) (h : Fin 8) (e : Fin 15) (i j : Fin 64) :
    masked b (ValueIdx.ix4 h e i j) = biasAt b h e.val i j := by
  show Scalar.select (lit1 (S64x64.rowMajor (ValueIdx.ix2 i j))) (pairs b (ValueIdx.ix4 h e i j)) (Ideal.ofBits .f32 0xFF800000#32) = _
  rw [pairs_apply, ofBits_negInf]
  refine (congrArg (fun z => Scalar.select z _ _) (lit1_eq (S64x64.rowMajor (ValueIdx.ix2 i j)))).trans ?_
  beta_reduce
  have hn : (S64x64.rowMajor (ValueIdx.ix2 i j)).val = i.val * 64 + j.val := Shape.rowMajor_val_two _
  rw [hn, show (i.val * 64 + j.val) / 64 = i.val by omega, show (i.val * 64 + j.val) % 64 = j.val by omega]
  unfold biasAt
  by_cases hc : inCols i.val j.val
  · rw [if_pos hc, dif_pos ⟨e.isLt, hc⟩]; rfl
  · rw [if_neg hc, dif_neg fun h => hc h.2]; rfl

theorem padded_apply (b : Vec Ideal S8x15x31 .f32) (h : Fin 8) (e : Fin 17) (i j : Fin 64) :
    padded b (ValueIdx.ix4 h e i j) = if e.val = 0 then ⊥ else biasAt b h (e.val - 1) i j := by
  unfold padded
  by_cases he : 1 ≤ e.val ∧ e.val < 16
  · rw [if_neg (by omega)]
    refine (pad_apply_of_inside _ _ _ _ _ _ _ _ (ValueIdx.ix4 h ⟨e.val - 1, by omega⟩ i j) fun a => ?_).trans (masked_apply b h ⟨e.val - 1, by omega⟩ i j)
    match a with
    | ⟨0, _⟩ => show h.val = 0 + h.val * (0 + 1); omega
    | ⟨1, _⟩ => show e.val = 1 + (e.val - 1) * (0 + 1); omega
    | ⟨2, _⟩ => show i.val = 0 + i.val * (0 + 1); omega
    | ⟨3, _⟩ => show j.val = 0 + j.val * (0 + 1); omega
  · refine (pad_apply_of_not_inside _ _ _ _ _ _ _ _ (1 : Fin 4) fun hh => he ?_).trans ?_
    · have h1 : 1 ≤ e.val := hh.1
      have h2 : (e.val - 1) / (0 + 1) < 15 := hh.2.2
      omega
    · show Ideal.ofBits .f32 0xFF800000#32 = _
      rw [ofBits_negInf]
      split
      · rfl
      · unfold biasAt; rw [dif_neg (by omega)]

theorem lower_apply (b : Vec Ideal S8x15x31 .f32) (h : Fin 8) (e : Fin 16) (i j : Fin 64) :
    lower b (ValueIdx.ix4 h e i j) = if e.val = 0 then ⊥ else biasAt b h (e.val - 1) i j := by
  unfold lower
  refine (extractStridedSlice_apply _ _ _ _ (ValueIdx.ix4 h ⟨e.val, by omega⟩ i j) fun a => ?_).trans (padded_apply b h ⟨e.val, by omega⟩ i j)
  match a with
  | ⟨0, _⟩ => show h.val = 0 + h.val; omega
  | ⟨1, _⟩ => show e.val = 0 + e.val; omega
  | ⟨2, _⟩ => show i.val = 0 + i.val; omega
  | ⟨3, _⟩ => show j.val = 0 + j.val; omega

theorem upper_apply (b : Vec Ideal S8x15x31 .f32) (h : Fin 8) (e : Fin 16) (i j : Fin 64) :
    upper b (ValueIdx.ix4 h e i j) = biasAt b h e.val i j := by
  unfold upper
  refine (extractStridedSlice_apply _ _ _ _ (ValueIdx.ix4 h ⟨1 + e.val, by omega⟩ i j) fun a => ?_).trans
    ((padded_apply b h ⟨1 + e.val, by omega⟩ i j).trans ?_)
  · match a with
    | ⟨0, _⟩ => show h.val = 0 + h.val; omega
    | ⟨1, _⟩ => rfl
    | ⟨2, _⟩ => show i.val = 0 + i.val; omega
    | ⟨3, _⟩ => show j.val = 0 + j.val; omega
  · rw [if_neg (show ¬ 1 + e.val = 0 by omega)]
    show biasAt b h (1 + e.val - 1) i j = _
    rw [Nat.add_sub_cancel_left]

theorem blank_apply (i : S8x16x64x64.Idx) : blank (F := Ideal) i = ⊥ := ofBits_negInf

theorem halves_apply (x y : FVec Ideal S8x16x64x64 .f32) (h : Fin 8) (e : Fin 16) (i : Fin 64) (c : Fin 128) :
    halves x y (ValueIdx.ix4 h e i c) = if hc : c.val < 64 then x (ValueIdx.ix4 h e i ⟨c.val, hc⟩) else y (ValueIdx.ix4 h e i ⟨c.val - 64, by omega⟩) := by
  unfold halves
  by_cases hc : c.val < 64
  · rw [dif_pos hc]
    exact concatenate_pair_apply_left (t := S8x16x64x128) 3 x y _ (ValueIdx.ix4 h e i c) rfl (ValueIdx.ix4 h e i ⟨c.val, hc⟩) (fun b => by
      match b with
      | ⟨0, _⟩ => rfl
      | ⟨1, _⟩ => rfl
      | ⟨2, _⟩ => rfl
      | ⟨3, _⟩ => rfl)
  · rw [dif_neg hc]
    exact concatenate_pair_apply_right (t := S8x16x64x128) 3 x y _ (ValueIdx.ix4 h e i c) rfl rfl (ValueIdx.ix4 h e i ⟨c.val - 64, by omega⟩) (fun b hb => by
      match b with
      | ⟨0, _⟩ => rfl
      | ⟨1, _⟩ => rfl
      | ⟨2, _⟩ => rfl
      | ⟨3, _⟩ => exact absurd rfl hb) (by show c.val - 64 + 64 = c.val; omega)

/-- What the tables hold at tile index `s`, whose remainder by 16 is a row offset and whose quotient tells which of
    the tile's two key rows are in the window. -/
def tileAt (b : Vec Ideal S8x15x31 .f32) (h : Fin 8) (s : ℕ) (i : Fin 64) (c : ℕ) : EReal :=
  if c < 64 then (if s / 16 = 2 ∨ s % 16 = 0 then ⊥ else biasAt b h (s % 16 - 1) i ⟨c % 64, Nat.mod_lt _ (by decide)⟩)
  else (if s / 16 = 1 then ⊥ else biasAt b h (s % 16) i ⟨c % 64, Nat.mod_lt _ (by decide)⟩)

theorem tables_apply (b : Vec Ideal S8x15x31 .f32) (h : Fin 8) (s : Fin 48) (i : Fin 64) (c : Fin 128) :
    tables b (ValueIdx.ix4 h s i c) = tileAt b h s.val i c.val := by
  have key : ∀ (k : Nat) (x : S8x16x64x128.Idx → EReal) (xs : List ((s : Shape) × (s.Idx → EReal)))
      (hx : Shape.Concatenates (xs.map (·.1)) S8x48x64x128 1) (hl : k < xs.length) (hk : xs[k] = ⟨S8x16x64x128, x⟩)
      (hpre : (((xs.take k).map (·.1)).map fun s => if h : s.rank = 4 then s.size ((1 : Fin 4).cast h.symm) else 0).sum = 16 * k)
      (hs : s.val / 16 = k),
      concatenate S8x48x64x128 1 xs hx (ValueIdx.ix4 h s i c) = x (ValueIdx.ix4 h ⟨s.val % 16, Nat.mod_lt _ (by decide)⟩ i c) := by
    intro k x xs hx hl hk hpre hs
    exact concatenate_apply_piece (t := S8x48x64x128) 1 xs hx _ k hl S8x16x64x128 x hk rfl (16 * k) hpre
      (ValueIdx.ix4 h ⟨s.val % 16, Nat.mod_lt _ (by decide)⟩ i c)
      (fun a ha => by
        match a with
        | ⟨0, _⟩ => rfl
        | ⟨1, _⟩ => exact absurd rfl ha
        | ⟨2, _⟩ => rfl
        | ⟨3, _⟩ => rfl) (by show 16 * k + s.val % 16 = s.val; omega)
  have hf : ∀ hc : c.val < 64, (⟨c.val, hc⟩ : Fin 64) = ⟨c.val % 64, Nat.mod_lt _ (by decide)⟩ := fun hc => Fin.ext (by show c.val = c.val % 64; omega)
  have hg : ¬ c.val < 64 → (⟨c.val - 64, by omega⟩ : Fin 64) = ⟨c.val % 64, Nat.mod_lt _ (by decide)⟩ := fun hc => Fin.ext (by show c.val - 64 = c.val % 64; omega)
  unfold Cert.KernelIdeal.Gen.tables tileAt
  have hs : s.val / 16 = 0 ∨ s.val / 16 = 1 ∨ s.val / 16 = 2 := by omega
  rcases hs with h0 | h1 | h2
  · rw [key 0 (halves (lower b) (upper b)) _ _ (by show (_ : Nat) < 3; decide) rfl rfl h0, halves_apply]
    by_cases hc : c.val < 64
    · rw [dif_pos hc, if_pos hc, lower_apply, ← hf hc]; simp only [h0]; simp
    · rw [dif_neg hc, if_neg hc, upper_apply, ← hg hc]; simp only [h0]; simp
  · rw [key 1 (halves (lower b) blank) _ _ (by show (_ : Nat) < 3; decide) rfl rfl h1, halves_apply]
    by_cases hc : c.val < 64
    · rw [dif_pos hc, if_pos hc, lower_apply, ← hf hc]; simp only [h1]; simp
    · rw [dif_neg hc, if_neg hc, blank_apply, if_pos h1]
  · rw [key 2 (halves blank (upper b)) _ _ (by show (_ : Nat) < 3; decide) rfl rfl h2, halves_apply]
    by_cases hc : c.val < 64
    · rw [dif_pos hc, if_pos hc, blank_apply, if_pos (Or.inl h2)]
    · rw [dif_neg hc, if_neg hc, upper_apply, ← hg hc, if_neg (by omega)]

/-- The first row of the window of image row `r`. -/
def firstRow (r : ℕ) : ℕ := min (r - 4) 120

/-- A tile read at a key of the band: the bias of the key's row and column when the row is in the window. -/
theorem tileAt_eq (b : Vec Ideal S8x15x31 .f32) (h : Fin 8) (P : Fin 64) (a : Fin 2) (kk : Fin 640) (i : Fin 64) :
    tileAt b h (tileIx P.val a.val (kk.val / 128)) i (kk.val % 128)
      = if firstRow (2 * P.val + a.val) ≤ bandRow P.val + kk.val / 64 ∧ bandRow P.val + kk.val / 64 < firstRow (2 * P.val + a.val) + 8
        then biasAt b h (bandRow P.val + kk.val / 64 + 7 - (2 * P.val + a.val)) i ⟨kk.val % 64, Nat.mod_lt _ (by decide)⟩ else ⊥ := by
  have hcol : (⟨kk.val % 128 % 64, Nat.mod_lt _ (by decide)⟩ : Fin 64) = ⟨kk.val % 64, Nat.mod_lt _ (by decide)⟩ :=
    Fin.ext (by show kk.val % 128 % 64 = kk.val % 64; omega)
  have hP := P.isLt
  have ha := a.isLt
  have hk := kk.isLt
  unfold tileAt
  rw [hcol]
  generalize (⟨kk.val % 64, Nat.mod_lt _ (by decide)⟩ : Fin 64) = j
  set t := kk.val / 128 with ht
  have hrow : kk.val / 64 = 2 * t + (if kk.val % 128 < 64 then 0 else 1) := by split <;> omega
  rw [hrow]
  set e := min (bandRow P.val + 2 * t + 8 - (2 * P.val + a.val)) 15 with he
  have hb : bandRow P.val = min (2 * P.val - 4) 118 := rfl
  have hw : firstRow (2 * P.val + a.val) = min (2 * P.val + a.val - 4) 120 := rfl
  have htile : tileIx P.val a.val t
      = if firstRow (2 * P.val + a.val) ≤ bandRow P.val + 2 * t ∧ bandRow P.val + 2 * t < firstRow (2 * P.val + a.val) + 8 then
          (if firstRow (2 * P.val + a.val) ≤ bandRow P.val + 2 * t + 1 ∧ bandRow P.val + 2 * t + 1 < firstRow (2 * P.val + a.val) + 8 then e else 16 + e)
        else (if firstRow (2 * P.val + a.val) ≤ bandRow P.val + 2 * t + 1 ∧ bandRow P.val + 2 * t + 1 < firstRow (2 * P.val + a.val) + 8 then 32 + e else 16) := rfl
  clear_value t e
  clear hrow
  generalize tileIx P.val a.val t = s at *
  generalize bandRow P.val = B at *
  generalize firstRow (2 * P.val + a.val) = W at *
  by_cases hc : kk.val % 128 < 64
  · rw [if_pos hc, if_pos hc]
    by_cases h1 : W ≤ B + 2 * t ∧ B + 2 * t < W + 8
    · by_cases h2 : W ≤ B + 2 * t + 1 ∧ B + 2 * t + 1 < W + 8
      · have hs : s = e := by rw [htile, if_pos h1, if_pos h2]
        rw [if_neg (show ¬ (s / 16 = 2 ∨ s % 16 = 0) by omega), if_pos (show (W ≤ B + (2 * t + 0) ∧ B + (2 * t + 0) < W + 8) by omega)]
        congr 1; omega
      · have hs : s = 16 + e := by rw [htile, if_pos h1, if_neg h2]
        rw [if_neg (show ¬ (s / 16 = 2 ∨ s % 16 = 0) by omega), if_pos (show (W ≤ B + (2 * t + 0) ∧ B + (2 * t + 0) < W + 8) by omega)]
        congr 1; omega
    · by_cases h2 : W ≤ B + 2 * t + 1 ∧ B + 2 * t + 1 < W + 8
      · have hs : s = 32 + e := by rw [htile, if_neg h1, if_pos h2]
        rw [if_pos (show (s / 16 = 2 ∨ s % 16 = 0) by omega), if_neg (show ¬ (W ≤ B + (2 * t + 0) ∧ B + (2 * t + 0) < W + 8) by omega)]
      · have hs : s = 16 := by rw [htile, if_neg h1, if_neg h2]
        rw [if_pos (show (s / 16 = 2 ∨ s % 16 = 0) by omega), if_neg (show ¬ (W ≤ B + (2 * t + 0) ∧ B + (2 * t + 0) < W + 8) by omega)]
  · rw [if_neg hc, if_neg hc]
    by_cases h1 : W ≤ B + 2 * t ∧ B + 2 * t < W + 8
    · by_cases h2 : W ≤ B + 2 * t + 1 ∧ B + 2 * t + 1 < W + 8
      · have hs : s = e := by rw [htile, if_pos h1, if_pos h2]
        rw [if_neg (show ¬ (s / 16 = 1) by omega), if_pos (show (W ≤ B + (2 * t + 1) ∧ B + (2 * t + 1) < W + 8) by omega)]
        congr 1; omega
      · have hs : s = 16 + e := by rw [htile, if_pos h1, if_neg h2]
        rw [if_pos (show (s / 16 = 1) by omega), if_neg (show ¬ (W ≤ B + (2 * t + 1) ∧ B + (2 * t + 1) < W + 8) by omega)]
    · by_cases h2 : W ≤ B + 2 * t + 1 ∧ B + 2 * t + 1 < W + 8
      · have hs : s = 32 + e := by rw [htile, if_neg h1, if_pos h2]
        rw [if_neg (show ¬ (s / 16 = 1) by omega), if_pos (show (W ≤ B + (2 * t + 1) ∧ B + (2 * t + 1) < W + 8) by omega)]
        congr 1; omega
      · have hs : s = 16 := by rw [htile, if_neg h1, if_neg h2]
        rw [if_pos (show (s / 16 = 1) by omega), if_neg (show ¬ (W ≤ B + (2 * t + 1) ∧ B + (2 * t + 1) < W + 8) by omega)]

end Cert.KernelIdeal.Gen

end
-- ==== Proof.Attended.lean ====
/-
  The result of the attention call, element by element over the extended reals: a softmax over the band of keys of the
  query's row pair.
-/
module

public import proofs.«01_k».proof.Proof.Tables

@[expose] public section

set_option maxRecDepth 65536

noncomputable section

namespace Cert.KernelIdeal.Gen

open Idealize.ShloMosaic Idealize.ShloMosaic.TcCoe Idealize.SL.Sem

/-- The place of image row `r`, column `i` of image `b` among all the rows. -/
abbrev rowIx (b : Fin 4) (r : Fin 128) (i : Fin 64) : Fin 32768 := ⟨8192 * b.val + 64 * r.val + i.val, by omega⟩
/-- The place of lane `l` of head `h`. -/
abbrev laneIx (h : Fin 8) (l : Fin 64) : Fin 512 := ⟨64 * h.val + l.val, by omega⟩
/-- The place of key `kk` of the band of image row `r`. -/
abbrev bandIx (b : Fin 4) (r : Fin 128) (kk : Fin 640) : Fin 32768 :=
  ⟨8192 * b.val + 64 * bandRow (r.val / 2) + kk.val, by unfold bandRow; omega⟩

/-- The biased score of a query against key `kk` of its band, in units of the logarithm of two. -/
def bandAt (q k : Vec Ideal S32768x512 .f32) (rpb : Vec Ideal S8x15x31 .f32) (b : Fin 4) (r : Fin 128) (i : Fin 64) (h : Fin 8)
    (kk : Fin 640) : EReal :=
  (∑ d : Fin 64, q (ValueIdx.ix2 (rowIx b r i) (laneIx h d)) * ((1 / 8 / Real.log 2 : ℝ) : EReal)
      * k (ValueIdx.ix2 (bandIx b r kk) (laneIx h d)))
    + (if firstRow r.val ≤ bandRow (r.val / 2) + kk.val / 64 ∧ bandRow (r.val / 2) + kk.val / 64 < firstRow r.val + 8
        then biasAt rpb h (bandRow (r.val / 2) + kk.val / 64 + 7 - r.val) i ⟨kk.val % 64, Nat.mod_lt _ (by decide)⟩ else ⊥)

/-! ## The blocks at an index -/

theorem index_q : ∀ t : Fin cfg0.N, win0_0.index t 0 = t.val ∧ win0_0.index t 1 = 0 :=
  (by decide +kernel : ∀ t : Fin grid0.N, win0_0.index t 0 = t.val ∧ win0_0.index t 1 = 0)
theorem index_k : ∀ t : Fin cfg0.N, win0_1.index t 0 = t.val / 4 ∧ win0_1.index t 1 = 128 * min (16 * (t.val % 4) - 2) 44 ∧ win0_1.index t 2 = 0 :=
  (by decide +kernel : ∀ t : Fin grid0.N, win0_1.index t 0 = t.val / 4 ∧ win0_1.index t 1 = 128 * min (16 * (t.val % 4) - 2) 44 ∧ win0_1.index t 2 = 0)
theorem index_v : ∀ t : Fin cfg0.N, win0_2.index t 0 = t.val / 4 ∧ win0_2.index t 1 = 128 * min (16 * (t.val % 4) - 2) 44 ∧ win0_2.index t 2 = 0 :=
  (by decide +kernel : ∀ t : Fin grid0.N, win0_2.index t 0 = t.val / 4 ∧ win0_2.index t 1 = 128 * min (16 * (t.val % 4) - 2) 44 ∧ win0_2.index t 2 = 0)
theorem index_t : ∀ t : Fin cfg0.N, win0_3.index t 0 = 0 ∧ win0_3.index t 1 = 0 ∧ win0_3.index t 2 = 0 ∧ win0_3.index t 3 = 0 :=
  (by decide +kernel : ∀ t : Fin grid0.N, win0_3.index t 0 = 0 ∧ win0_3.index t 1 = 0 ∧ win0_3.index t 2 = 0 ∧ win0_3.index t 3 = 0)
theorem coords_col : ∀ t : Fin cfg0.N, (grid0.coords t 1).val = t.val % 4 :=
  (by decide +kernel : ∀ t : Fin grid0.N, (grid0.coords t 1).val = t.val % 4)

variable (m : (ℓ : Loc nD τ sig) → Buf (Elt Ideal) ℓ) (c : Dev nD)

/-- The arguments of the program. -/
abbrev argQ : Vec Ideal S32768x512 .f32 := m (c, main_arg0)
abbrev argK : Vec Ideal S32768x512 .f32 := m (c, main_arg1)
abbrev argV : Vec Ideal S32768x512 .f32 := m (c, main_arg2)
abbrev argB : Vec Ideal S8x15x31 .f32 := m (c, main_arg3)

theorem iblk_q (t : Fin cfg0.N) (x : Fin 2048) (y : Fin 512) (X : Fin 32768) (hX : X.val = 2048 * t.val + x.val) :
    (iblk m c 0 t : Vec Ideal S2048x512 .bf16) (ValueIdx.ix2 x y)
      = argQ m c (ValueIdx.ix2 X y) * ((1 / 8 / Real.log 2 : ℝ) : EReal) := by
  rw [← queries_apply, ← V_queries]
  unfold iblk
  rw [View.read_apply]
  show V m c main_v4 _ = _
  have h := index_q t
  refine congrArg (V m c main_v4) (funext fun a => Fin.ext ?_)
  match a with
  | ⟨0, _⟩ => show win0_0.index t 0 * 2048 + 1 * x.val = X.val; rw [h.1]; omega
  | ⟨1, _⟩ => show win0_0.index t 1 * 512 + 1 * y.val = y.val; rw [h.2]; omega

theorem iblk_k (t : Fin cfg0.N) (x : Fin 2560) (y : Fin 512) (X : Fin 32768)
    (hX : X.val = 8192 * (t.val / 4) + (128 * min (16 * (t.val % 4) - 2) 44 + x.val)) :
    (iblk m c 1 t : Vec Ideal S1x2560x512 .bf16) (ValueIdx.ix3 0 x y) = argK m c (ValueIdx.ix2 X y) := by
  have hN : t.val < 16 := t.isLt
  have hx : 128 * min (16 * (t.val % 4) - 2) 44 + x.val < 8192 := by omega
  have he : X = ⟨8192 * (⟨t.val / 4, by omega⟩ : Fin 4).val + (⟨128 * min (16 * (t.val % 4) - 2) 44 + x.val, hx⟩ : Fin 8192).val, by simp only; omega⟩ :=
    Fin.ext hX
  rw [he, ← images_apply (argK m c) ⟨t.val / 4, by omega⟩ ⟨128 * min (16 * (t.val % 4) - 2) 44 + x.val, hx⟩ y, ← V_keys]
  unfold iblk
  rw [View.read_apply]
  show V m c main_v25 _ = _
  have h := index_k t
  refine congrArg (V m c main_v25) (funext fun a => Fin.ext ?_)
  match a with
  | ⟨0, _⟩ => show win0_1.index t 0 + 1 * 0 = t.val / 4; rw [h.1]; omega
  | ⟨1, _⟩ => show win0_1.index t 1 + 1 * x.val = 128 * min (16 * (t.val % 4) - 2) 44 + x.val; rw [h.2.1]; omega
  | ⟨2, _⟩ => show win0_1.index t 2 + 1 * y.val = y.val; rw [h.2.2]; omega

theorem iblk_v (t : Fin cfg0.N) (x : Fin 2560) (y : Fin 512) (X : Fin 32768)
    (hX : X.val = 8192 * (t.val / 4) + (128 * min (16 * (t.val % 4) - 2) 44 + x.val)) :
    (iblk m c 2 t : Vec Ideal S1x2560x512 .bf16) (ValueIdx.ix3 0 x y) = argV m c (ValueIdx.ix2 X y) := by
  have hN : t.val < 16 := t.isLt
  have hx : 128 * min (16 * (t.val % 4) - 2) 44 + x.val < 8192 := by omega
  have he : X = ⟨8192 * (⟨t.val / 4, by omega⟩ : Fin 4).val + (⟨128 * min (16 * (t.val % 4) - 2) 44 + x.val, hx⟩ : Fin 8192).val, by simp only; omega⟩ :=
    Fin.ext hX
  rw [he, ← images_apply (argV m c) ⟨t.val / 4, by omega⟩ ⟨128 * min (16 * (t.val % 4) - 2) 44 + x.val, hx⟩ y, ← V_values]
  unfold iblk
  rw [View.read_apply]
  show V m c main_v26 _ = _
  have h := index_v t
  refine congrArg (V m c main_v26) (funext fun a => Fin.ext ?_)
  match a with
  | ⟨0, _⟩ => show win0_2.index t 0 + 1 * 0 = t.val / 4; rw [h.1]; omega
  | ⟨1, _⟩ => show win0_2.index t 1 + 1 * x.val = 128 * min (16 * (t.val % 4) - 2) 44 + x.val; rw [h.2.1]; omega
  | ⟨2, _⟩ => show win0_2.index t 2 + 1 * y.val = y.val; rw [h.2.2]; omega

theorem iblk_t (t : Fin cfg0.N) (h : Fin 8) (s : Fin 48) (i : Fin 64) (l : Fin 128) :
    (iblk m c 3 t : Vec Ideal S8x48x64x128 .f32) (ValueIdx.ix4 h s i l) = tileAt (argB m c) h s.val i l.val := by
  rw [← tables_apply, ← V_tables]
  unfold iblk
  rw [View.read_apply]
  show V m c main_v24 _ = _
  have hh := index_t t
  refine congrArg (V m c main_v24) (funext fun a => Fin.ext ?_)
  match a with
  | ⟨0, _⟩ => show win0_3.index t 0 * 8 + 1 * h.val = h.val; rw [hh.1]; omega
  | ⟨1, _⟩ => show win0_3.index t 1 * 48 + 1 * s.val = s.val; rw [hh.2.1]; omega
  | ⟨2, _⟩ => show win0_3.index t 2 * 64 + 1 * i.val = i.val; rw [hh.2.2.1]; omega
  | ⟨3, _⟩ => show win0_3.index t 3 * 128 + 1 * l.val = l.val; rw [hh.2.2.2]; omega

/-! ## One element of the result -/

/-- A sum over the lanes of two heads with those of the other head cleared is a sum over the lanes of one. -/
theorem sum_headLane (e : Fin 2) (f g : Fin 128 → EReal) :
    (∑ d : Fin 128, (if d.val / 64 = e.val then f d else 0) * g d)
      = ∑ d : Fin 64, f ⟨64 * e.val + d.val, by omega⟩ * g ⟨64 * e.val + d.val, by omega⟩ := by
  symm
  refine Finset.sum_of_injOn (fun d : Fin 64 => (⟨64 * e.val + d.val, by omega⟩ : Fin 128)) ?_ ?_ ?_ ?_
  · intro a _ b _ hab
    have := congrArg Fin.val hab
    exact Fin.ext (by simp only at this; omega)
  · intro a _; exact Finset.mem_univ _
  · intro d _ hd
    rw [if_neg, zero_mul]
    intro hde
    refine hd ⟨⟨d.val - 64 * e.val, by omega⟩, Finset.mem_coe.2 (Finset.mem_univ _), Fin.ext ?_⟩
    show 64 * e.val + (d.val - 64 * e.val) = d.val; omega
  · intro d _
    rw [if_pos (show (64 * e.val + d.val) / 64 = e.val by omega)]

theorem kvOff_eq (n p : ℕ) : 128 * min (16 * n - 2) 44 + kvOff n p = 64 * bandRow (16 * n + p) := by
  unfold kvOff bandRow; omega

section Point
variable (b : Fin 4) (r : Fin 128) (i : Fin 64) (h : Fin 8) (t : Fin cfg0.N) (p : Fin 16) (g : Fin 4) (a e : Fin 2)
  (ht : t.val = 4 * b.val + r.val / 32) (hp : p.val = r.val / 2 % 16) (hg : h.val = 2 * g.val + e.val) (ha : a.val = r.val % 2)
include ht hp hg ha

theorem pair_eq : 16 * (grid0.coords t 1).val + p.val = r.val / 2 := by
  rw [coords_col]; omega

theorem off_eq : 8192 * (t.val / 4) + (128 * min (16 * (t.val % 4) - 2) 44 + kvOff (grid0.coords t 1).val p.val)
    = 8192 * b.val + 64 * bandRow (r.val / 2) := by
  have h1 : 128 * min (16 * (t.val % 4) - 2) 44 + kvOff (t.val % 4) p.val = 64 * bandRow (16 * (t.val % 4) + p.val) := kvOff_eq _ _
  have h2 : 16 * (t.val % 4) + p.val = r.val / 2 := by omega
  rw [coords_col, h1, h2]; omega

theorem qBlk_eq (d : Fin 64) : qBlk (iblk m c 0 t) p g (ValueIdx.ix2 ⟨64 * a.val + i.val, by omega⟩ ⟨64 * e.val + d.val, by omega⟩)
    = argQ m c (ValueIdx.ix2 (rowIx b r i) (laneIx h d)) * ((1 / 8 / Real.log 2 : ℝ) : EReal) := by
  have hl : (⟨128 * g.val + (64 * e.val + d.val), by omega⟩ : Fin 512) = laneIx h d :=
    Fin.ext (by show 128 * g.val + (64 * e.val + d.val) = 64 * h.val + d.val; omega)
  rw [← hl]
  refine iblk_q m c t ⟨128 * p.val + (64 * a.val + i.val), by omega⟩ _ (rowIx b r i) ?_
  show 8192 * b.val + 64 * r.val + i.val = 2048 * t.val + (128 * p.val + (64 * a.val + i.val)); omega

theorem kBlk_eq (kk : Fin 640) (d : Fin 64) : kvBlk (iblk m c 1 t) (grid0.coords t 1) p g (ValueIdx.ix3 0 kk ⟨64 * e.val + d.val, by omega⟩)
    = argK m c (ValueIdx.ix2 (bandIx b r kk) (laneIx h d)) := by
  have hl : (⟨128 * g.val + (64 * e.val + d.val), by omega⟩ : Fin 512) = laneIx h d :=
    Fin.ext (by show 128 * g.val + (64 * e.val + d.val) = 64 * h.val + d.val; omega)
  rw [← hl]
  refine iblk_k m c t ⟨kvOff (grid0.coords t 1).val p.val + kk.val, _⟩ _ (bandIx b r kk) ?_
  have ho := off_eq b r h t p g a e ht hp hg ha
  show 8192 * b.val + 64 * bandRow (r.val / 2) + kk.val
    = 8192 * (t.val / 4) + (128 * min (16 * (t.val % 4) - 2) 44 + (kvOff (grid0.coords t 1).val p.val + kk.val))
  omega

theorem vBlk_eq (kk : Fin 640) (d : Fin 64) : kvBlk (iblk m c 2 t) (grid0.coords t 1) p g (ValueIdx.ix3 0 kk ⟨64 * e.val + d.val, by omega⟩)
    = argV m c (ValueIdx.ix2 (bandIx b r kk) (laneIx h d)) := by
  have hl : (⟨128 * g.val + (64 * e.val + d.val), by omega⟩ : Fin 512) = laneIx h d :=
    Fin.ext (by show 128 * g.val + (64 * e.val + d.val) = 64 * h.val + d.val; omega)
  rw [← hl]
  refine iblk_v m c t ⟨kvOff (grid0.coords t 1).val p.val + kk.val, _⟩ _ (bandIx b r kk) ?_
  have ho := off_eq b r h t p g a e ht hp hg ha
  show 8192 * b.val + 64 * bandRow (r.val / 2) + kk.val
    = 8192 * (t.val / 4) + (128 * min (16 * (t.val % 4) - 2) 44 + (kvOff (grid0.coords t 1).val p.val + kk.val))
  omega

theorem tzBlk_eq (kk : Fin 640) :
    tzBlk (iblk m c 3 t) (grid0.coords t 1) p ⟨2 * g.val + e.val, by omega⟩ a ⟨kk.val / 128, by omega⟩
        (ValueIdx.ix4 0 0 i ⟨kk.val % 128, by omega⟩)
      = if firstRow r.val ≤ bandRow (r.val / 2) + kk.val / 64 ∧ bandRow (r.val / 2) + kk.val / 64 < firstRow r.val + 8
        then biasAt (argB m c) h (bandRow (r.val / 2) + kk.val / 64 + 7 - r.val) i ⟨kk.val % 64, Nat.mod_lt _ (by decide)⟩ else ⊥ := by
  have hh : (⟨2 * g.val + e.val, by omega⟩ : Fin 8) = h := Fin.ext hg.symm
  have hr : 2 * (r.val / 2) + a.val = r.val := by omega
  have hP := pair_eq b r h t p g a e ht hp hg ha
  have key := tileAt_eq (argB m c) h ⟨r.val / 2, by omega⟩ a kk i
  simp only [hr] at key
  rw [hh]
  refine (iblk_t m c t h ⟨tileIx (16 * (grid0.coords t 1).val + p.val) a.val (kk.val / 128), _⟩ i ⟨kk.val % 128, _⟩).trans ?_
  show tileAt (argB m c) h (tileIx (16 * (grid0.coords t 1).val + p.val) a.val (kk.val / 128)) i (kk.val % 128) = _
  rw [hP]
  exact key

theorem bandScore_eq (kk : Fin 640) :
    bandScore (qBlk (iblk m c 0 t) p g) (kvBlk (iblk m c 1 t) (grid0.coords t 1) p g)
      (fun e a s => tzBlk (iblk m c 3 t) (grid0.coords t 1) p ⟨2 * g.val + e.val, by omega⟩ a s) e a i kk
      = bandAt (argQ m c) (argK m c) (argB m c) b r i h kk := by
  unfold bandScore bandAt
  refine congrArg₂ (· + ·) ?_ (tzBlk_eq m c b r i h t p g a e ht hp hg ha kk)
  unfold headLane
  refine (sum_headLane e (fun d => qBlk (iblk m c 0 t) p g (ValueIdx.ix2 ⟨64 * a.val + i.val, by omega⟩ d))
    (fun d => kvBlk (iblk m c 1 t) (grid0.coords t 1) p g (ValueIdx.ix3 0 kk d))).trans ?_
  refine Finset.sum_congr rfl fun d _ => ?_
  exact congrArg₂ (· * ·) (qBlk_eq m c b r i h t p g a e ht hp hg ha d) (kBlk_eq m c b r h t p g a e ht hp hg ha kk d)

theorem attended_at (l : Fin 64) :
    attended m c (ValueIdx.ix2 (rowIx b r i) (laneIx h l))
      = unitOut (grid0.coords t 1) (iblk m c 0 t) (iblk m c 1 t) (iblk m c 2 t) (iblk m c 3 t) p g
          (ValueIdx.ix2 ⟨64 * a.val + i.val, by omega⟩ ⟨64 * e.val + l.val, by omega⟩) := by
  have hpt : pointOf (ValueIdx.ix2 (rowIx b r i) (laneIx h l)) = t :=
    Fin.ext (by show (8192 * b.val + 64 * r.val + i.val) / 2048 = t.val; omega)
  unfold attended
  rw [hpt]
  unfold left blockOut
  have h1 : (8192 * b.val + 64 * r.val + i.val) % 2048 / 128 = p.val := by omega
  have h2 : (64 * h.val + l.val) / 128 = g.val := by omega
  have h3 : (8192 * b.val + 64 * r.val + i.val) % 2048 % 128 = 64 * a.val + i.val := by omega
  have h4 : (64 * h.val + l.val) % 128 = 64 * e.val + l.val := by omega
  have e1 : (⟨(8192 * b.val + 64 * r.val + i.val) % 2048 / 128, by omega⟩ : Fin 16) = p := Fin.ext h1
  have e2 : (⟨(64 * h.val + l.val) / 128, by omega⟩ : Fin 4) = g := Fin.ext h2
  have e3 : (⟨(8192 * b.val + 64 * r.val + i.val) % 2048 % 128, by omega⟩ : Fin 128) = ⟨64 * a.val + i.val, by omega⟩ := Fin.ext h3
  have e4 : (⟨(64 * h.val + l.val) % 128, by omega⟩ : Fin 128) = ⟨64 * e.val + l.val, by omega⟩ := Fin.ext h4
  exact congr (congrArg₂ (unitOut (grid0.coords t 1) (iblk m c 0 t) (iblk m c 1 t) (iblk m c 2 t) (iblk m c 3 t)) e1 e2)
    (congrArg₂ (ValueIdx.ix2 (n0 := 128) (n1 := 128)) e3 e4)

end Point

theorem attended_apply (b : Fin 4) (r : Fin 128) (i : Fin 64) (h : Fin 8) (l : Fin 64) :
    attended m c (ValueIdx.ix2 (rowIx b r i) (laneIx h l))
      = Ideal.div
          (∑ kk, Ideal.exp2 (bandAt (argQ m c) (argK m c) (argB m c) b r i h kk
                - (Finset.univ : Finset (Fin 640)).fold max ⊥ (bandAt (argQ m c) (argK m c) (argB m c) b r i h))
              * argV m c (ValueIdx.ix2 (bandIx b r kk) (laneIx h l)))
          (∑ kk, Ideal.exp2 (bandAt (argQ m c) (argK m c) (argB m c) b r i h kk
                - (Finset.univ : Finset (Fin 640)).fold max ⊥ (bandAt (argQ m c) (argK m c) (argB m c) b r i h)) * 1) := by
  obtain ⟨t, ht⟩ : ∃ t : Fin cfg0.N, t.val = 4 * b.val + r.val / 32 := ⟨⟨4 * b.val + r.val / 32, (show _ < 16 by omega)⟩, rfl⟩
  obtain ⟨p, hp⟩ : ∃ p : Fin 16, p.val = r.val / 2 % 16 := ⟨⟨r.val / 2 % 16, by omega⟩, rfl⟩
  obtain ⟨g, e, hg⟩ : ∃ (g : Fin 4) (e : Fin 2), h.val = 2 * g.val + e.val :=
    ⟨⟨h.val / 2, by omega⟩, ⟨h.val % 2, by omega⟩, by simp only; omega⟩
  obtain ⟨a, ha⟩ : ∃ a : Fin 2, a.val = r.val % 2 := ⟨⟨r.val % 2, by omega⟩, rfl⟩
  rw [attended_at m c b r i h t p g a e ht hp hg ha l]
  unfold unitOut
  rw [finish_apply]
  have hs := bandScore_eq m c b r i h t p g a e ht hp hg ha
  have hf := funext hs
  rw [hf]
  refine congrArg₂ Ideal.div (Finset.sum_congr rfl fun kk _ => ?_) rfl
  exact congrArg₂ (· * ·) rfl (vBlk_eq m c b r h t p g a e ht hp hg ha kk l)

end Cert.KernelIdeal.Gen

end
-- ==== Proof.Window.lean ====
/- The integer tables of the reference: the key rows and the bias entries of a window, and the window's columns. Each is a
   function of small coordinates, settled by evaluating it at every one. -/
module

public import proofs.«01_k».proof.Proof.Attended
public import proofs.«01_k».proof.Proof.Gen.ReferenceIdeal.Read

@[expose] public section

set_option maxRecDepth 65536

noncomputable section

namespace Cert.ReferenceIdeal.Window

open Cert.ReferenceIdeal Cert.ReferenceIdeal.Gen Cert.ReferenceIdeal.Read Idealize.ShloMosaic
open Cert.KernelIdeal.Gen (firstRow colIx inCols)

/-- The grid rows the keys are gathered from. -/
theorem keyRow : ∀ (r : Fin 128) (n : Fin 8),
    (val_main_v73 (F := Ideal) (ValueIdx.ix2 r n) : BitVec 32) = BitVec.ofNat 32 (firstRow r.val + n.val) := by
  decide +kernel

/-- The grid rows the values are gathered from. -/
theorem valueRow : ∀ (r : Fin 128) (n : Fin 8),
    (val_main_v82 (F := Ideal) (ValueIdx.ix2 r n) : BitVec 32) = BitVec.ofNat 32 (firstRow r.val + n.val) := by
  decide +kernel

/-- The row of the bias table: the offset of a window row from the query's row. -/
theorem biasRow : ∀ (r : Fin 128) (n : Fin 8),
    (val_main_v46 (F := Ideal) (ValueIdx.ix4 r 0 n 0) : BitVec 32) = BitVec.ofNat 32 (firstRow r.val + n.val + 7 - r.val) := by
  decide +kernel

/-- The column of the bias table. -/
theorem biasCol : ∀ (i j : Fin 64),
    (val_main_v51 (F := Ideal) (ValueIdx.ix4 0 i 0 j) : BitVec 32) = BitVec.ofNat 32 (colIx i.val j.val) := by
  decide +kernel

/-- The columns inside a query's window. -/
theorem inWindow : ∀ (i j : Fin 64),
    (val_main_v34 (F := Ideal) (ValueIdx.ix2 i j) : BitVec 1) = if inCols i.val j.val then 1#1 else 0#1 := by
  decide +kernel

/-- A small number read back from its word. -/
theorem toNat_small (n k : ℕ) (h : n ≤ k) (hk : k < 1000) : min (BitVec.ofNat 32 n).toInt.toNat k = n := by
  rw [BitVec.toInt_eq_toNat_of_lt (by rw [BitVec.toNat_ofNat]; omega), BitVec.toNat_ofNat, Nat.mod_eq_of_lt (by omega)]
  omega

end Cert.ReferenceIdeal.Window

end
-- ==== Proof.Gathered.lean ====
/- The reference's operands read at an element: queries, gathered keys and values, and the bias with its mask. -/
module

public import proofs.«01_k».proof.Proof.Window
public import Idealize.ShloMosaic.Lib.ValueIdxRank6
public import Idealize.ShloMosaic.Lib.TwoAxisContraction
public import Idealize.ShloMosaic.Lib.KernelVsHost

@[expose] public section

set_option maxRecDepth 65536

noncomputable section

namespace Cert.ReferenceIdeal.Window

open Cert.ReferenceIdeal Cert.ReferenceIdeal.Gen Cert.ReferenceIdeal.Read Idealize.ShloMosaic
open Cert.KernelIdeal.Gen (firstRow colIx colIx_lt inCols rowIx laneIx ofBits_eighth ofBits_negInf)

variable (q k v : Vec Ideal S32768x512 .f32) (rpb : Vec Ideal S8x15x31 .f32)

/-- The grid row of row `n` of the window of a query in row `r`. -/
abbrev windowRow (r : Fin 128) (n : Fin 8) : Fin 128 :=
  ⟨firstRow r.val + n.val, by have := r.isLt; have := n.isLt; unfold firstRow; omega⟩

theorem biasRow_lt (r : Fin 128) (n : Fin 8) : firstRow r.val + n.val + 7 - r.val < 15 := by
  have := r.isLt; have := n.isLt; unfold firstRow; omega

/-- A query element scaled by an eighth. -/
theorem query_apply (b : Fin 4) (h : Fin 8) (r : Fin 128) (i d : Fin 64) :
    val_main_v66 (F := Ideal) q (ValueIdx.ix5 b h r i d) = q (ValueIdx.ix2 (rowIx b r i) (laneIx h d)) * ((1 / 8 : ℝ) : EReal) := by
  rw [val_main_v66_apply, val_main_v64_apply, val_main_v63_apply, val_main_v65_apply, val_main_cst_15_apply]
  refine congrArg₂ (fun x y : EReal => x * y) (congrArg q ?_) ofBits_eighth
  funext a
  match a with
  | ⟨0, _⟩ => refine Fin.ext ?_; show ((((b.val * 128 + r.val) * 64 + i.val) * 8 + h.val) * 64 + d.val) / 512 = 8192 * b.val + 64 * r.val + i.val; omega
  | ⟨1, _⟩ => refine Fin.ext ?_; show ((((b.val * 128 + r.val) * 64 + i.val) * 8 + h.val) * 64 + d.val) % 512 = 64 * h.val + d.val; omega

theorem keys_apply (b : Fin 4) (h : Fin 8) (r : Fin 128) (i d : Fin 64) :
    val_main_v68 (F := Ideal) k (ValueIdx.ix5 b h r i d) = k (ValueIdx.ix2 (rowIx b r i) (laneIx h d)) := by
  rw [val_main_v68_apply, val_main_v67_apply]
  refine congrArg k ?_
  funext a
  match a with
  | ⟨0, _⟩ => refine Fin.ext ?_; show ((((b.val * 128 + r.val) * 64 + i.val) * 8 + h.val) * 64 + d.val) / 512 = 8192 * b.val + 64 * r.val + i.val; omega
  | ⟨1, _⟩ => refine Fin.ext ?_; show ((((b.val * 128 + r.val) * 64 + i.val) * 8 + h.val) * 64 + d.val) % 512 = 64 * h.val + d.val; omega

theorem values_apply (b : Fin 4) (h : Fin 8) (r : Fin 128) (i d : Fin 64) :
    val_main_v77 (F := Ideal) v (ValueIdx.ix5 b h r i d) = v (ValueIdx.ix2 (rowIx b r i) (laneIx h d)) := by
  rw [val_main_v77_apply, val_main_v76_apply]
  refine congrArg v ?_
  funext a
  match a with
  | ⟨0, _⟩ => refine Fin.ext ?_; show ((((b.val * 128 + r.val) * 64 + i.val) * 8 + h.val) * 64 + d.val) / 512 = 8192 * b.val + 64 * r.val + i.val; omega
  | ⟨1, _⟩ => refine Fin.ext ?_; show ((((b.val * 128 + r.val) * 64 + i.val) * 8 + h.val) * 64 + d.val) % 512 = 64 * h.val + d.val; omega

theorem rows_index (b : Fin 4) (h : Fin 8) (r : Fin 128) (n : Fin 8) (j d : Fin 64) :
    gather_S4x8x128x64x64_S128x8x1_S4x8x128x8x64x64_0145_2_n_n_2_2_4816464.siIdx (ValueIdx.ix6 b h r n j d) ⟨0, by decide⟩
      = ValueIdx.ix3 r n 0 := by
  funext a
  match a with
  | ⟨0, _⟩ => rfl
  | ⟨1, _⟩ => rfl
  | ⟨2, _⟩ => rfl

/-- Rows gathered from a grid, at rows known as numbers. -/
theorem rows_apply (x : Vec Ideal S4x8x128x64x64 .f32) (g : IVec S128x8x1 32) (b : Fin 4) (h : Fin 8) (r : Fin 128) (n : Fin 8)
    (j d : Fin 64) (hg : g (ValueIdx.ix3 r n 0) = BitVec.ofNat 32 (windowRow r n).val) :
    Host.gather gather_S4x8x128x64x64_S128x8x1_S4x8x128x8x64x64_0145_2_n_n_2_2_4816464 x g (ValueIdx.ix6 b h r n j d)
      = x (ValueIdx.ix5 b h (windowRow r n) j d) := by
  unfold Host.gather
  refine congrArg x (funext fun a => Fin.ext ?_)
  match a with
  | ⟨0, _⟩ => show 0 + 0 + b.val = b.val; omega
  | ⟨1, _⟩ => show 0 + 0 + h.val = h.val; omega
  | ⟨2, _⟩ =>
    show min (g (gather_S4x8x128x64x64_S128x8x1_S4x8x128x8x64x64_0145_2_n_n_2_2_4816464.siIdx (ValueIdx.ix6 b h r n j d) ⟨0, by decide⟩)).toInt.toNat 127 + 0 + 0 = (windowRow r n).val
    rw [rows_index, hg, toNat_small _ _ (by have := (windowRow r n).isLt; omega) (by omega)]; rfl
  | ⟨3, _⟩ => show 0 + 0 + j.val = j.val; omega
  | ⟨4, _⟩ => show 0 + 0 + d.val = d.val; omega

theorem key_apply (b : Fin 4) (h : Fin 8) (r : Fin 128) (n : Fin 8) (j d : Fin 64) :
    val_main_v75 (F := Ideal) k (ValueIdx.ix6 b h r n j d) = k (ValueIdx.ix2 (rowIx b (windowRow r n) j) (laneIx h d)) := by
  unfold val_main_v75
  rw [rows_apply _ _ b h r n j d, keys_apply]
  rw [val_main_v74_apply]
  refine Eq.trans (congrArg (val_main_v73 (F := Ideal)) ?_) (keyRow r n)
  funext a
  match a with
  | ⟨0, _⟩ => rfl
  | ⟨1, _⟩ => rfl

theorem value_apply (b : Fin 4) (h : Fin 8) (r : Fin 128) (n : Fin 8) (j d : Fin 64) :
    val_main_v84 (F := Ideal) v (ValueIdx.ix6 b h r n j d) = v (ValueIdx.ix2 (rowIx b (windowRow r n) j) (laneIx h d)) := by
  unfold val_main_v84
  rw [rows_apply _ _ b h r n j d, values_apply]
  rw [val_main_v83_apply]
  refine Eq.trans (congrArg (val_main_v82 (F := Ideal)) ?_) (valueRow r n)
  funext a
  match a with
  | ⟨0, _⟩ => rfl
  | ⟨1, _⟩ => rfl

/-- The pairs of bias coordinates: the first is the row's. -/
theorem pairs_row (r : Fin 128) (i : Fin 64) (n : Fin 8) (j : Fin 64) :
    (val_main_v56 (F := Ideal) (ValueIdx.ix5 r i n j 0) : BitVec 32) = BitVec.ofNat 32 (firstRow r.val + n.val + 7 - r.val) := by
  unfold val_main_v56
  rw [concatenate_pair_apply_left (s₁ := S128x64x8x64x1) (s₂ := S128x64x8x64x1) (t := S128x64x8x64x2) 4 _ _ _
    (ValueIdx.ix5 r i n j 0) rfl (ValueIdx.ix5 r i n j 0) (fun b => by
      match b with | ⟨0, _⟩ => rfl | ⟨1, _⟩ => rfl | ⟨2, _⟩ => rfl | ⟨3, _⟩ => rfl | ⟨4, _⟩ => rfl)]
  rw [val_main_v54_apply, val_main_v52_apply]
  refine Eq.trans (congrArg (val_main_v46 (F := Ideal)) ?_) (biasRow r n)
  funext a
  match a with
  | ⟨0, _⟩ => rfl
  | ⟨1, _⟩ => rfl
  | ⟨2, _⟩ => rfl
  | ⟨3, _⟩ => rfl

/-- The second is the column's. -/
theorem pairs_col (r : Fin 128) (i : Fin 64) (n : Fin 8) (j : Fin 64) :
    (val_main_v56 (F := Ideal) (ValueIdx.ix5 r i n j 1) : BitVec 32) = BitVec.ofNat 32 (colIx i.val j.val) := by
  unfold val_main_v56
  rw [concatenate_pair_apply_right (s₁ := S128x64x8x64x1) (s₂ := S128x64x8x64x1) (t := S128x64x8x64x2) 4 _ _ _
    (ValueIdx.ix5 r i n j 1) rfl rfl (ValueIdx.ix5 r i n j 0) (fun b hb => by
      match b with | ⟨0, _⟩ => rfl | ⟨1, _⟩ => rfl | ⟨2, _⟩ => rfl | ⟨3, _⟩ => rfl | ⟨4, _⟩ => exact absurd rfl hb) rfl]
  rw [val_main_v55_apply, val_main_v53_apply]
  refine Eq.trans (congrArg (val_main_v51 (F := Ideal)) ?_) (biasCol i j)
  funext a
  match a with
  | ⟨0, _⟩ => rfl
  | ⟨1, _⟩ => rfl
  | ⟨2, _⟩ => rfl
  | ⟨3, _⟩ => rfl

theorem pairs_index (h : Fin 8) (r : Fin 128) (i : Fin 64) (n : Fin 8) (j : Fin 64) :
    (gather_S8x15x31_S128x64x8x64x2_S8x128x64x8x64_0_12_n_n_12_4_811.siIdx (ValueIdx.ix5 h r i n j) ⟨0, by decide⟩
      = ValueIdx.ix5 r i n j 0)
    ∧ gather_S8x15x31_S128x64x8x64x2_S8x128x64x8x64_0_12_n_n_12_4_811.siIdx (ValueIdx.ix5 h r i n j) ⟨1, by decide⟩
      = ValueIdx.ix5 r i n j 1 := by
  constructor <;>
  · funext a
    match a with
    | ⟨0, _⟩ => rfl
    | ⟨1, _⟩ => rfl
    | ⟨2, _⟩ => rfl
    | ⟨3, _⟩ => rfl
    | ⟨4, _⟩ => rfl

/-- The gathered bias. -/
theorem bias_apply (h : Fin 8) (r : Fin 128) (i : Fin 64) (n : Fin 8) (j : Fin 64) :
    val_main_v57 (F := Ideal) rpb (ValueIdx.ix5 h r i n j)
      = rpb (ValueIdx.ix3 h ⟨firstRow r.val + n.val + 7 - r.val, biasRow_lt r n⟩ ⟨colIx i.val j.val, colIx_lt _ _⟩) := by
  unfold val_main_v57 Host.gather
  refine congrArg rpb (funext fun a => Fin.ext ?_)
  match a with
  | ⟨0, _⟩ => show 0 + 0 + h.val = h.val; omega
  | ⟨1, _⟩ =>
    show min (val_main_v56 (F := Ideal) (gather_S8x15x31_S128x64x8x64x2_S8x128x64x8x64_0_12_n_n_12_4_811.siIdx (ValueIdx.ix5 h r i n j) ⟨0, by decide⟩)).toInt.toNat 14 + 0 + 0 = firstRow r.val + n.val + 7 - r.val
    have hb := biasRow_lt r n
    rw [(pairs_index h r i n j).1, pairs_row, toNat_small _ _ (by omega) (by omega)]; rfl
  | ⟨2, _⟩ =>
    show min (val_main_v56 (F := Ideal) (gather_S8x15x31_S128x64x8x64x2_S8x128x64x8x64_0_12_n_n_12_4_811.siIdx (ValueIdx.ix5 h r i n j) ⟨1, by decide⟩)).toInt.toNat 30 + 0 + 0 = colIx i.val j.val
    have hb := colIx_lt i.val j.val
    rw [(pairs_index h r i n j).2, pairs_col, toNat_small _ _ (by omega) (by omega)]; rfl

/-- The mask of the columns. -/
theorem mask_apply (h : Fin 8) (r : Fin 128) (i : Fin 64) (n : Fin 8) (j : Fin 64) :
    val_main_v61 (F := Ideal) (ValueIdx.ix5 h r i n j) = if inCols i.val j.val then (0 : EReal) else ⊥ := by
  rw [val_main_v61_apply, val_main_v60_apply, val_main_v59_apply, val_main_v58_apply]
  have hi : idx_main_v60 (idx_main_v61 (ValueIdx.ix5 h r i n j)) = ValueIdx.ix2 i j := by
    funext a
    match a with
    | ⟨0, _⟩ => rfl
    | ⟨1, _⟩ => rfl
  rw [hi, inWindow, val_main_call3_v0_apply, val_main_call3_v1_apply, val_main_cst_apply, val_main_cst_14_apply]
  by_cases hc : inCols i.val j.val
  · rw [if_pos hc, if_pos hc]; exact Ideal.ofBits_zero_f32
  · rw [if_neg hc, if_neg hc]; exact ofBits_negInf

end Cert.ReferenceIdeal.Window

end
-- ==== Proof.Weighted.lean ====
/- The reference's attention read at an element: the softmax of the window's scores against the window's values. -/
module

public import proofs.«01_k».proof.Proof.Gathered

@[expose] public section

set_option maxRecDepth 65536

noncomputable section

namespace Cert.ReferenceIdeal.Window

open Cert.ReferenceIdeal Cert.ReferenceIdeal.Gen Cert.ReferenceIdeal.Read Idealize.ShloMosaic
open Cert.KernelIdeal.Gen (firstRow colIx colIx_lt inCols rowIx laneIx ofBits_negInf)

variable (q k v : Vec Ideal S32768x512 .f32) (rpb : Vec Ideal S8x15x31 .f32)

/-- The window row and the column of a window position. -/
abbrev winRow (kk : Fin 512) : Fin 8 := ⟨kk.val / 64, by omega⟩
abbrev winCol (kk : Fin 512) : Fin 64 := ⟨kk.val % 64, by omega⟩

/-- The score of a query against the key at a window position, minus infinity outside the query's columns. -/
def scoreAt (b : Fin 4) (r : Fin 128) (i : Fin 64) (h : Fin 8) (kk : Fin 512) : EReal :=
  (∑ d : Fin 64, q (ValueIdx.ix2 (rowIx b r i) (laneIx h d)) * ((1 / 8 : ℝ) : EReal)
      * k (ValueIdx.ix2 (rowIx b (windowRow r (winRow kk)) (winCol kk)) (laneIx h d)))
    + (rpb (ValueIdx.ix3 h ⟨firstRow r.val + (winRow kk).val + 7 - r.val, biasRow_lt r (winRow kk)⟩
          ⟨colIx i.val (winCol kk).val, colIx_lt _ _⟩)
        + if inCols i.val (winCol kk).val then (0 : EReal) else ⊥)

theorem scores_apply (b : Fin 4) (h : Fin 8) (r : Fin 128) (i : Fin 64) (kk : Fin 512) :
    val_main_v88 (F := Ideal) q k rpb (ValueIdx.ix6 b h r i (winRow kk) (winCol kk)) = scoreAt q k rpb b r i h kk := by
  rw [val_main_v88_apply, val_main_v85_apply, val_main_v87_apply, val_main_v86_apply, val_main_v62_apply]
  refine congrArg₂ (fun x y : EReal => x + y) (Finset.sum_congr rfl fun d _ => ?_) ?_
  · refine congrArg₂ (fun x y : EReal => x * y) ?_ ?_
    · refine Eq.trans (congrArg (val_main_v66 (F := Ideal) q) ?_) (query_apply q b h r i d)
      funext a
      match a with
      | ⟨0, _⟩ => rfl
      | ⟨1, _⟩ => rfl
      | ⟨2, _⟩ => rfl
      | ⟨3, _⟩ => rfl
      | ⟨4, _⟩ => rfl
    · refine Eq.trans (congrArg (val_main_v75 (F := Ideal) k) ?_) (key_apply k b h r (winRow kk) (winCol kk) d)
      funext a
      match a with
      | ⟨0, _⟩ => rfl
      | ⟨1, _⟩ => rfl
      | ⟨2, _⟩ => rfl
      | ⟨3, _⟩ => rfl
      | ⟨4, _⟩ => rfl
      | ⟨5, _⟩ => rfl
  · have hi : idx_main_v86 (idx_main_v87 (ValueIdx.ix6 b h r i (winRow kk) (winCol kk))) = ValueIdx.ix5 h r i (winRow kk) (winCol kk) := by
      funext a
      match a with
      | ⟨0, _⟩ => rfl
      | ⟨1, _⟩ => rfl
      | ⟨2, _⟩ => rfl
      | ⟨3, _⟩ => rfl
      | ⟨4, _⟩ => rfl
    rw [hi]
    exact congrArg₂ (fun x y : EReal => x + y) (bias_apply rpb h r i (winRow kk) (winCol kk)) (mask_apply h r i (winRow kk) (winCol kk))

/-- The scores laid out along one axis. -/
theorem flat_apply (b : Fin 4) (h : Fin 8) (r : Fin 128) (i : Fin 64) (kk : Fin 512) :
    val_main_v89 (F := Ideal) q k rpb (ValueIdx.ix5 b h r i kk) = scoreAt q k rpb b r i h kk := by
  unfold val_main_v89
  rw [shapeCast_apply _ _ _ (ValueIdx.ix6 b h r i (winRow kk) (winCol kk)) (by
    rw [Shape.rowMajor_val_five, Shape.rowMajor_val_six]
    show ((((b.val * 8 + h.val) * 128 + r.val) * 64 + i.val) * 8 + kk.val / 64) * 64 + kk.val % 64
      = (((b.val * 8 + h.val) * 128 + r.val) * 64 + i.val) * 512 + kk.val
    omega)]
  exact scores_apply q k rpb b h r i kk

theorem reduces_window : S4x8x128x64x512.Reduces [4] S4x8x128x64 := by
  have h := reducesTo_S4x8x128x64x512_S4x8x128x64_d4
  exact ⟨h.1, by decide, h.2⟩

/-- The maximum of a query's scores. -/
theorem max_apply (b : Fin 4) (h : Fin 8) (r : Fin 128) (i : Fin 64) :
    val_main_v92 (F := Ideal) q k rpb (ValueIdx.ix4 b h r i)
      = max ⊥ ((Finset.univ : Finset (Fin 512)).fold max ⊥ (scoreAt q k rpb b r i h)) := by
  rw [val_main_v92_apply, val_main_v91_apply, val_main_cst_21_apply]
  refine congrArg₂ (fun x y : EReal => max x y) ofBits_negInf ?_
  unfold val_main_v90 val_main_cst_20
  refine (congrFun (hostReduce_maximumf_eq_multiReduction _ _ _ _ reduces_window (.inl rfl) rfl) _).trans ?_
  refine (Ideal.multiReduction_maximumf_single (a := 4) _ _ reduces_window (.inl rfl) rfl (ValueIdx.ix4 b h r i)).trans ?_
  refine (congrArg (fun z => Finset.fold max z _ _) ofBits_negInf).trans ?_
  refine congrArg (fun z => Finset.fold max ⊥ z (Finset.univ : Finset (Fin 512))) ?_
  funext kk
  refine Eq.trans (congrArg (val_main_v89 (F := Ideal) q k rpb) ?_) (flat_apply q k rpb b h r i kk)
  funext a
  match a with
  | ⟨0, _⟩ => rfl
  | ⟨1, _⟩ => rfl
  | ⟨2, _⟩ => rfl
  | ⟨3, _⟩ => rfl
  | ⟨4, _⟩ => rfl

/-- The exponentials. -/
theorem exp_apply (b : Fin 4) (h : Fin 8) (r : Fin 128) (i : Fin 64) (kk : Fin 512) :
    val_main_v96 (F := Ideal) q k rpb (ValueIdx.ix5 b h r i kk)
      = Ideal.exp (scoreAt q k rpb b r i h kk - max ⊥ ((Finset.univ : Finset (Fin 512)).fold max ⊥ (scoreAt q k rpb b r i h))) := by
  rw [val_main_v96_apply, val_main_v95_apply, val_main_v94_apply, val_main_v93_apply, flat_apply]
  refine congrArg (fun z : EReal => Ideal.exp (scoreAt q k rpb b r i h kk - z)) ?_
  refine Eq.trans (congrArg (val_main_v92 (F := Ideal) q k rpb) ?_) (max_apply q k rpb b h r i)
  funext a
  match a with
  | ⟨0, _⟩ => rfl
  | ⟨1, _⟩ => rfl
  | ⟨2, _⟩ => rfl
  | ⟨3, _⟩ => rfl

/-- The weight of a window position. -/
def weightAt (b : Fin 4) (r : Fin 128) (i : Fin 64) (h : Fin 8) (kk : Fin 512) : EReal :=
  Ideal.div (Ideal.exp (scoreAt q k rpb b r i h kk - max ⊥ ((Finset.univ : Finset (Fin 512)).fold max ⊥ (scoreAt q k rpb b r i h))))
    (0 + ∑ j : Fin 512, Ideal.exp (scoreAt q k rpb b r i h j
      - max ⊥ ((Finset.univ : Finset (Fin 512)).fold max ⊥ (scoreAt q k rpb b r i h))))

theorem weight_apply (b : Fin 4) (h : Fin 8) (r : Fin 128) (i : Fin 64) (kk : Fin 512) :
    val_main_v100 (F := Ideal) q k rpb (ValueIdx.ix5 b h r i kk) = weightAt q k rpb b r i h kk := by
  rw [val_main_v100_apply, val_main_v99_apply, val_main_v98_apply, val_main_v97_apply, exp_apply]
  refine congrArg (fun z : EReal => Ideal.div _ z) ?_
  refine congrArg₂ (fun x y : EReal => x + y) Ideal.ofBits_zero_f32 (Finset.sum_congr rfl fun j _ => ?_)
  refine Eq.trans (congrArg (val_main_v96 (F := Ideal) q k rpb) ?_) (exp_apply q k rpb b h r i j)
  funext a
  match a with
  | ⟨0, _⟩ => rfl
  | ⟨1, _⟩ => rfl
  | ⟨2, _⟩ => rfl
  | ⟨3, _⟩ => rfl
  | ⟨4, _⟩ => rfl

/-- A window position from its row and column. -/
abbrev winAt (n : Fin 8) (j : Fin 64) : Fin 512 := ⟨64 * n.val + j.val, by omega⟩

theorem weights_apply (b : Fin 4) (h : Fin 8) (r : Fin 128) (i : Fin 64) (n : Fin 8) (j : Fin 64) :
    val_main_v101 (F := Ideal) q k rpb (ValueIdx.ix6 b h r i n j) = weightAt q k rpb b r i h (winAt n j) := by
  unfold val_main_v101
  rw [shapeCast_apply _ _ _ (ValueIdx.ix5 b h r i (winAt n j)) (by
    rw [Shape.rowMajor_val_five, Shape.rowMajor_val_six]
    show (((b.val * 8 + h.val) * 128 + r.val) * 64 + i.val) * 512 + (64 * n.val + j.val)
      = ((((b.val * 8 + h.val) * 128 + r.val) * 64 + i.val) * 8 + n.val) * 64 + j.val
    omega)]
  exact weight_apply q k rpb b h r i (winAt n j)

/-- A sum over columns and rows is the sum over the window's positions. -/
theorem sum_window (f : Fin 512 → EReal) : (∑ j : Fin 64, ∑ n : Fin 8, f (winAt n j)) = ∑ kk : Fin 512, f kk := by
  rw [Finset.sum_comm, ← Fintype.sum_prod_type' (fun (n : Fin 8) (j : Fin 64) => f (winAt n j))]
  refine Fintype.sum_equiv (finProdFinEquiv (m := 8) (n := 64)) _ _ fun p => congrArg f (Fin.ext ?_)
  show 64 * p.1.val + p.2.val = p.2.val + 64 * p.1.val
  omega

theorem weighted_apply (b : Fin 4) (h : Fin 8) (r : Fin 128) (i l : Fin 64) :
    val_main_v102 (F := Ideal) q k v rpb (ValueIdx.ix5 b h r i l)
      = ∑ kk : Fin 512, weightAt q k rpb b r i h kk
          * v (ValueIdx.ix2 (rowIx b (windowRow r (winRow kk)) (winCol kk)) (laneIx h l)) := by
  unfold val_main_v102
  show Host.dotGeneral _ _ _ _ _ = _
  simp only [Host.dotGeneral]
  rw [Ideal.dotGeneral_apply,
    ValueIdx.sum_contr2 dot_S4x8x128x64x8x64_S4x8x128x8x64x64_S4x8x128x64x64_54_43_3_5_012_012 64 8 rfl rfl rfl,
    ← sum_window]
  refine Finset.sum_congr rfl fun j _ => Finset.sum_congr rfl fun n _ => ?_
  have e0 := ValueIdx.contrEquiv2_symm_val0 dot_S4x8x128x64x8x64_S4x8x128x8x64x64_S4x8x128x64x64_54_43_3_5_012_012 64 8 rfl rfl rfl (j, n)
  have e1 := ValueIdx.contrEquiv2_symm_val1 dot_S4x8x128x64x8x64_S4x8x128x8x64x64_S4x8x128x64x64_54_43_3_5_012_012 64 8 rfl rfl rfl (j, n)
  refine congrArg₂ (fun x y : EReal => x * y) ?_ ?_
  · refine Eq.trans (congrArg (val_main_v101 (F := Ideal) q k rpb) ?_) (weights_apply q k rpb b h r i n j)
    funext a
    match a with
    | ⟨0, _⟩ => rfl
    | ⟨1, _⟩ => rfl
    | ⟨2, _⟩ => rfl
    | ⟨3, _⟩ => rfl
    | ⟨4, _⟩ => exact Fin.ext e1
    | ⟨5, _⟩ => exact Fin.ext e0
  · refine Eq.trans (congrArg (val_main_v84 (F := Ideal) v) ?_) ((value_apply v b h r n j l).trans ?_)
    · funext a
      match a with
      | ⟨0, _⟩ => rfl
      | ⟨1, _⟩ => rfl
      | ⟨2, _⟩ => rfl
      | ⟨3, _⟩ => exact Fin.ext e1
      | ⟨4, _⟩ => exact Fin.ext e0
      | ⟨5, _⟩ => rfl
    · have hn : winRow (winAt n j) = n := Fin.ext (by show (64 * n.val + j.val) / 64 = n.val; omega)
      have hj : winCol (winAt n j) = j := Fin.ext (by show (64 * n.val + j.val) % 64 = j.val; omega)
      rw [hn, hj]

/-- The reference's result at an element. -/
theorem reference_apply (b : Fin 4) (r : Fin 128) (i : Fin 64) (h : Fin 8) (l : Fin 64) :
    val_main_v104 (F := Ideal) q k v rpb (ValueIdx.ix2 (rowIx b r i) (laneIx h l))
      = ∑ kk : Fin 512, weightAt q k rpb b r i h kk
          * v (ValueIdx.ix2 (rowIx b (windowRow r (winRow kk)) (winCol kk)) (laneIx h l)) := by
  rw [val_main_v104_apply, val_main_v103_apply]
  refine Eq.trans (congrArg (val_main_v102 (F := Ideal) q k v rpb) ?_) (weighted_apply q k v rpb b h r i l)
  have hb := b.isLt
  have hr := r.isLt
  have hi := i.isLt
  have hh := h.isLt
  have hl := l.isLt
  funext a
  match a with
  | ⟨0, _⟩ => refine Fin.ext ?_; show ((8192 * b.val + 64 * r.val + i.val) * 512 + (64 * h.val + l.val)) / 4194304 = b.val; omega
  | ⟨1, _⟩ => refine Fin.ext ?_; show ((8192 * b.val + 64 * r.val + i.val) * 512 + (64 * h.val + l.val)) / 64 % 8 = h.val; omega
  | ⟨2, _⟩ => refine Fin.ext ?_; show ((8192 * b.val + 64 * r.val + i.val) * 512 + (64 * h.val + l.val)) / 32768 % 128 = r.val; omega
  | ⟨3, _⟩ => refine Fin.ext ?_; show ((8192 * b.val + 64 * r.val + i.val) * 512 + (64 * h.val + l.val)) / 512 % 64 = i.val; omega
  | ⟨4, _⟩ => refine Fin.ext ?_; show ((8192 * b.val + 64 * r.val + i.val) * 512 + (64 * h.val + l.val)) % 64 = l.val; omega

end Cert.ReferenceIdeal.Window

end
-- ==== Proof.Soft.lean ====
/-
  The mathematics of the softmax, on the extended reals: powers of two of scores divided by log 2, summed over a band of
  keys of which only a window counts, give the softmax over the window.
-/
module

public import Idealize.ShloMosaic.PureOps.Ideal
public import Idealize.ShloMosaic.PureOps.Ideal.Laws
public import Idealize.ShloMosaic.Lib.IdealHost

@[expose] public section

noncomputable section

namespace Cert.Soft

open Idealize.ShloMosaic

/-- The maximum of a family of extended reals that has a greatest member. -/
theorem fold_max_eq {ι : Type} [Fintype ι] (f : ι → EReal) (m : EReal) (i : ι) (hi : f i = m) (h : ∀ j, f j ≤ m) :
    (Finset.univ : Finset ι).fold max ⊥ f = m := by
  refine le_antisymm ?_ ?_
  · exact Finset.sup_le (f := f) (s := Finset.univ) fun j _ => h j
  · rw [← hi]; exact Finset.le_sup (f := f) (s := Finset.univ) (Finset.mem_univ i)

/-- A finite sum of extended reals times a real that is not negative. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of reals, taken on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A power of two of a number divided by log 2 is the exponential. -/
theorem two_rpow_div_log (x : ℝ) : Real.rpow 2 (x * (1 / Real.log 2)) = Real.exp x := by
  have h2 : Real.log 2 ≠ 0 := (Real.log_pos one_lt_two).ne'
  show (2 : ℝ) ^ (x * (1 / Real.log 2)) = _
  rw [Real.rpow_def_of_pos two_pos]
  congr 1
  field_simp

variable {ι κ : Type} [Fintype ι] [Fintype κ]

/-- The band and the window: powers of two of the scaled scores over the band, weighted and divided by their sum, are
    the softmax of the scores over the window times the values. -/
theorem band_eq_window (e : κ → ι) (he : Function.Injective e) (live : κ → Prop) [DecidablePred live] (x : κ → ℝ)
    (t : ι → EReal) (s : κ → EReal) (v : ι → EReal) (u : κ → EReal)
    (ht : ∀ j, t (e j) = if live j then ((x j * (1 / Real.log 2) : ℝ) : EReal) else ⊥)
    (ht' : ∀ i, i ∉ Set.range e → t i = ⊥)
    (hs : ∀ j, s j = if live j then ((x j : ℝ) : EReal) else ⊥)
    (hv : ∀ j, v (e j) = u j) (hlive : ∃ j, live j) :
    Ideal.div (∑ i, Ideal.exp2 (t i - (Finset.univ : Finset ι).fold max ⊥ t) * v i)
        (∑ i, Ideal.exp2 (t i - (Finset.univ : Finset ι).fold max ⊥ t) * 1)
      = ∑ j, Ideal.div (Ideal.exp (s j - max ⊥ ((Finset.univ : Finset κ).fold max ⊥ s)))
          (0 + ∑ j, Ideal.exp (s j - max ⊥ ((Finset.univ : Finset κ).fold max ⊥ s))) * u j := by
  classical
  obtain ⟨j₀, hj₀, hmax⟩ := Finset.exists_max_image (Finset.univ.filter live) x
    (by obtain ⟨j, hj⟩ := hlive; exact ⟨j, by simpa using hj⟩)
  have hl₀ : live j₀ := by simpa using hj₀
  have hmax' : ∀ j, live j → x j ≤ x j₀ := fun j hj => hmax j (by simpa using hj)
  have hc : 0 < 1 / Real.log 2 := one_div_pos.mpr (Real.log_pos one_lt_two)
  have hS : (Finset.univ : Finset κ).fold max ⊥ s = (x j₀ : EReal) := by
    refine fold_max_eq s _ j₀ (by rw [hs, if_pos hl₀]) fun j => ?_
    rw [hs]
    by_cases h : live j
    · rw [if_pos h]; exact_mod_cast hmax' j h
    · rw [if_neg h]; exact bot_le
  have hT : (Finset.univ : Finset ι).fold max ⊥ t = ((x j₀ * (1 / Real.log 2) : ℝ) : EReal) := by
    refine fold_max_eq t _ (e j₀) (by rw [ht, if_pos hl₀]) fun i => ?_
    by_cases hi : i ∈ Set.range e
    · obtain ⟨j, rfl⟩ := hi
      rw [ht]
      by_cases h : live j
      · rw [if_pos h]; exact_mod_cast mul_le_mul_of_nonneg_right (hmax' j h) hc.le
      · rw [if_neg h]; exact bot_le
    · rw [ht' i hi]; exact bot_le
  rw [hS, hT, max_eq_right bot_le, zero_add]
  let w : κ → ℝ := fun j => if live j then Real.exp (x j - x j₀) else 0
  have hw0 : ∀ j, 0 ≤ w j := fun j => by
    show 0 ≤ if live j then Real.exp (x j - x j₀) else 0
    split
    · exact (Real.exp_pos _).le
    · exact le_rfl
  have hL : 0 < ∑ j, w j := by
    refine Finset.sum_pos' (fun j _ => hw0 j) ⟨j₀, Finset.mem_univ _, ?_⟩
    show 0 < if live j₀ then Real.exp (x j₀ - x j₀) else 0
    rw [if_pos hl₀]; exact Real.exp_pos _
  have hbot : ∀ r : ℝ, (⊥ : EReal) - (r : EReal) = ⊥ := fun r => EReal.bot_sub _
  have hpe : ∀ j, Ideal.exp2 (t (e j) - ((x j₀ * (1 / Real.log 2) : ℝ) : EReal)) = (w j : EReal) := fun j => by
    show _ = ((if live j then Real.exp (x j - x j₀) else 0 : ℝ) : EReal)
    rw [ht]
    by_cases h : live j
    · rw [if_pos h, if_pos h, ← EReal.coe_sub, ← sub_mul, Ideal.exp2_coe, two_rpow_div_log]
    · rw [if_neg h, if_neg h, hbot, Ideal.exp2_bot, EReal.coe_zero]
  have hpo : ∀ i, i ∉ Set.range e → Ideal.exp2 (t i - ((x j₀ * (1 / Real.log 2) : ℝ) : EReal)) = 0 := fun i hi => by
    rw [ht' i hi, hbot, Ideal.exp2_bot]
  have hqe : ∀ j, Ideal.exp (s j - (x j₀ : EReal)) = (w j : EReal) := fun j => by
    show _ = ((if live j then Real.exp (x j - x j₀) else 0 : ℝ) : EReal)
    rw [hs]
    by_cases h : live j
    · rw [if_pos h, if_pos h, ← EReal.coe_sub, Ideal.exp_coe]
    · rw [if_neg h, if_neg h, hbot, Ideal.exp_bot, EReal.coe_zero]
  have hA : (∑ i, Ideal.exp2 (t i - ((x j₀ * (1 / Real.log 2) : ℝ) : EReal)) * v i) = ∑ j, (w j : EReal) * u j :=
    (Fintype.sum_of_injective e he _ _ (fun i hi => by rw [hpo i hi, zero_mul]) (fun j => by rw [hpe, hv])).symm
  have hB : (∑ i, Ideal.exp2 (t i - ((x j₀ * (1 / Real.log 2) : ℝ) : EReal)) * 1) = ((∑ j, w j : ℝ) : EReal) := by
    rw [coe_sum]
    exact (Fintype.sum_of_injective e he _ _ (fun i hi => by rw [hpo i hi, zero_mul]) (fun j => by rw [hpe, mul_one])).symm
  rw [hA, hB, Ideal.div_coe hL.ne']
  simp only [hqe]
  rw [← coe_sum, sum_mul_coe _ _ _ (one_div_pos.mpr hL).le]
  refine Finset.sum_congr rfl fun j _ => ?_
  rw [Ideal.div_coe hL.ne']
  rw [mul_assoc, mul_comm (u j), ← mul_assoc]

end Cert.Soft

end
-- ==== Proof.Equal.lean ====
/- The two readings of the attention agree: the band's powers of two against the window's exponentials, on finite queries,
   keys and biases. -/
module

public import proofs.«01_k».proof.Proof.Weighted
public import proofs.«01_k».proof.Proof.Soft

@[expose] public section

set_option maxRecDepth 65536

noncomputable section

namespace Cert.Equal

open Idealize.ShloMosaic
open Cert.KernelIdeal.Gen (firstRow colIx colIx_lt inCols rowIx laneIx bandIx bandAt biasAt)
open Cert.KernelIdeal.Gen (bandRow)
open Cert.ReferenceIdeal (S32768x512 S8x15x31)
open Cert.ReferenceIdeal.Window

variable (q k v : Vec Ideal S32768x512 .f32) (rpb : Vec Ideal S8x15x31 .f32)

/-- Where a window position lies in the band: the window starts at most two grid rows into it. -/
def place (r : Fin 128) (kk : Fin 512) : Fin 640 :=
  ⟨64 * (firstRow r.val - bandRow (r.val / 2)) + kk.val, by
    have := r.isLt; have := kk.isLt; unfold firstRow bandRow; omega⟩

theorem place_row (r : Fin 128) (kk : Fin 512) :
    bandRow (r.val / 2) + (place r kk).val / 64 = firstRow r.val + kk.val / 64 := by
  have := r.isLt; have := kk.isLt; unfold place firstRow bandRow; dsimp only; omega

theorem place_col (r : Fin 128) (kk : Fin 512) : (place r kk).val % 64 = kk.val % 64 := by
  unfold place; dsimp only; omega

theorem place_key (b : Fin 4) (r : Fin 128) (kk : Fin 512) :
    bandIx b r (place r kk) = rowIx b (windowRow r (winRow kk)) (winCol kk) := by
  refine Fin.ext ?_
  show 8192 * b.val + 64 * bandRow (r.val / 2) + (place r kk).val = 8192 * b.val + 64 * (firstRow r.val + kk.val / 64) + kk.val % 64
  have h1 := place_row r kk
  have h2 := place_col r kk
  omega

theorem place_injective (r : Fin 128) : Function.Injective (place r) := by
  intro x y hxy
  have h := congrArg Fin.val hxy
  unfold place at h
  exact Fin.ext (by dsimp only at h; omega)

/-- A band position in the window's rows is the place of a window position. -/
theorem place_of_row (r : Fin 128) (i : Fin 640)
    (h : firstRow r.val ≤ bandRow (r.val / 2) + i.val / 64 ∧ bandRow (r.val / 2) + i.val / 64 < firstRow r.val + 8) :
    i ∈ Set.range (place r) := by
  have hr := r.isLt
  have hb : bandRow (r.val / 2) ≤ firstRow r.val := by unfold firstRow bandRow; omega
  refine ⟨⟨i.val - 64 * (firstRow r.val - bandRow (r.val / 2)), by omega⟩, Fin.ext ?_⟩
  show 64 * (firstRow r.val - bandRow (r.val / 2)) + (i.val - 64 * (firstRow r.val - bandRow (r.val / 2))) = i.val
  omega

section Real

variable (qr kr : S32768x512.Idx → ℝ) (br : S8x15x31.Idx → ℝ)

/-- The score at a window position, over the reals. -/
def realAt (b : Fin 4) (r : Fin 128) (i : Fin 64) (h : Fin 8) (kk : Fin 512) : ℝ :=
  (∑ d : Fin 64, qr (ValueIdx.ix2 (rowIx b r i) (laneIx h d)) * (1 / 8)
      * kr (ValueIdx.ix2 (rowIx b (windowRow r (winRow kk)) (winCol kk)) (laneIx h d)))
    + br (ValueIdx.ix3 h ⟨firstRow r.val + (winRow kk).val + 7 - r.val, biasRow_lt r (winRow kk)⟩
          ⟨colIx i.val (winCol kk).val, colIx_lt _ _⟩)

variable (hq : ∀ i, q i = (qr i : EReal)) (hk : ∀ i, k i = (kr i : EReal)) (hb : ∀ i, rpb i = (br i : EReal))

include hq hk hb

theorem scoreAt_eq (b : Fin 4) (r : Fin 128) (i : Fin 64) (h : Fin 8) (kk : Fin 512) :
    scoreAt q k rpb b r i h kk
      = if inCols i.val (winCol kk).val then ((realAt qr kr br b r i h kk : ℝ) : EReal) else ⊥ := by
  unfold scoreAt realAt
  simp only [hq, hk, hb, ← EReal.coe_mul, ← Cert.Soft.coe_sum]
  by_cases hc : inCols i.val (winCol kk).val
  · rw [if_pos hc, if_pos hc, add_zero, ← EReal.coe_add]
  · rw [if_neg hc, if_neg hc, EReal.add_bot, EReal.add_bot]

theorem bandAt_eq (b : Fin 4) (r : Fin 128) (i : Fin 64) (h : Fin 8) (kk : Fin 512) :
    bandAt q k rpb b r i h (place r kk)
      = if inCols i.val (winCol kk).val then ((realAt qr kr br b r i h kk * (1 / Real.log 2) : ℝ) : EReal) else ⊥ := by
  unfold bandAt
  have hrow := place_row r kk
  have hcol : (⟨(place r kk).val % 64, by omega⟩ : Fin 64) = winCol kk := Fin.ext (place_col r kk)
  rw [place_key, if_pos (by rw [hrow]; have := kk.isLt; omega), hcol, hrow]
  simp only [hq, hk, ← EReal.coe_mul, ← Cert.Soft.coe_sum]
  unfold biasAt
  by_cases hc : inCols i.val (winCol kk).val
  · rw [dif_pos ⟨biasRow_lt r (winRow kk), hc⟩, if_pos hc, hb, ← EReal.coe_mul, ← EReal.coe_add]
    refine congrArg (fun z : ℝ => (z : EReal)) ?_
    unfold realAt
    rw [add_mul, Finset.sum_mul]
    refine congrArg₂ (fun x y : ℝ => x + y) (Finset.sum_congr rfl fun d _ => ?_) rfl
    ring
  · rw [dif_neg (fun hh => hc hh.2), if_neg hc, EReal.add_bot]

/-- The kernel's element is the reference's. -/
theorem element_eq_real (b : Fin 4) (r : Fin 128) (i : Fin 64) (h : Fin 8) (l : Fin 64) :
    Ideal.div (∑ kk : Fin 640, Ideal.exp2 (bandAt q k rpb b r i h kk - Finset.univ.fold max ⊥ (bandAt q k rpb b r i h))
          * v (ValueIdx.ix2 (bandIx b r kk) (laneIx h l)))
        (∑ kk : Fin 640, Ideal.exp2 (bandAt q k rpb b r i h kk - Finset.univ.fold max ⊥ (bandAt q k rpb b r i h)) * 1)
      = ∑ kk : Fin 512, weightAt q k rpb b r i h kk
          * v (ValueIdx.ix2 (rowIx b (windowRow r (winRow kk)) (winCol kk)) (laneIx h l)) := by
  refine Cert.Soft.band_eq_window (place r) (place_injective r) (fun kk => inCols i.val (winCol kk).val)
    (realAt qr kr br b r i h) (bandAt q k rpb b r i h) (scoreAt q k rpb b r i h)
    (fun kk => v (ValueIdx.ix2 (bandIx b r kk) (laneIx h l)))
    (fun kk => v (ValueIdx.ix2 (rowIx b (windowRow r (winRow kk)) (winCol kk)) (laneIx h l)))
    (bandAt_eq q k rpb qr kr br hq hk hb b r i h) ?_ (scoreAt_eq q k rpb qr kr br hq hk hb b r i h) ?_ ?_
  · intro kk hkk
    unfold bandAt
    rw [if_neg (fun hh => hkk (place_of_row r kk hh)), EReal.add_bot]
  · intro kk
    exact congrArg (fun z => v (ValueIdx.ix2 z (laneIx h l))) (place_key b r kk)
  · refine ⟨⟨i.val, by have := i.isLt; omega⟩, ?_⟩
    have hi := i.isLt
    show min (i.val - 8) 48 ≤ i.val % 64 ∧ i.val % 64 < min (i.val - 8) 48 + 16
    omega

end Real

/-- The kernel's element is the reference's, on operands none of whose elements is infinite. -/
theorem element_eq (hq : ∀ i, ∃ x : ℝ, q i = (x : EReal)) (hk : ∀ i, ∃ x : ℝ, k i = (x : EReal))
    (hb : ∀ i, ∃ x : ℝ, rpb i = (x : EReal)) (b : Fin 4) (r : Fin 128) (i : Fin 64) (h : Fin 8) (l : Fin 64) :
    Ideal.div (∑ kk : Fin 640, Ideal.exp2 (bandAt q k rpb b r i h kk - Finset.univ.fold max ⊥ (bandAt q k rpb b r i h))
          * v (ValueIdx.ix2 (bandIx b r kk) (laneIx h l)))
        (∑ kk : Fin 640, Ideal.exp2 (bandAt q k rpb b r i h kk - Finset.univ.fold max ⊥ (bandAt q k rpb b r i h)) * 1)
      = Cert.ReferenceIdeal.Read.val_main_v104 (F := Ideal) q k v rpb (ValueIdx.ix2 (rowIx b r i) (laneIx h l)) := by
  choose qr hqr using hq
  choose kr hkr using hk
  choose br hbr using hb
  rw [reference_apply]
  exact element_eq_real q k v rpb qr kr br hqr hkr hbr b r i h l

/-- An element whose magnitude is below infinity is a real number. -/
theorem real_of_below (x : EReal) (h : Ideal.cmp .olt (max x (-x)) (Ideal.ofBits .f32 0x7F800000#32) = 1#1) :
    ∃ y : ℝ, x = (y : EReal) := by
  have ht : Ideal.ofBits .f32 0x7F800000#32 = ⊤ := by simp [Ideal.ofBits, Ideal.ieee]
  rw [ht] at h
  induction x with
  | bot => simp [Ideal.cmp] at h
  | coe y => exact ⟨y, rfl⟩
  | top => simp [Ideal.cmp] at h

end Cert.Equal

end
-- ==== Proof.Same.lean ====
/- The kernel's program and the one read at the ideal instance are the same text: their entry points and labels are equal
   as terms, so one run serves both. -/
module

public import proofs.«01_k».proof.Proof.Gen.Kernel
public import proofs.«01_k».proof.Proof.Gen.KernelIdeal
public import Idealize.ShloMosaic.PureOps.BitExact

@[expose] public section

set_option maxRecDepth 65536
set_option maxHeartbeats 20000000

noncomputable section

namespace Cert.Same

open Idealize.ShloMosaic Idealize.ShloMosaic.TcCoe Idealize.SL.Sem

/-- The kernel's body. -/
theorem body_eq : Cert.Kernel.cc0_nattn (F := Bits) = Cert.KernelIdeal.cc0_nattn (F := Bits) := rfl

/-- The body under its label. -/
theorem label_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- Every label's program. -/
theorem defs_eq : Cert.Kernel.defs (F := Bits) = Cert.KernelIdeal.defs (F := Bits) := by
  unfold Cert.Kernel.defs Cert.KernelIdeal.defs
  exact congrArg _ label_eq

/-- The entry points. -/
theorem main_eq : Cert.Kernel.main (F := Bits) = Cert.KernelIdeal.main (F := Bits) := rfl

end Cert.Same

end
-- ==== Proof.Feed.lean ====
/- The mathematics of one token outside the attention: root-mean-square norm, layer norm, output projection and SwiGLU
   half-step, and the input projection, as functions of a row of numbers. -/
module

public import Idealize.ShloMosaic.PureOps.Ideal
public import Idealize.ShloMosaic.Lib.Pointwise

@[expose] public section

noncomputable section

namespace Cert.Feed

open Idealize.ShloMosaic

/-- The number that a 32-bit float word stands for. -/
abbrev word (b : BitVec 32) : EReal := (FloatOps.ofBits (F := Ideal) .f32 b : Ideal .f32)

/-- A row over the root of its mean square, with gains. -/
def rms (x g : Fin 512 → EReal) (j : Fin 512) : EReal :=
  x j * Ideal.rsqrt (Ideal.div (∑ k, x k * x k) (word 0x44000000#32) + word 0x358637BD#32) * g j

/-- The mean of a row of 1024. -/
def mean (z : Fin 1024 → EReal) : EReal := Ideal.div (∑ k, z k) (word 0x44800000#32)

/-- A row less its mean. -/
def centred (z : Fin 1024 → EReal) (j : Fin 1024) : EReal := z j - mean z

/-- Layer norm of a row, with gains and offsets. -/
def norm (z g b : Fin 1024 → EReal) (j : Fin 1024) : EReal :=
  centred z j * Ideal.rsqrt (mean (fun k => centred z k * centred z k) + word 0x3727C5AC#32) * g j + b j

/-- One of the 2816 hidden numbers of the SwiGLU: gate, times its logistic, times the other projection. -/
def hidden (x : Fin 1024 → EReal) (wg wu : Fin 1024 → Fin 2816 → EReal) (f : Fin 2816) : EReal :=
  (∑ k, x k * wg k f) * Ideal.logistic (∑ k, x k * wg k f) * (∑ k, x k * wu k f)

/-- The feed-forward half-step of a row, with its layer norm. -/
def half (x : Fin 1024 → EReal) (wg wu : Fin 1024 → Fin 2816 → EReal) (wd : Fin 2816 → Fin 1024 → EReal)
    (g b : Fin 1024 → EReal) : Fin 1024 → EReal :=
  norm (fun c => word 0x3FB504F3#32 * x c + word 0x3F000000#32 * ∑ f, hidden x wg wu f * wd f c) g b

/-- The output projection of both mixers' normed rows, added to the token and normed. -/
def mixed (a f : Fin 512 → EReal) (x : Fin 1024 → EReal) (ga gf : Fin 512 → EReal) (wo : Fin 1024 → Fin 1024 → EReal)
    (g b : Fin 1024 → EReal) : Fin 1024 → EReal :=
  norm (fun c => word 0x3FB504F3#32 * x c
    + ((∑ k : Fin 512, rms a ga k * wo ⟨k.val, by omega⟩ c) + ∑ k : Fin 512, rms f gf k * wo ⟨512 + k.val, by omega⟩ c)) g b

/-- The second layer's mixing and feed-forward half-step of token `R`, from both mixers' outputs, the tokens and the
    stacked weights. -/
def second (a f : (⟨2, ![32768, 512]⟩ : Shape).Idx → EReal) (x : (⟨2, ![32768, 1024]⟩ : Shape).Idx → EReal)
    (ga gf : (⟨2, ![2, 512]⟩ : Shape).Idx → EReal) (wo : (⟨3, ![2, 1024, 1024]⟩ : Shape).Idx → EReal)
    (g2 b2 : (⟨2, ![2, 1024]⟩ : Shape).Idx → EReal) (wg wu : (⟨3, ![2, 1024, 2816]⟩ : Shape).Idx → EReal)
    (wd : (⟨3, ![2, 2816, 1024]⟩ : Shape).Idx → EReal) (g3 b3 : (⟨2, ![2, 1024]⟩ : Shape).Idx → EReal)
    (R : Fin 32768) : Fin 1024 → EReal :=
  half (mixed (fun j => a (ix2 R j)) (fun j => f (ix2 R j)) (fun j => x (ix2 R j)) (fun j => ga (ix2 1 j)) (fun j => gf (ix2 1 j))
      (fun n j => wo (ix3 1 n j)) (fun j => g2 (ix2 1 j)) (fun j => b2 (ix2 1 j)))
    (fun n q => wg (ix3 1 n q)) (fun n q => wu (ix3 1 n q)) (fun q n => wd (ix3 1 q n)) (fun j => g3 (ix2 1 j)) (fun j => b3 (ix2 1 j))

/-- The second layer's first half-step of token `R`, from the tokens and the stacked weights. -/
def first (x : (⟨2, ![32768, 1024]⟩ : Shape).Idx → EReal) (wg wu : (⟨3, ![2, 1024, 2816]⟩ : Shape).Idx → EReal)
    (wd : (⟨3, ![2, 2816, 1024]⟩ : Shape).Idx → EReal) (g b : (⟨2, ![2, 1024]⟩ : Shape).Idx → EReal)
    (R : Fin 32768) : Fin 1024 → EReal :=
  half (fun j => x (ix2 R j)) (fun n q => wg (ix3 1 n q)) (fun n q => wu (ix3 1 n q)) (fun q n => wd (ix3 1 q n))
    (fun j => g (ix2 1 j)) (fun j => b (ix2 1 j))

/-- Column `p` of the combined input projection of a token. -/
def column (x : Fin 1024 → EReal) (w : Fin 1024 → Fin 2048 → EReal) (p : Fin 2048) : EReal := ∑ n, x n * w n p

/-- The scale of the queries: one over the root of the heads' width, and over the logarithm of two. -/
def scale : EReal := (((1 / 8) * (Real.log 2)⁻¹ : ℝ) : EReal)

end Cert.Feed

end

end
-- ==== Proof.Mix.lean ====
/-
  One run of the mixing-and-feed-forward body, on a block of 1024 tokens: what it leaves in the output block, row by row.
  The body works on four sub-blocks of 256 tokens, and takes the hidden numbers 256 at a time through a scratch.
-/
module

public import proofs.«01_k».proof.Proof.Feed
public import proofs.«01_k».proof.Proof.Gen.Kernel2Ideal.Frame
public import Idealize.ShloMosaic.Lib.Pointwise
public import Idealize.ShloMosaic.Lib.Pipeline.ValueKit.Tiles
public import Idealize.ShloMosaic.Lib.Pipeline.ValueKit.Geometry

@[expose] public section

set_option maxRecDepth 65536
set_option maxHeartbeats 1000000

noncomputable section

namespace Cert.Kernel2Ideal.Mix

open Cert.Kernel2Ideal Cert.Kernel2Ideal.Gen Idealize.ShloMosaic Idealize.ShloMosaic.TcCoe Idealize.SL.Sem

/-- Sub-block `s` of 256 rows of a block of 1024 rows of 512. -/
abbrev rows512 (s : Fin 4) : Rect S1024x512 :=
  Rect.unit ![256 * s.val, 0] S256x512.size (by intro d; fin_cases d <;> simp [Shape.size] <;> omega)

/-- Sub-block `s` of 256 rows of a block of 1024 rows of 1024. -/
abbrev rows1024 (s : Fin 4) : Rect S1024x1024 :=
  Rect.unit ![256 * s.val, 0] S256x1024.size (by intro d; fin_cases d <;> simp [Shape.size] <;> omega)

/-- Hidden numbers `256 * j` onwards, of a weight. -/
abbrev chunk (j : Fin 11) : Rect S1x1024x2816 :=
  Rect.unit ![0, 0, 256 * j.val] S1x1024x256.size (by intro d; fin_cases d <;> simp [Shape.size] <;> omega)

/-- Hidden numbers `256 * j` onwards, of the tokens of sub-block `s`, in the scratch. -/
abbrev cell (s : Fin 4) (j : Fin 11) : Rect S4x256x2816 :=
  Rect.unit ![s.val, 0, 256 * j.val] S1x256x256.size (by intro d; fin_cases d <;> simp [Shape.size] <;> omega)

/-- All hidden numbers of the tokens of sub-block `s`, in the scratch. -/
abbrev slab (s : Fin 4) : Rect S4x256x2816 :=
  Rect.unit ![s.val, 0, 0] S1x256x2816.size (by intro d; fin_cases d <;> simp [Shape.size] <;> omega)

/-- Half `h` of the rows of the output projection. -/
abbrev halfRows (h : Fin 2) : Rect S1x1024x1024 :=
  Rect.unit ![0, 512 * h.val, 0] S1x512x1024.size (by intro d; fin_cases d <;> simp [Shape.size] <;> omega)

/-- The mixing of 256 tokens, as the body writes it for the first sub-block. -/
def mixV (a f : FVec Ideal S256x512 .f32) (x : FVec Ideal S256x1024 .f32) (ga gf : FVec Ideal S1x512 .f32)
    (wa wf : FVec Ideal S1x512x1024 .bf16) (g b : FVec Ideal S1x1024 .f32) : FVec Ideal S256x1024 .f32 :=
  k0_pay5 (k0_pay2 f gf) (k0_pay3 a ga wa) (k0_pay4 wf) (constant S256x1024 .f32 0x00000000#32) x g b

/-- 256 hidden numbers of 256 tokens. -/
def hidV (x : FVec Ideal S256x1024 .f32) (wg wu : FVec Ideal S1x1024x256 .bf16) : FVec Ideal S1x256x256 .bf16 :=
  k0_pay29 (truncf .bf16 x bitsLt_bf16_f32) wg wu

/-- The half-step of 256 tokens, from their hidden numbers. -/
def outV (x : FVec Ideal S256x1024 .f32) (h : FVec Ideal S1x256x2816 .bf16) (wd : FVec Ideal S1x2816x1024 .bf16)
    (g b : FVec Ideal S1x1024 .f32) : FVec Ideal S256x1024 .f32 :=
  k0_pay93 (k0_pay91 x h wd g) (k0_pay92 b)

/-- What one run of the body is given: its arrays' places, and the blocks in them. -/
structure Blk where
  (arg1 : Memref sig .tc .vmem S1024x512 .f32) (harg1 : arg1.IsWhole)
  (arg2 : Memref sig .tc .vmem S1024x512 .f32) (harg2 : arg2.IsWhole)
  (arg3 : Memref sig .tc .vmem S1024x1024 .f32) (harg3 : arg3.IsWhole)
  (arg4 : Memref sig .tc .vmem S1x512 .f32) (harg4 : arg4.IsWhole)
  (arg5 : Memref sig .tc .vmem S1x512 .f32) (harg5 : arg5.IsWhole)
  (arg6 : Memref sig .tc .vmem S1x1024x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024x2816 .bf16) (harg9 : arg9.IsWhole)
  (arg10 : Memref sig .tc .vmem S1x1024x2816 .bf16) (harg10 : arg10.IsWhole)
  (arg11 : Memref sig .tc .vmem S1x2816x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1024x1024 .f32) (harg14 : arg14.IsWhole)
  (arg15 : Memref sig .tc .vmem S4x256x2816 .bf16) (harg15 : arg15.IsWhole)
  (x0 : Vec Ideal S1024x512 .f32) (x1 : Vec Ideal S1024x512 .f32) (x2 : Vec Ideal S1024x1024 .f32) (x3 : Vec Ideal S1x512 .f32)
  (x4 : Vec Ideal S1x512 .f32) (x5 : Vec Ideal S1x1024x1024 .bf16) (x6 : Vec Ideal S1x1024 .f32) (x7 : Vec Ideal S1x1024 .f32)
  (x8 : Vec Ideal S1x1024x2816 .bf16) (x9 : Vec Ideal S1x1024x2816 .bf16) (x10 : Vec Ideal S1x2816x1024 .bf16) (x11 : Vec Ideal S1x1024 .f32)
  (x12 : Vec Ideal S1x1024 .f32)

variable (k : Blk)

/-- The mixed tokens of sub-block `s`. -/
def mixS (s : Fin 4) : FVec Ideal S256x1024 .f32 :=
  mixV (View.readAt (Elt Ideal) k.arg1.view (rows512 s).toLoadRect (k.harg1.unread k.x0))
    (View.readAt (Elt Ideal) k.arg2.view (rows512 s).toLoadRect (k.harg2.unread k.x1))
    (View.readAt (Elt Ideal) k.arg3.view (rows1024 s).toLoadRect (k.harg3.unread k.x2))
    (View.readAt (Elt Ideal) k.arg4.view (Rect.unit ![0, 0] S1x512.size inb_S1x512_S1x512_0_0).toLoadRect (k.harg4.unread k.x3))
    (View.readAt (Elt Ideal) k.arg5.view (Rect.unit ![0, 0] S1x512.size inb_S1x512_S1x512_0_0).toLoadRect (k.harg5.unread k.x4))
    (View.readAt (Elt Ideal) k.arg6.view (halfRows 0).toLoadRect (k.harg6.unread k.x5))
    (View.readAt (Elt Ideal) k.arg6.view (halfRows 1).toLoadRect (k.harg6.unread k.x5))
    (View.readAt (Elt Ideal) k.arg7.view (Rect.unit ![0, 0] S1x1024.size inb_S1x1024_S1x1024_0_0).toLoadRect (k.harg7.unread k.x6))
    (View.readAt (Elt Ideal) k.arg8.view (Rect.unit ![0, 0] S1x1024.size inb_S1x1024_S1x1024_0_0).toLoadRect (k.harg8.unread k.x7))

/-- Chunk `j` of the hidden numbers of sub-block `s`. -/
def hidS (s : Fin 4) (j : Fin 11) : FVec Ideal S1x256x256 .bf16 :=
  hidV (mixS k s)
    (View.readAt (Elt Ideal) k.arg9.view (chunk j).toLoadRect (k.harg9.unread k.x8))
    (View.readAt (Elt Ideal) k.arg10.view (chunk j).toLoadRect (k.harg10.unread k.x9))

/-- Piece `n` of the scratch: sub-blocks run fastest, then chunks. -/
def piece (n : ℕ) (h : n < 44) : View.Piece (Elt Ideal) S4x256x2816 .bf16 :=
  ⟨cell ⟨n % 4, by omega⟩ ⟨n / 4, by omega⟩, hidS k ⟨n % 4, by omega⟩ ⟨n / 4, by omega⟩⟩

/-- The first `n` pieces of the scratch, the last written at the head. -/
def pieces : (n : ℕ) → n ≤ 44 → List (View.Piece (Elt Ideal) S4x256x2816 .bf16)
  | 0, _ => []
  | n + 1, h => piece k n h :: pieces n (by omega)

/-- The scratch read back by sub-block `s`: its hidden numbers. -/
def slabS (s : Fin 4) : FVec Ideal S1x256x2816 .bf16 :=
  k.arg15.view.readCov (pieces k 44 (le_refl 44)) (slab s).toLoadRect

/-- The block's rows of sub-block `s` after the body. -/
def outS (s : Fin 4) : FVec Ideal S256x1024 .f32 :=
  outV (mixS k s) (slabS k s)
    (View.readAt (Elt Ideal) k.arg11.view (Rect.unit ![0, 0, 0] S1x2816x1024.size inb_S1x2816x1024_S1x2816x1024_0_0_0).toLoadRect (k.harg11.unread k.x10))
    (View.readAt (Elt Ideal) k.arg12.view (Rect.unit ![0, 0] S1x1024.size inb_S1x1024_S1x1024_0_0).toLoadRect (k.harg12.unread k.x11))
    (View.readAt (Elt Ideal) k.arg13.view (Rect.unit ![0, 0] S1x1024.size inb_S1x1024_S1x1024_0_0).toLoadRect (k.harg13.unread k.x12))

variable (c : Dev nD) (i : grid0.Coords)

/-- The body's stores into the output block: one for each sub-block. -/
theorem run_pieces :
    (kernelRun0_A (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.arg14 k.harg14 k.arg15 k.harg15 k.x0 k.x1 k.x2 k.x3 k.x4 k.x5 k.x6 k.x7 k.x8 k.x9 k.x10 k.x11 k.x12).1
      = [⟨rows1024 3, outS k 3⟩, ⟨rows1024 2, outS k 2⟩, ⟨rows1024 1, outS k 1⟩, ⟨rows1024 0, outS k 0⟩] := by
  unfold kernelRun0_A
  rfl

/-- A mixed token, element by element. -/
theorem mixV_apply (a f : FVec Ideal S256x512 .f32) (x : FVec Ideal S256x1024 .f32) (ga gf : FVec Ideal S1x512 .f32)
    (wa wf : FVec Ideal S1x512x1024 .bf16) (g b : FVec Ideal S1x1024 .f32) (r : Fin 256) (l : Fin 1024) :
    mixV a f x ga gf wa wf g b (ix2 r l)
      = Feed.norm (fun c => Feed.word 0x3FB504F3#32 * x (ix2 r c)
          + ((∑ n : Fin 512, Feed.rms (fun j => a (ix2 r j)) (fun j => ga (ix2 0 j)) n * wa (ix3 0 n c))
            + ∑ n : Fin 512, Feed.rms (fun j => f (ix2 r j)) (fun j => gf (ix2 0 j)) n * wf (ix3 0 n c)))
        (fun c => g (ix2 0 c)) (fun c => b (ix2 0 c)) l := by
  pointwise [mixV, k0_pay5, k0_pay2, k0_pay3, k0_pay4]
  rfl

/-- A hidden number, from its token and its columns of the weights. -/
theorem hidV_apply (x : FVec Ideal S256x1024 .f32) (wg wu : FVec Ideal S1x1024x256 .bf16) (r j : Fin 256) :
    hidV x wg wu (ix3 0 r j)
      = (∑ n : Fin 1024, x (ix2 r n) * wg (ix3 0 n j)) * Ideal.logistic (∑ n : Fin 1024, x (ix2 r n) * wg (ix3 0 n j))
        * ∑ n : Fin 1024, x (ix2 r n) * wu (ix3 0 n j) := by
  pointwise [hidV, k0_pay29]

/-- The half-step of a token, element by element, from its hidden numbers. -/
theorem outV_apply (x : FVec Ideal S256x1024 .f32) (h : FVec Ideal S1x256x2816 .bf16) (wd : FVec Ideal S1x2816x1024 .bf16)
    (g b : FVec Ideal S1x1024 .f32) (r : Fin 256) (l : Fin 1024) :
    outV x h wd g b (ix2 r l)
      = Feed.norm (fun c => Feed.word 0x3FB504F3#32 * x (ix2 r c)
          + Feed.word 0x3F000000#32 * ∑ n : Fin 2816, h (ix3 0 r n) * wd (ix3 0 n c))
        (fun c => g (ix2 0 c)) (fun c => b (ix2 0 c)) l := by
  pointwise [outV, k0_pay93, k0_pay91, k0_pay92]
  rfl

/-- A load of part of an array that holds `X`, at an element. -/
theorem load_apply {sp : Space} {s : Shape} {e : EltTy} (M : Memref sig .tc sp s e) (hM : M.IsWhole) (X : s.Idx → Elt Ideal e)
    (off size : Fin s.rank → ℕ) (inb : ∀ a, off a + size a ≤ s.size a) (x : (Rect.unit off size inb).shape.Idx) (i : s.Idx)
    (hi : ∀ a, (i a).val = off a + (x a).val) :
    View.readAt (Elt Ideal) M.view (Rect.unit off size inb).toLoadRect (hM.unread X) x = X i := by
  rw [View.readAt_eq_ld, hM.read_unread]
  exact View.ld_unit_apply_of X off size inb x i hi

/-- Row `r` of sub-block `s`, in the block. -/
def row (s : Fin 4) (r : Fin 256) : Fin 1024 := ⟨256 * s.val + r.val, by omega⟩

/-- The mixed token of row `R` of the block. -/
def mixRow (R : Fin 1024) : Fin 1024 → EReal :=
  Feed.mixed (fun j => k.x0 (ix2 R j)) (fun j => k.x1 (ix2 R j)) (fun j => k.x2 (ix2 R j))
    (fun j => k.x3 (ix2 0 j)) (fun j => k.x4 (ix2 0 j)) (fun n j => k.x5 (ix3 0 n j))
    (fun j => k.x6 (ix2 0 j)) (fun j => k.x7 (ix2 0 j))

/-- The hidden numbers of row `R` of the block. -/
def hidRow (R : Fin 1024) : Fin 2816 → EReal :=
  Feed.hidden (mixRow k R) (fun n f => k.x8 (ix3 0 n f)) (fun n f => k.x9 (ix3 0 n f))

/-- Row `R` of the block after the body. -/
def outRow (R : Fin 1024) : Fin 1024 → EReal :=
  Feed.half (mixRow k R) (fun n f => k.x8 (ix3 0 n f)) (fun n f => k.x9 (ix3 0 n f)) (fun f n => k.x10 (ix3 0 f n))
    (fun j => k.x11 (ix2 0 j)) (fun j => k.x12 (ix2 0 j))

theorem mixS_apply (s : Fin 4) (r : Fin 256) (l : Fin 1024) : mixS k s (ix2 r l) = mixRow k (row s r) l := by
  unfold mixS mixRow Feed.mixed
  rw [mixV_apply]
  have h0 : ∀ j : Fin 512, View.readAt (Elt Ideal) k.arg1.view (rows512 s).toLoadRect (k.harg1.unread k.x0) (ix2 r j) = k.x0 (ix2 (row s r) j) :=
    fun j => load_apply _ _ _ _ _ _ _ _ (by intro a; fin_cases a <;> simp [row])
  have h1 : ∀ j : Fin 512, View.readAt (Elt Ideal) k.arg2.view (rows512 s).toLoadRect (k.harg2.unread k.x1) (ix2 r j) = k.x1 (ix2 (row s r) j) :=
    fun j => load_apply _ _ _ _ _ _ _ _ (by intro a; fin_cases a <;> simp [row])
  have h2 : ∀ j : Fin 1024, View.readAt (Elt Ideal) k.arg3.view (rows1024 s).toLoadRect (k.harg3.unread k.x2) (ix2 r j) = k.x2 (ix2 (row s r) j) :=
    fun j => load_apply _ _ _ _ _ _ _ _ (by intro a; fin_cases a <;> simp [row])
  have h3 : ∀ j : Fin 512, View.readAt (Elt Ideal) k.arg4.view (Rect.unit ![0, 0] S1x512.size inb_S1x512_S1x512_0_0).toLoadRect (k.harg4.unread k.x3) (ix2 0 j) = k.x3 (ix2 0 j) :=
    fun j => load_apply _ _ _ _ _ _ _ _ (by intro a; fin_cases a <;> simp)
  have h4 : ∀ j : Fin 512, View.readAt (Elt Ideal) k.arg5.view (Rect.unit ![0, 0] S1x512.size inb_S1x512_S1x512_0_0).toLoadRect (k.harg5.unread k.x4) (ix2 0 j) = k.x4 (ix2 0 j) :=
    fun j => load_apply _ _ _ _ _ _ _ _ (by intro a; fin_cases a <;> simp)
  have h5 : ∀ (n : Fin 512) (j : Fin 1024), View.readAt (Elt Ideal) k.arg6.view (halfRows 0).toLoadRect (k.harg6.unread k.x5) (ix3 0 n j) = k.x5 (ix3 0 ⟨n.val, by omega⟩ j) :=
    fun n j => load_apply _ _ _ _ _ _ _ _ (by intro a; fin_cases a <;> simp)
  have h6 : ∀ (n : Fin 512) (j : Fin 1024), View.readAt (Elt Ideal) k.arg6.view (halfRows 1).toLoadRect (k.harg6.unread k.x5) (ix3 0 n j) = k.x5 (ix3 0 ⟨512 + n.val, by omega⟩ j) :=
    fun n j => load_apply _ _ _ _ _ _ _ _ (by intro a; fin_cases a <;> simp)
  have h7 : ∀ j : Fin 1024, View.readAt (Elt Ideal) k.arg7.view (Rect.unit ![0, 0] S1x1024.size inb_S1x1024_S1x1024_0_0).toLoadRect (k.harg7.unread k.x6) (ix2 0 j) = k.x6 (ix2 0 j) :=
    fun j => load_apply _ _ _ _ _ _ _ _ (by intro a; fin_cases a <;> simp)
  have h8 : ∀ j : Fin 1024, View.readAt (Elt Ideal) k.arg8.view (Rect.unit ![0, 0] S1x1024.size inb_S1x1024_S1x1024_0_0).toLoadRect (k.harg8.unread k.x7) (ix2 0 j) = k.x7 (ix2 0 j) :=
    fun j => load_apply _ _ _ _ _ _ _ _ (by intro a; fin_cases a <;> simp)
  simp only [h0, h1, h2, h3, h4, h5, h6, h7, h8]

theorem hidS_apply (s : Fin 4) (j : Fin 11) (r e : Fin 256) :
    hidS k s j (ix3 0 r e) = hidRow k (row s r) ⟨256 * j.val + e.val, by omega⟩ := by
  unfold hidS hidRow Feed.hidden
  rw [hidV_apply]
  have h8 : ∀ n : Fin 1024, View.readAt (Elt Ideal) k.arg9.view (chunk j).toLoadRect (k.harg9.unread k.x8) (ix3 0 n e) = k.x8 (ix3 0 n ⟨256 * j.val + e.val, by omega⟩) :=
    fun n => load_apply _ _ _ _ _ _ _ _ (by intro a; fin_cases a <;> simp)
  have h9 : ∀ n : Fin 1024, View.readAt (Elt Ideal) k.arg10.view (chunk j).toLoadRect (k.harg10.unread k.x9) (ix3 0 n e) = k.x9 (ix3 0 n ⟨256 * j.val + e.val, by omega⟩) :=
    fun n => load_apply _ _ _ _ _ _ _ _ (by intro a; fin_cases a <;> simp)
  simp only [h8, h9, mixS_apply]

theorem hidS_cell (s : Fin 4) (j : Fin 11) (x : S1x256x256.Idx) :
    hidS k s j x = hidRow k (row ((cell s j).emb x 0) ((cell s j).emb x 1)) ((cell s j).emb x 2) := by
  have hx : x = ix3 0 (x 1) (x 2) := by
    funext a
    match a with
    | ⟨0, _⟩ => exact Subsingleton.elim (α := Fin 1) _ _
    | ⟨1, _⟩ => rfl
    | ⟨2, _⟩ => rfl
  have e0 : ∀ a, (((cell s j).emb x a : Fin _) : ℕ) = ![s.val, 0, 256 * j.val] a + (x a).val :=
    fun a => ValueKit.rect_emb_unit_val _ _ _ _ a
  have z0 : (x 0).val = 0 := Nat.lt_one_iff.mp (x 0).isLt
  have f0 : (cell s j).emb x 0 = s := Fin.ext (by have := e0 0; simpa [z0] using this)
  have f1 : (cell s j).emb x 1 = x 1 := Fin.ext (by have := e0 1; simpa using this)
  have f2 : (cell s j).emb x 2 = (⟨256 * j.val + (x 2).val, by have : (x 2).val < 256 := (x 2).isLt; omega⟩ : Fin 2816) :=
    Fin.ext (by have := e0 2; simpa using this)
  rw [f0, f1, f2]
  refine Eq.trans (congrArg (hidS k s j) hx) (hidS_apply k s j (x 1) (x 2))

/-- The scratch's pieces, one by one. -/
theorem mem_pieces (p : View.Piece (Elt Ideal) S4x256x2816 .bf16) :
    ∀ (n : ℕ) (h : n ≤ 44), p ∈ pieces k n h ↔ ∃ (q : ℕ) (hq : q < n), p = piece k q (by omega)
  | 0, _ => by simp [pieces]
  | n + 1, h => by
    rw [pieces, List.mem_cons, mem_pieces p n (by omega)]
    constructor
    · rintro (rfl | ⟨q, hq, rfl⟩)
      · exact ⟨n, by omega, rfl⟩
      · exact ⟨q, by omega, rfl⟩
    · rintro ⟨q, hq, rfl⟩
      rcases Nat.lt_succ_iff_lt_or_eq.mp hq with h' | rfl
      · exact Or.inr ⟨q, h', rfl⟩
      · exact Or.inl rfl

/-- The scratch after its 44 stores, element by element. -/
theorem scratch_apply (y : S4x256x2816.Idx) :
    k.arg15.view.read (Elt Ideal) (k.arg15.view.writes (Elt Ideal) k.arg15.view.junk (pieces k 44 (le_refl 44))) y
      = hidRow k (row (y 0) (y 1)) (y 2) := by
  refine View.read_writes_apply_of_pieces (Val := Elt Ideal) k.arg15.view _ (fun y => hidRow k (row (y 0) (y 1)) (y 2)) _ ?_ y ?_
  · intro p hp x
    obtain ⟨q, hq, rfl⟩ := (mem_pieces k p 44 (le_refl 44)).mp hp
    exact hidS_cell k _ _ x
  · have y0 : (y 0).val < 4 := (y 0).isLt
    have y1 : (y 1).val < 256 := (y 1).isLt
    have y2 : (y 2).val < 2816 := (y 2).isLt
    refine ⟨piece k (4 * ((y 2).val / 256) + (y 0).val) (by omega), (mem_pieces k _ 44 (le_refl 44)).mpr ⟨_, by omega, rfl⟩, ?_⟩
    have hm : ∀ (s : Fin 4) (j : Fin 11), (y 0).val = s.val → (y 2).val / 256 = j.val → y ∈ (cell s j).set := by
      intro s j h0 h2
      refine Rect.mem_set_unit.mpr fun a => ?_
      fin_cases a <;> simp [Shape.size] <;> omega
    exact hm _ _ (by show _ = (4 * ((y 2).val / 256) + (y 0).val) % 4; omega) (by show _ = (4 * ((y 2).val / 256) + (y 0).val) / 4; omega)

theorem slabS_apply (s : Fin 4) (r : Fin 256) (f : Fin 2816) : slabS k s (ix3 0 r f) = hidRow k (row s r) f := by
  unfold slabS View.readCov
  rw [View.readAt_apply, scratch_apply]
  have e0 : ∀ a, (((slab s).toLoadRect.idx (ix3 0 r f) a : Fin _) : ℕ) = ![s.val, 0, 0] a + (ix3 (0 : Fin 1) r f a).val :=
    fun a => Rect.idx_unit_val (s := S4x256x2816) ![s.val, 0, 0] S1x256x2816.size _ (ix3 0 r f) a
  congr 1
  · exact congrArg₂ row (Fin.ext (by have := e0 0; simpa using this)) (Fin.ext (by have := e0 1; simpa using this))
  · exact Fin.ext (by have := e0 2; simpa using this)

theorem outS_apply (s : Fin 4) (r : Fin 256) (l : Fin 1024) : outS k s (ix2 r l) = outRow k (row s r) l := by
  unfold outS outRow Feed.half
  rw [outV_apply]
  have h10 : ∀ (f : Fin 2816) (n : Fin 1024), View.readAt (Elt Ideal) k.arg11.view (Rect.unit ![0, 0, 0] S1x2816x1024.size inb_S1x2816x1024_S1x2816x1024_0_0_0).toLoadRect (k.harg11.unread k.x10) (ix3 0 f n) = k.x10 (ix3 0 f n) :=
    fun f n => load_apply _ _ _ _ _ _ _ _ (by intro a; fin_cases a <;> simp)
  have h11 : ∀ j : Fin 1024, View.readAt (Elt Ideal) k.arg12.view (Rect.unit ![0, 0] S1x1024.size inb_S1x1024_S1x1024_0_0).toLoadRect (k.harg12.unread k.x11) (ix2 0 j) = k.x11 (ix2 0 j) :=
    fun j => load_apply _ _ _ _ _ _ _ _ (by intro a; fin_cases a <;> simp)
  have h12 : ∀ j : Fin 1024, View.readAt (Elt Ideal) k.arg13.view (Rect.unit ![0, 0] S1x1024.size inb_S1x1024_S1x1024_0_0).toLoadRect (k.harg13.unread k.x12) (ix2 0 j) = k.x12 (ix2 0 j) :=
    fun j => load_apply _ _ _ _ _ _ _ _ (by intro a; fin_cases a <;> simp)
  simp only [h10, h11, h12, mixS_apply, slabS_apply]
  rfl

theorem outS_rows (s : Fin 4) (x : S256x1024.Idx) :
    outS k s x = outRow k ((rows1024 s).emb x 0) ((rows1024 s).emb x 1) := by
  have hx : x = ix2 (x 0) (x 1) := by
    funext a
    match a with
    | ⟨0, _⟩ => rfl
    | ⟨1, _⟩ => rfl
  have e0 : ∀ a, (((rows1024 s).emb x a : Fin _) : ℕ) = ![256 * s.val, 0] a + (x a).val :=
    fun a => ValueKit.rect_emb_unit_val _ _ _ _ a
  have f0 : (rows1024 s).emb x 0 = row s (x 0) := Fin.ext (by have := e0 0; simpa [row] using this)
  have f1 : (rows1024 s).emb x 1 = x 1 := Fin.ext (by have := e0 1; simpa using this)
  rw [f0, f1]
  exact Eq.trans (congrArg (outS k s) hx) (outS_apply k s (x 0) (x 1))

/-- The stores into the output block. -/
abbrev outs : List (View.Piece (Elt Ideal) S1024x1024 .f32) :=
  [⟨rows1024 3, outS k 3⟩, ⟨rows1024 2, outS k 2⟩, ⟨rows1024 1, outS k 1⟩, ⟨rows1024 0, outS k 0⟩]

theorem outs_pieces : ∀ p ∈ outs k, ∀ x, p.2 x = (outRow k (p.1.emb x 0) (p.1.emb x 1) : Elt Ideal .f32) := by
  intro p hp
  simp only [outs, List.mem_cons, List.not_mem_nil, or_false] at hp
  rcases hp with rfl | rfl | rfl | rfl
  · exact outS_rows k 3
  · exact outS_rows k 2
  · exact outS_rows k 1
  · exact outS_rows k 0

theorem outs_cover (y : S1024x1024.Idx) : ∃ p ∈ outs k, y ∈ p.1.set := by
  have y0 : (y 0).val < 1024 := (y 0).isLt
  have y1 : (y 1).val < 1024 := (y 1).isLt
  have hm : ∀ s : Fin 4, (y 0).val / 256 = s.val → y ∈ (rows1024 s).set := by
    intro s h
    refine Rect.mem_set_unit.mpr fun a => ?_
    fin_cases a <;> simp [Shape.size] <;> omega
  have h4 : (y 0).val / 256 = 0 ∨ (y 0).val / 256 = 1 ∨ (y 0).val / 256 = 2 ∨ (y 0).val / 256 = 3 := by omega
  rcases h4 with h | h | h | h
  · exact ⟨⟨rows1024 0, outS k 0⟩, by simp [outs], hm 0 h⟩
  · exact ⟨⟨rows1024 1, outS k 1⟩, by simp [outs], hm 1 h⟩
  · exact ⟨⟨rows1024 2, outS k 2⟩, by simp [outs], hm 2 h⟩
  · exact ⟨⟨rows1024 3, outS k 3⟩, by simp [outs], hm 3 h⟩

/-- The output block after the body, element by element. -/
theorem block_apply (y : S1024x1024.Idx) :
    out0_A_13 (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.arg14 k.harg14 k.arg15 k.harg15 k.x0 k.x1 k.x2 k.x3 k.x4 k.x5 k.x6 k.x7 k.x8 k.x9 k.x10 k.x11 k.x12 y = outRow k (y 0) (y 1) := by
  unfold out0_A_13
  rw [run_pieces]
  have key := View.read_writes_apply_of_pieces (Val := Elt Ideal) VO0_13 VO0_13.junk (fun z => (outRow k (z 0) (z 1) : Elt Ideal .f32))
    (outs k) (outs_pieces k) y (outs_cover k y)
  exact key

end Cert.Kernel2Ideal.Mix

end

end
-- ==== Proof.Filled.lean ====
/-
  The mixing-and-feed-forward call: what its result holds, from the call's arguments.
-/
module

public import proofs.«01_k».proof.Proof.Mix
public import proofs.«01_k».proof.Proof.Gen.Kernel2Ideal.Value
public import Idealize.ShloMosaic.Lib.StableHlo.Run

@[expose] public section

set_option maxRecDepth 65536
set_option maxHeartbeats 1000000

noncomputable section

namespace Cert.Kernel2Ideal.Filled

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ) (c : Dev nD)

abbrev arg0 : FVec Ideal S32768x512 .f32 := m (c, main_arg0)
abbrev arg1 : FVec Ideal S32768x512 .f32 := m (c, main_arg1)
abbrev arg2 : FVec Ideal S32768x1024 .f32 := m (c, main_arg2)
abbrev arg3 : FVec Ideal S2x512 .f32 := m (c, main_arg3)
abbrev arg4 : FVec Ideal S2x512 .f32 := m (c, main_arg4)
abbrev arg5 : FVec Ideal S2x1024x1024 .f32 := m (c, main_arg5)
abbrev arg6 : FVec Ideal S2x1024 .f32 := m (c, main_arg6)
abbrev arg7 : FVec Ideal S2x1024 .f32 := m (c, main_arg7)
abbrev arg8 : FVec Ideal S2x1024x2816 .f32 := m (c, main_arg8)
abbrev arg9 : FVec Ideal S2x1024x2816 .f32 := m (c, main_arg9)
abbrev arg10 : FVec Ideal S2x2816x1024 .f32 := m (c, main_arg10)
abbrev arg11 : FVec Ideal S2x1024 .f32 := m (c, main_arg11)
abbrev arg12 : FVec Ideal S2x1024 .f32 := m (c, main_arg12)

/-! ## What the operations before the call leave -/

theorem V_v2 (j : Fin 512) : (V m c main_v2 : FVec Ideal S1x512 .f32) (ix2 0 j) = arg3 m c (ix2 1 j) := by
  have h : V m c main_v2 = (shapeCast S1x512 (shapeCast S512 (extractStridedSlice S1x512 ![1, 0] (arg3 m c) slices_S2x512_S1x512_1_0) shapeCasts_S1x512_S512) shapeCasts_S512_S1x512 : FVec Ideal S1x512 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v5 (j : Fin 512) : (V m c main_v5 : FVec Ideal S1x512 .f32) (ix2 0 j) = arg4 m c (ix2 1 j) := by
  have h : V m c main_v5 = (shapeCast S1x512 (shapeCast S512 (extractStridedSlice S1x512 ![1, 0] (arg4 m c) slices_S2x512_S1x512_1_0) shapeCasts_S1x512_S512) shapeCasts_S512_S1x512 : FVec Ideal S1x512 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v9 (j : Fin 1024) : (V m c main_v9 : FVec Ideal S1x1024 .f32) (ix2 0 j) = arg6 m c (ix2 1 j) := by
  have h : V m c main_v9 = (shapeCast S1x1024 (shapeCast S1024 (extractStridedSlice S1x1024 ![1, 0] (arg6 m c) slices_S2x1024_S1x1024_1_0) shapeCasts_S1x1024_S1024) shapeCasts_S1024_S1x1024 : FVec Ideal S1x1024 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v12 (j : Fin 1024) : (V m c main_v12 : FVec Ideal S1x1024 .f32) (ix2 0 j) = arg7 m c (ix2 1 j) := by
  have h : V m c main_v12 = (shapeCast S1x1024 (shapeCast S1024 (extractStridedSlice S1x1024 ![1, 0] (arg7 m c) slices_S2x1024_S1x1024_1_0) shapeCasts_S1x1024_S1024) shapeCasts_S1024_S1x1024 : FVec Ideal S1x1024 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v18 (j : Fin 1024) : (V m c main_v18 : FVec Ideal S1x1024 .f32) (ix2 0 j) = arg11 m c (ix2 1 j) := by
  have h : V m c main_v18 = (shapeCast S1x1024 (shapeCast S1024 (extractStridedSlice S1x1024 ![1, 0] (arg11 m c) slices_S2x1024_S1x1024_1_0) shapeCasts_S1x1024_S1024) shapeCasts_S1024_S1x1024 : FVec Ideal S1x1024 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v21 (j : Fin 1024) : (V m c main_v21 : FVec Ideal S1x1024 .f32) (ix2 0 j) = arg12 m c (ix2 1 j) := by
  have h : V m c main_v21 = (shapeCast S1x1024 (shapeCast S1024 (extractStridedSlice S1x1024 ![1, 0] (arg12 m c) slices_S2x1024_S1x1024_1_0) shapeCasts_S1x1024_S1024) shapeCasts_S1024_S1x1024 : FVec Ideal S1x1024 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v6 (n : Fin 1024) (j : Fin 1024) : (V m c main_v6 : FVec Ideal S2x1024x1024 .bf16) (ix3 1 n j) = arg5 m c (ix3 1 n j) := by
  have h : V m c main_v6 = (truncf .bf16 (arg5 m c) bitsLt_bf16_f32 : FVec Ideal S2x1024x1024 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v13 (n : Fin 1024) (j : Fin 2816) : (V m c main_v13 : FVec Ideal S2x1024x2816 .bf16) (ix3 1 n j) = arg8 m c (ix3 1 n j) := by
  have h : V m c main_v13 = (truncf .bf16 (arg8 m c) bitsLt_bf16_f32 : FVec Ideal S2x1024x2816 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v14 (n : Fin 1024) (j : Fin 2816) : (V m c main_v14 : FVec Ideal S2x1024x2816 .bf16) (ix3 1 n j) = arg9 m c (ix3 1 n j) := by
  have h : V m c main_v14 = (truncf .bf16 (arg9 m c) bitsLt_bf16_f32 : FVec Ideal S2x1024x2816 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v15 (n : Fin 2816) (j : Fin 1024) : (V m c main_v15 : FVec Ideal S2x2816x1024 .bf16) (ix3 1 n j) = arg10 m c (ix3 1 n j) := by
  have h : V m c main_v15 = (truncf .bf16 (arg10 m c) bitsLt_bf16_f32 : FVec Ideal S2x2816x1024 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

/-! ## The blocks a grid point is given -/

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 1 ∧ win0_5.index t 1 = 0 ∧ win0_5.index t 2 = 0 :=
  (by decide +kernel : ∀ t : Fin grid0.N, win0_5.index t 0 = 1 ∧ win0_5.index t 1 = 0 ∧ win0_5.index t 2 = 0)
theorem index_6 : ∀ t : Fin cfg0.N, win0_6.index t 0 = 0 ∧ win0_6.index t 1 = 0 :=
  (by decide +kernel : ∀ t : Fin grid0.N, win0_6.index t 0 = 0 ∧ win0_6.index t 1 = 0)
theorem index_7 : ∀ t : Fin cfg0.N, win0_7.index t 0 = 0 ∧ win0_7.index t 1 = 0 :=
  (by decide +kernel : ∀ t : Fin grid0.N, win0_7.index t 0 = 0 ∧ win0_7.index t 1 = 0)
theorem index_8 : ∀ t : Fin cfg0.N, win0_8.index t 0 = 1 ∧ win0_8.index t 1 = 0 ∧ win0_8.index t 2 = 0 :=
  (by decide +kernel : ∀ t : Fin grid0.N, win0_8.index t 0 = 1 ∧ win0_8.index t 1 = 0 ∧ win0_8.index t 2 = 0)
theorem index_9 : ∀ t : Fin cfg0.N, win0_9.index t 0 = 1 ∧ win0_9.index t 1 = 0 ∧ win0_9.index t 2 = 0 :=
  (by decide +kernel : ∀ t : Fin grid0.N, win0_9.index t 0 = 1 ∧ win0_9.index t 1 = 0 ∧ win0_9.index t 2 = 0)
theorem index_10 : ∀ t : Fin cfg0.N, win0_10.index t 0 = 1 ∧ win0_10.index t 1 = 0 ∧ win0_10.index t 2 = 0 :=
  (by decide +kernel : ∀ t : Fin grid0.N, win0_10.index t 0 = 1 ∧ win0_10.index t 1 = 0 ∧ win0_10.index t 2 = 0)
theorem index_11 : ∀ t : Fin cfg0.N, win0_11.index t 0 = 0 ∧ win0_11.index t 1 = 0 :=
  (by decide +kernel : ∀ t : Fin grid0.N, win0_11.index t 0 = 0 ∧ win0_11.index t 1 = 0)
theorem index_12 : ∀ t : Fin cfg0.N, win0_12.index t 0 = 0 ∧ win0_12.index t 1 = 0 :=
  (by decide +kernel : ∀ t : Fin grid0.N, win0_12.index t 0 = 0 ∧ win0_12.index t 1 = 0)
theorem index_13 : ∀ t : Fin cfg0.N, win0_13.index t 0 = t.val ∧ win0_13.index t 1 = 0 :=
  (by decide +kernel : ∀ t : Fin grid0.N, win0_13.index t 0 = t.val ∧ win0_13.index t 1 = 0)

variable (t : Fin cfg0.N)

/-- Row `R` of point `t`'s block, in the whole array. -/
def rowAt (R : Fin 1024) : Fin 32768 := ⟨1024 * t.val + R.val, by have h := lt_of_lt_of_eq t.isLt (show cfg0.N = 32 from N_0); omega⟩

theorem iblk_0 (R : Fin 1024) (j : Fin 512) : (iblk m c 0 t : FVec Ideal S1024x512 .f32) (ix2 R j) = arg0 m c (ix2 (rowAt t R) j) := by
  have e : V m c main_arg0 = arg0 m c := V_main_arg0 m c
  rw [← e]
  unfold iblk
  rw [View.read_apply]
  show V m c main_arg0 _ = _
  have h := index_0 t
  refine congrArg (V m c main_arg0) (funext fun a => Fin.ext ?_)
  match a with
  | ⟨0, _⟩ => show win0_0.index t 0 * 1024 + 1 * R.val = 1024 * t.val + R.val; rw [h.1]; omega
  | ⟨1, _⟩ => show win0_0.index t 1 * 512 + 1 * j.val = j.val; rw [h.2]; omega

theorem iblk_1 (R : Fin 1024) (j : Fin 512) : (iblk m c 1 t : FVec Ideal S1024x512 .f32) (ix2 R j) = arg1 m c (ix2 (rowAt t R) j) := by
  have e : V m c main_arg1 = arg1 m c := V_main_arg1 m c
  rw [← e]
  unfold iblk
  rw [View.read_apply]
  show V m c main_arg1 _ = _
  have h := index_1 t
  refine congrArg (V m c main_arg1) (funext fun a => Fin.ext ?_)
  match a with
  | ⟨0, _⟩ => show win0_1.index t 0 * 1024 + 1 * R.val = 1024 * t.val + R.val; rw [h.1]; omega
  | ⟨1, _⟩ => show win0_1.index t 1 * 512 + 1 * j.val = j.val; rw [h.2]; omega

theorem iblk_2 (R : Fin 1024) (j : Fin 1024) : (iblk m c 2 t : FVec Ideal S1024x1024 .f32) (ix2 R j) = arg2 m c (ix2 (rowAt t R) j) := by
  have e : V m c main_arg2 = arg2 m c := V_main_arg2 m c
  rw [← e]
  unfold iblk
  rw [View.read_apply]
  show V m c main_arg2 _ = _
  have h := index_2 t
  refine congrArg (V m c main_arg2) (funext fun a => Fin.ext ?_)
  match a with
  | ⟨0, _⟩ => show win0_2.index t 0 * 1024 + 1 * R.val = 1024 * t.val + R.val; rw [h.1]; omega
  | ⟨1, _⟩ => show win0_2.index t 1 * 1024 + 1 * j.val = j.val; rw [h.2]; omega

theorem iblk_3 (j : Fin 512) : (iblk m c 3 t : FVec Ideal S1x512 .f32) (ix2 0 j) = arg3 m c (ix2 1 j) := by
  rw [← V_v2]
  unfold iblk
  rw [View.read_apply]
  show V m c main_v2 _ = _
  have h := index_3 t
  refine congrArg (V m c main_v2) (funext fun a => Fin.ext ?_)
  match a with
  | ⟨0, _⟩ => show win0_3.index t 0 * 1 + 1 * 0 = 0; rw [h.1]
  | ⟨1, _⟩ => show win0_3.index t 1 * 512 + 1 * j.val = j.val; rw [h.2]; omega

theorem iblk_4 (j : Fin 512) : (iblk m c 4 t : FVec Ideal S1x512 .f32) (ix2 0 j) = arg4 m c (ix2 1 j) := by
  rw [← V_v5]
  unfold iblk
  rw [View.read_apply]
  show V m c main_v5 _ = _
  have h := index_4 t
  refine congrArg (V m c main_v5) (funext fun a => Fin.ext ?_)
  match a with
  | ⟨0, _⟩ => show win0_4.index t 0 * 1 + 1 * 0 = 0; rw [h.1]
  | ⟨1, _⟩ => show win0_4.index t 1 * 512 + 1 * j.val = j.val; rw [h.2]; omega

theorem iblk_6 (j : Fin 1024) : (iblk m c 6 t : FVec Ideal S1x1024 .f32) (ix2 0 j) = arg6 m c (ix2 1 j) := by
  rw [← V_v9]
  unfold iblk
  rw [View.read_apply]
  show V m c main_v9 _ = _
  have h := index_6 t
  refine congrArg (V m c main_v9) (funext fun a => Fin.ext ?_)
  match a with
  | ⟨0, _⟩ => show win0_6.index t 0 * 1 + 1 * 0 = 0; rw [h.1]
  | ⟨1, _⟩ => show win0_6.index t 1 * 1024 + 1 * j.val = j.val; rw [h.2]; omega

theorem iblk_7 (j : Fin 1024) : (iblk m c 7 t : FVec Ideal S1x1024 .f32) (ix2 0 j) = arg7 m c (ix2 1 j) := by
  rw [← V_v12]
  unfold iblk
  rw [View.read_apply]
  show V m c main_v12 _ = _
  have h := index_7 t
  refine congrArg (V m c main_v12) (funext fun a => Fin.ext ?_)
  match a with
  | ⟨0, _⟩ => show win0_7.index t 0 * 1 + 1 * 0 = 0; rw [h.1]
  | ⟨1, _⟩ => show win0_7.index t 1 * 1024 + 1 * j.val = j.val; rw [h.2]; omega

theorem iblk_11 (j : Fin 1024) : (iblk m c 11 t : FVec Ideal S1x1024 .f32) (ix2 0 j) = arg11 m c (ix2 1 j) := by
  rw [← V_v18]
  unfold iblk
  rw [View.read_apply]
  show V m c main_v18 _ = _
  have h := index_11 t
  refine congrArg (V m c main_v18) (funext fun a => Fin.ext ?_)
  match a with
  | ⟨0, _⟩ => show win0_11.index t 0 * 1 + 1 * 0 = 0; rw [h.1]
  | ⟨1, _⟩ => show win0_11.index t 1 * 1024 + 1 * j.val = j.val; rw [h.2]; omega

theorem iblk_12 (j : Fin 1024) : (iblk m c 12 t : FVec Ideal S1x1024 .f32) (ix2 0 j) = arg12 m c (ix2 1 j) := by
  rw [← V_v21]
  unfold iblk
  rw [View.read_apply]
  show V m c main_v21 _ = _
  have h := index_12 t
  refine congrArg (V m c main_v21) (funext fun a => Fin.ext ?_)
  match a with
  | ⟨0, _⟩ => show win0_12.index t 0 * 1 + 1 * 0 = 0; rw [h.1]
  | ⟨1, _⟩ => show win0_12.index t 1 * 1024 + 1 * j.val = j.val; rw [h.2]; omega

theorem iblk_5 (n : Fin 1024) (j : Fin 1024) : (iblk m c 5 t : FVec Ideal S1x1024x1024 .bf16) (ix3 0 n j) = arg5 m c (ix3 1 n j) := by
  rw [← V_v6]
  unfold iblk
  rw [View.read_apply]
  show V m c main_v6 _ = _
  have h := index_5 t
  refine congrArg (V m c main_v6) (funext fun a => Fin.ext ?_)
  match a with
  | ⟨0, _⟩ => show win0_5.index t 0 * 1 + 1 * 0 = 1; rw [h.1]
  | ⟨1, _⟩ => show win0_5.index t 1 * 1024 + 1 * n.val = n.val; rw [h.2.1]; omega
  | ⟨2, _⟩ => show win0_5.index t 2 * 1024 + 1 * j.val = j.val; rw [h.2.2]; omega

theorem iblk_8 (n : Fin 1024) (j : Fin 2816) : (iblk m c 8 t : FVec Ideal S1x1024x2816 .bf16) (ix3 0 n j) = arg8 m c (ix3 1 n j) := by
  rw [← V_v13]
  unfold iblk
  rw [View.read_apply]
  show V m c main_v13 _ = _
  have h := index_8 t
  refine congrArg (V m c main_v13) (funext fun a => Fin.ext ?_)
  match a with
  | ⟨0, _⟩ => show win0_8.index t 0 * 1 + 1 * 0 = 1; rw [h.1]
  | ⟨1, _⟩ => show win0_8.index t 1 * 1024 + 1 * n.val = n.val; rw [h.2.1]; omega
  | ⟨2, _⟩ => show win0_8.index t 2 * 2816 + 1 * j.val = j.val; rw [h.2.2]; omega

theorem iblk_9 (n : Fin 1024) (j : Fin 2816) : (iblk m c 9 t : FVec Ideal S1x1024x2816 .bf16) (ix3 0 n j) = arg9 m c (ix3 1 n j) := by
  rw [← V_v14]
  unfold iblk
  rw [View.read_apply]
  show V m c main_v14 _ = _
  have h := index_9 t
  refine congrArg (V m c main_v14) (funext fun a => Fin.ext ?_)
  match a with
  | ⟨0, _⟩ => show win0_9.index t 0 * 1 + 1 * 0 = 1; rw [h.1]
  | ⟨1, _⟩ => show win0_9.index t 1 * 1024 + 1 * n.val = n.val; rw [h.2.1]; omega
  | ⟨2, _⟩ => show win0_9.index t 2 * 2816 + 1 * j.val = j.val; rw [h.2.2]; omega

theorem iblk_10 (n : Fin 2816) (j : Fin 1024) : (iblk m c 10 t : FVec Ideal S1x2816x1024 .bf16) (ix3 0 n j) = arg10 m c (ix3 1 n j) := by
  rw [← V_v15]
  unfold iblk
  rw [View.read_apply]
  show V m c main_v15 _ = _
  have h := index_10 t
  refine congrArg (V m c main_v15) (funext fun a => Fin.ext ?_)
  match a with
  | ⟨0, _⟩ => show win0_10.index t 0 * 1 + 1 * 0 = 1; rw [h.1]
  | ⟨1, _⟩ => show win0_10.index t 1 * 2816 + 1 * n.val = n.val; rw [h.2.1]; omega
  | ⟨2, _⟩ => show win0_10.index t 2 * 1024 + 1 * j.val = j.val; rw [h.2.2]; omega

/-- What the body is given at point `t`. -/
def blk : Mix.Blk :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, scM0_0, Memref.isWhole_whole _,
    iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The result: the second layer's half-step of every token. -/
def filled : FVec Ideal S32768x1024 .f32 := fun y =>
  Feed.second (arg0 m c) (arg1 m c) (arg2 m c) (arg3 m c) (arg4 m c) (arg5 m c) (arg6 m c) (arg7 m c) (arg8 m c) (arg9 m c) (arg10 m c) (arg11 m c) (arg12 m c) (y 0) (y 1)

theorem outRow_eq (R : Fin 1024) : Mix.outRow (blk m c t) R
    = Feed.second (arg0 m c) (arg1 m c) (arg2 m c) (arg3 m c) (arg4 m c) (arg5 m c) (arg6 m c) (arg7 m c) (arg8 m c) (arg9 m c) (arg10 m c) (arg11 m c) (arg12 m c) (rowAt t R) := by
  unfold Mix.outRow Mix.mixRow Feed.second
  simp only [blk, iblk_0, iblk_1, iblk_2, iblk_3, iblk_4, iblk_5, iblk_6, iblk_7, iblk_8, iblk_9, iblk_10, iblk_11, iblk_12]

theorem emb_out (j : S1024x1024.Idx) :
    (((cfg0.win 13).blk t).view.emb j : S32768x1024.Idx) 0 = rowAt t (j 0) ∧ (((cfg0.win 13).blk t).view.emb j : S32768x1024.Idx) 1 = j 1 := by
  have h := index_13 t
  constructor
  · refine Fin.ext ?_; show win0_13.index t 0 * 1024 + 1 * (j 0).val = 1024 * t.val + (j 0).val; rw [h.1]; omega
  · refine Fin.ext ?_; show win0_13.index t 1 * 1024 + 1 * (j 1).val = (j 1).val; rw [h.2]; omega

theorem flushed_eq : (dats m 0 c).flushed 13 t = ((cfg0.win 13).blk t).view.read (Elt Ideal) (filled m c) := by
  rw [Value.flushed13_A]
  funext j
  rw [View.read_apply]
  have he := emb_out t j
  refine Eq.trans (Mix.block_apply (blk m c t) c (grid0.coords t) j) ?_
  refine Eq.trans (congrFun (outRow_eq m c t (j 0)) (j 1)) ?_
  exact (congrArg₂ (Feed.second (arg0 m c) (arg1 m c) (arg2 m c) (arg3 m c) (arg4 m c) (arg5 m c) (arg6 m c) (arg7 m c) (arg8 m c) (arg9 m c) (arg10 m c) (arg11 m c) (arg12 m c)) he.1 he.2).symm

theorem xsize_out : ∀ t : Fin cfg0.N, win0_13.xsize (grid0.coords t) 0 = 1024 ∧ win0_13.xsize (grid0.coords t) 1 = 1024 :=
  (by decide +kernel : ∀ t : Fin grid0.N, win0_13.xsize (grid0.coords t) 0 = 1024 ∧ win0_13.xsize (grid0.coords t) 1 = 1024)

theorem cover (y : S32768x1024.Idx) : ∃ t : Fin cfg0.N, (cfg0.win 13).flush t = true ∧ y ∈ ((cfg0.win 13).blk t).view.set := by
  have h0 : (y 0 : Nat) < 32768 := (y 0).isLt
  have h1 : (y 1 : Nat) < 1024 := (y 1).isLt
  have ht : (y 0).val / 1024 < cfg0.N := by rw [show cfg0.N = 32 from N_0]; omega
  refine ⟨⟨(y 0).val / 1024, ht⟩, flush0_13 _, ?_⟩
  show y ∈ ((View.whole main_v22).slice (win0_13.rect ⟨(y 0).val / 1024, ht⟩)).set
  rw [View.set_slice_whole, Rect.mem_set_unit]
  have hi := index_13 ⟨(y 0).val / 1024, ht⟩
  have hx := xsize_out ⟨(y 0).val / 1024, ht⟩
  intro a
  match a with
  | ⟨0, _⟩ =>
    show win0_13.index ⟨(y 0).val / 1024, ht⟩ 0 * 1024 ≤ (y 0 : Nat)
      ∧ (y 0 : Nat) < win0_13.index ⟨(y 0).val / 1024, ht⟩ 0 * 1024 + win0_13.xsize (grid0.coords ⟨(y 0).val / 1024, ht⟩) 0
    rw [hi.1, hx.1]; show (y 0).val / 1024 * 1024 ≤ _ ∧ _ < (y 0).val / 1024 * 1024 + 1024; omega
  | ⟨1, _⟩ =>
    show win0_13.index ⟨(y 0).val / 1024, ht⟩ 1 * 1024 ≤ (y 1 : Nat)
      ∧ (y 1 : Nat) < win0_13.index ⟨(y 0).val / 1024, ht⟩ 1 * 1024 + win0_13.xsize (grid0.coords ⟨(y 0).val / 1024, ht⟩) 1
    rw [hi.2, hx.2]; omega

/-- The result array after the call. -/
theorem final : (dats m 0 c).arrAt 13 cfg0.N = filled m c :=
  (dats m 0 c).arrAt_eq_of_cover 13 (filled m c) (fun t _ => flushed_eq m c t) cover

end Cert.Kernel2Ideal.Filled

end

end
-- ==== Proof.Told.lean ====
/-
  The reference of the second layer's mixing and feed-forward half-step, element by element.
-/
module

public import proofs.«01_k».proof.Proof.Feed
public import proofs.«01_k».proof.Proof.Gen.Reference2Ideal.Read

@[expose] public section

set_option maxRecDepth 65536
set_option maxHeartbeats 1000000

noncomputable section

namespace Cert.Told

open Cert.Reference2Ideal Cert.Reference2Ideal.Gen Cert.Reference2Ideal.Read Idealize.ShloMosaic

variable (x0 x1 : FVec Ideal S32768x512 .f32) (x2 : FVec Ideal S32768x1024 .f32) (x3 x4 : FVec Ideal S2x512 .f32)
  (x5 : FVec Ideal S2x1024x1024 .f32) (x6 x7 : FVec Ideal S2x1024 .f32) (x8 x9 : FVec Ideal S2x1024x2816 .f32)
  (x10 : FVec Ideal S2x2816x1024 .f32) (x11 x12 : FVec Ideal S2x1024 .f32)

theorem rms_attn (R : Fin 32768) (j : Fin 512) :
    val_main_v14 (F := Ideal) x0 x3 (ix2 R j) = Feed.rms (fun j => x0 (ix2 R j)) (fun j => x3 (ix2 1 j)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem rms_fourier (R : Fin 32768) (j : Fin 512) :
    val_main_v29 (F := Ideal) x1 x4 (ix2 R j) = Feed.rms (fun j => x1 (ix2 R j)) (fun j => x4 (ix2 1 j)) j := by
  pointwise [val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  rfl

theorem joined_attn (R : Fin 32768) (j : Fin 512) :
    val_main_v30 (F := Ideal) x0 x1 x3 x4 (ix2 R ⟨j.val, by omega⟩) = val_main_v14 (F := Ideal) x0 x3 (ix2 R j) := by
  pointwise [val_main_v30]

theorem joined_fourier (R : Fin 32768) (j : Fin 512) :
    val_main_v30 (F := Ideal) x0 x1 x3 x4 (ix2 R ⟨512 + j.val, by omega⟩) = val_main_v29 (F := Ideal) x1 x4 (ix2 R j) := by
  pointwise [val_main_v30]

/-- The mixed token `R`. -/
def mixRow (R : Fin 32768) : Fin 1024 → EReal :=
  Feed.mixed (fun j => x0 (ix2 R j)) (fun j => x1 (ix2 R j)) (fun j => x2 (ix2 R j)) (fun j => x3 (ix2 1 j)) (fun j => x4 (ix2 1 j))
    (fun n j => x5 (ix3 1 n j)) (fun j => x6 (ix2 1 j)) (fun j => x7 (ix2 1 j))

theorem projected (R : Fin 32768) (l : Fin 1024) :
    val_main_v35 (F := Ideal) x0 x1 x3 x4 x5 (ix2 R l)
      = (∑ n : Fin 512, Feed.rms (fun j => x0 (ix2 R j)) (fun j => x3 (ix2 1 j)) n * x5 (ix3 1 ⟨n.val, by omega⟩ l))
        + ∑ n : Fin 512, Feed.rms (fun j => x1 (ix2 R j)) (fun j => x4 (ix2 1 j)) n * x5 (ix3 1 ⟨512 + n.val, by omega⟩ l) := by
  have h : val_main_v35 (F := Ideal) x0 x1 x3 x4 x5 (ix2 R l)
      = ∑ n : Fin 1024, val_main_v30 (F := Ideal) x0 x1 x3 x4 (ix2 R n) * x5 (ix3 1 n l) := by
    pointwise [val_main_v35, val_main_v34, val_main_v33]
  rw [h]
  refine (Fin.sum_univ_add (a := 512) (b := 512) fun n => val_main_v30 (F := Ideal) x0 x1 x3 x4 (ix2 R n) * x5 (ix3 1 n l)).trans ?_
  refine congrArg₂ (· + ·) (Finset.sum_congr rfl fun n _ => ?_) (Finset.sum_congr rfl fun n _ => ?_)
  · exact congrArg (· * _) ((joined_attn x0 x1 x3 x4 R n).trans (rms_attn x0 x3 R n))
  · exact congrArg (· * _) ((joined_fourier x0 x1 x3 x4 R n).trans (rms_fourier x1 x4 R n))

theorem mixed_apply (R : Fin 32768) (l : Fin 1024) :
    val_main_v62 (F := Ideal) x0 x1 x2 x3 x4 x5 x6 x7 (ix2 R l) = mixRow x0 x1 x2 x3 x4 x5 x6 x7 R l := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v32, val_main_v31, val_main_cst_5, val_main_cst_6, val_main_cst_7, val_main_cst_8, val_main_cst_9, val_main_cst_10]
  simp only [projected]
  rfl

theorem hidden_apply (R : Fin 32768) (q : Fin 2816) :
    val_main_v74 (F := Ideal) x0 x1 x2 x3 x4 x5 x6 x7 x8 x9 (ix2 R q)
      = Feed.hidden (mixRow x0 x1 x2 x3 x4 x5 x6 x7 R) (fun n q => x8 (ix3 1 n q)) (fun n q => x9 (ix3 1 n q)) q := by
  pointwise [val_main_v74, val_main_v73, val_main_v72, val_main_v71, val_main_v68, val_main_v67, val_main_v66, val_main_v65, val_main_call0_v5, val_main_call0_v4, val_main_call0_v3, val_main_call0_v2, val_main_call0_v1, val_main_call0_v0, val_main_call0_cst, val_main_call0_cst_0]
  simp only [mixed_apply]
  rfl

theorem second_apply (R : Fin 32768) (l : Fin 1024) :
    val_main_v104 (F := Ideal) x0 x1 x2 x3 x4 x5 x6 x7 x8 x9 x10 x11 x12 (ix2 R l)
      = Feed.second x0 x1 x2 x3 x4 x5 x6 x7 x8 x9 x10 x11 x12 R l := by
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v70, val_main_v69, val_main_v64, val_main_v63, val_main_cst_11, val_main_cst_12, val_main_cst_13, val_main_cst_14, val_main_cst_15, val_main_cst_16, val_main_cst_17]
  simp only [mixed_apply, hidden_apply]
  rfl

end Cert.Told

end

end
-- ==== Proof.Head.lean ====
/-
  One run of the first call's body, on a block of 1024 tokens: the feed-forward half-step and the input projection, row by
  row. The body works on four sub-blocks of 256 tokens, and takes the hidden numbers 256 at a time through a scratch.
-/
module

public import proofs.«01_k».proof.Proof.Feed
public import proofs.«01_k».proof.Proof.Gen.Kernel3Ideal.Frame
public import Idealize.ShloMosaic.Lib.Pointwise
public import Idealize.ShloMosaic.Lib.Pipeline.ValueKit.Tiles
public import Idealize.ShloMosaic.Lib.Pipeline.ValueKit.Geometry

@[expose] public section

set_option maxRecDepth 65536
set_option maxHeartbeats 1000000

noncomputable section

namespace Cert.Kernel3Ideal.Head

open Cert.Kernel3Ideal Cert.Kernel3Ideal.Gen Idealize.ShloMosaic Idealize.ShloMosaic.TcCoe Idealize.SL.Sem

/-! ## Places -/

/-- Sub-block `s` of 256 rows of a block of 1024 rows of 1024. -/
abbrev rows1024 (s : Fin 4) : Rect S1024x1024 :=
  Rect.unit ![256 * s.val, 0] S256x1024.size (by intro d; fin_cases d <;> simp [Shape.size] <;> omega)

/-- Sub-block `s` of 256 rows of a block of 1024 rows of 512. -/
abbrev rows512 (s : Fin 4) : Rect S1024x512 :=
  Rect.unit ![256 * s.val, 0] S256x512.size (by intro d; fin_cases d <;> simp [Shape.size] <;> omega)

/-- Sub-block `s` of 256 rows of group `g`, of four groups of 1024 rows of 128. -/
abbrev rows128 (s g : Fin 4) : Rect S4x1024x128 :=
  Rect.unit ![g.val, 256 * s.val, 0] S1x256x128.size (by intro d; fin_cases d <;> simp [Shape.size] <;> omega)

/-- Hidden numbers `256 * j` onwards, of a weight. -/
abbrev chunk (j : Fin 11) : Rect S1x1024x2816 :=
  Rect.unit ![0, 0, 256 * j.val] S1x1024x256.size (by intro d; fin_cases d <;> simp [Shape.size] <;> omega)

/-- Columns `512 * p` onwards of the input projection. -/
abbrev columns (p : Fin 4) : Rect S1x1024x2048 :=
  Rect.unit ![0, 0, 512 * p.val] S1x1024x512.size (by intro d; fin_cases d <;> simp [Shape.size] <;> omega)

/-- Hidden numbers `256 * j` onwards, of the tokens of sub-block `s`, in the scratch. -/
abbrev cell (s : Fin 4) (j : Fin 11) : Rect S4x256x2816 :=
  Rect.unit ![s.val, 0, 256 * j.val] S1x256x256.size (by intro d; fin_cases d <;> simp [Shape.size] <;> omega)

/-- All hidden numbers of the tokens of sub-block `s`, in the scratch. -/
abbrev slab (s : Fin 4) : Rect S4x256x2816 :=
  Rect.unit ![s.val, 0, 0] S1x256x2816.size (by intro d; fin_cases d <;> simp [Shape.size] <;> omega)

/-- Row `r` of sub-block `s`, in the block. -/
def row (s : Fin 4) (r : Fin 256) : Fin 1024 := ⟨256 * s.val + r.val, by omega⟩

/-- Of `N` things the first `n`, the last of them at the head. -/
def listed {α : Type*} {N : ℕ} (p : (n : ℕ) → n < N → α) : (n : ℕ) → n ≤ N → List α
  | 0, _ => []
  | n + 1, h => p n h :: listed p n (by omega)

/-- What is listed. -/
theorem mem_listed {α : Type*} {N : ℕ} (p : (n : ℕ) → n < N → α) (a : α) :
    ∀ (n : ℕ) (h : n ≤ N), a ∈ listed p n h ↔ ∃ (q : ℕ) (hq : q < n), a = p q (by omega)
  | 0, _ => by simp [listed]
  | n + 1, h => by
    rw [listed, List.mem_cons, mem_listed p a n (by omega)]
    constructor
    · rintro (rfl | ⟨q, hq, rfl⟩)
      · exact ⟨n, by omega, rfl⟩
      · exact ⟨q, by omega, rfl⟩
    · rintro ⟨q, hq, rfl⟩
      rcases Nat.lt_succ_iff_lt_or_eq.mp hq with h' | rfl
      · exact Or.inr ⟨q, h', rfl⟩
      · exact Or.inl rfl

/-! ## The body's values -/

/-- 256 hidden numbers of 256 tokens, as the body writes them for the first sub-block. -/
def hidV (x : FVec Ideal S256x1024 .f32) (wg wu : FVec Ideal S1x1024x256 .bf16) : FVec Ideal S1x256x256 .bf16 :=
  k0_pay6 x wg wu

/-- The half-step of 256 tokens, from their hidden numbers. -/
def outV (x : FVec Ideal S256x1024 .f32) (h : FVec Ideal S1x256x2816 .bf16) (wd : FVec Ideal S1x2816x1024 .bf16)
    (g b : FVec Ideal S1x1024 .f32) : FVec Ideal S256x1024 .f32 :=
  k0_pay70 (k0_pay68 x h wd) (k0_pay69 g) b

/-- The Fourier mixing's columns of 256 tokens, group by group. -/
def foV (x : FVec Ideal S256x1024 .f32) (w : FVec Ideal S1x1024x512 .bf16) : Fin 4 → FVec Ideal S1x256x128 .f32
  | 0 => k0_pay92 (k0_pay91 x w)
  | 1 => k0_pay93 (k0_pay90 x w)
  | 2 => k0_pay94 (k0_pay90 x w)
  | 3 => k0_pay95 (k0_pay90 x w)

/-- A hidden number, from its token and its columns of the weights. -/
theorem hidV_apply (x : FVec Ideal S256x1024 .f32) (wg wu : FVec Ideal S1x1024x256 .bf16) (r j : Fin 256) :
    hidV x wg wu (ix3 0 r j)
      = (∑ n : Fin 1024, x (ix2 r n) * wg (ix3 0 n j)) * Ideal.logistic (∑ n : Fin 1024, x (ix2 r n) * wg (ix3 0 n j))
        * ∑ n : Fin 1024, x (ix2 r n) * wu (ix3 0 n j) := by
  pointwise [hidV, k0_pay6, k0_pay2]

/-- The half-step of a token, element by element, from its hidden numbers. -/
theorem outV_apply (x : FVec Ideal S256x1024 .f32) (h : FVec Ideal S1x256x2816 .bf16) (wd : FVec Ideal S1x2816x1024 .bf16)
    (g b : FVec Ideal S1x1024 .f32) (r : Fin 256) (l : Fin 1024) :
    outV x h wd g b (ix2 r l)
      = Feed.norm (fun c => Feed.word 0x3FB504F3#32 * x (ix2 r c)
          + Feed.word 0x3F000000#32 * ∑ n : Fin 2816, h (ix3 0 r n) * wd (ix3 0 n c))
        (fun c => g (ix2 0 c)) (fun c => b (ix2 0 c)) l := by
  pointwise [outV, k0_pay70, k0_pay68, k0_pay69]
  rfl

/-- A query of a token, scaled. -/
theorem query_apply (x : FVec Ideal S256x1024 .f32) (w : FVec Ideal S1x1024x512 .bf16) (r : Fin 256) (l : Fin 512) :
    k0_pay87 (F := Ideal) x w (ix2 r l) = (∑ n : Fin 1024, x (ix2 r n) * w (ix3 0 n l)) * Feed.scale := by
  pointwise [k0_pay87, k0_pay86]
  rfl

/-- A key of a token. -/
theorem key_apply (x : FVec Ideal S256x1024 .f32) (w : FVec Ideal S1x1024x512 .bf16) (r : Fin 256) (l : Fin 512) :
    k0_pay88 (F := Ideal) x w (ix2 r l) = ∑ n : Fin 1024, x (ix2 r n) * w (ix3 0 n l) := by
  pointwise [k0_pay88, k0_pay86]

/-- A value of a token. -/
theorem value_apply (x : FVec Ideal S256x1024 .f32) (w : FVec Ideal S1x1024x512 .bf16) (r : Fin 256) (l : Fin 512) :
    k0_pay89 (F := Ideal) x w (ix2 r l) = ∑ n : Fin 1024, x (ix2 r n) * w (ix3 0 n l) := by
  pointwise [k0_pay89, k0_pay86]

/-- A column of a token for the Fourier mixing, in its group. -/
theorem foV_apply (x : FVec Ideal S256x1024 .f32) (w : FVec Ideal S1x1024x512 .bf16) (g : Fin 4) (r : Fin 256) (l : Fin 128) :
    foV x w g (ix3 0 r l) = ∑ n : Fin 1024, x (ix2 r n) * w (ix3 0 n ⟨128 * g.val + l.val, by omega⟩) := by
  match g with
  | 0 => pointwise [foV, k0_pay92, k0_pay91, k0_pay90, k0_pay86]
  | 1 => pointwise [foV, k0_pay93, k0_pay90, k0_pay86]
  | 2 => pointwise [foV, k0_pay94, k0_pay90, k0_pay86]
  | 3 => pointwise [foV, k0_pay95, k0_pay90, k0_pay86]

/-- What one run of the body is given: its arrays' places, and the blocks in them. -/
structure Blk where
  (arg1 : Memref sig .tc .vmem S1024x1024 .f32) (harg1 : arg1.IsWhole)
  (arg2 : Memref sig .tc .vmem S1x1024x2816 .bf16) (harg2 : arg2.IsWhole)
  (arg3 : Memref sig .tc .vmem S1x1024x2816 .bf16) (harg3 : arg3.IsWhole)
  (arg4 : Memref sig .tc .vmem S1x2816x1024 .bf16) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1x1024x2048 .bf16) (harg7 : arg7.IsWhole)
  (arg8 : Memref sig .tc .vmem S1024x1024 .f32) (harg8 : arg8.IsWhole)
  (arg9 : Memref sig .tc .vmem S1024x512 .bf16) (harg9 : arg9.IsWhole)
  (arg10 : Memref sig .tc .vmem S1024x512 .bf16) (harg10 : arg10.IsWhole)
  (arg11 : Memref sig .tc .vmem S1024x512 .bf16) (harg11 : arg11.IsWhole)
  (arg12 : Memref sig .tc .vmem S4x1024x128 .f32) (harg12 : arg12.IsWhole)
  (arg13 : Memref sig .tc .vmem S4x256x2816 .bf16) (harg13 : arg13.IsWhole)
  (x0 : Vec Ideal S1024x1024 .f32) (x1 : Vec Ideal S1x1024x2816 .bf16) (x2 : Vec Ideal S1x1024x2816 .bf16) (x3 : Vec Ideal S1x2816x1024 .bf16) (x4 : Vec Ideal S1x1024 .f32) (x5 : Vec Ideal S1x1024 .f32) (x6 : Vec Ideal S1x1024x2048 .bf16)

variable (k : Blk)

/-- The tokens of sub-block `s`. -/
def tokS (s : Fin 4) : FVec Ideal S256x1024 .f32 :=
  (View.readAt (Elt Ideal) k.arg1.view (rows1024 s).toLoadRect (k.harg1.unread k.x0))

/-- Chunk `j` of the hidden numbers of sub-block `s`. -/
def hidS (s : Fin 4) (j : Fin 11) : FVec Ideal S1x256x256 .bf16 :=
  hidV (tokS k s)
    (View.readAt (Elt Ideal) k.arg2.view (chunk j).toLoadRect (k.harg2.unread k.x1))
    (View.readAt (Elt Ideal) k.arg3.view (chunk j).toLoadRect (k.harg3.unread k.x2))

/-- Piece `n` of the scratch: sub-blocks run fastest, then chunks. -/
def piece (n : ℕ) (h : n < 44) : View.Piece (Elt Ideal) S4x256x2816 .bf16 :=
  ⟨cell ⟨n % 4, by omega⟩ ⟨n / 4, by omega⟩, hidS k ⟨n % 4, by omega⟩ ⟨n / 4, by omega⟩⟩

/-- The scratch read back by sub-block `s`: its hidden numbers. -/
def slabS (s : Fin 4) : FVec Ideal S1x256x2816 .bf16 :=
  k.arg13.view.readCov (listed (piece k) 44 (le_refl 44)) (slab s).toLoadRect

/-- The half-step of sub-block `s`. -/
def outS (s : Fin 4) : FVec Ideal S256x1024 .f32 :=
  outV (tokS k s) (slabS k s)
    (View.readAt (Elt Ideal) k.arg4.view (Rect.unit ![0, 0, 0] S1x2816x1024.size inb_S1x2816x1024_S1x2816x1024_0_0_0).toLoadRect (k.harg4.unread k.x3))
    (View.readAt (Elt Ideal) k.arg5.view (Rect.unit ![0, 0] S1x1024.size inb_S1x1024_S1x1024_0_0).toLoadRect (k.harg5.unread k.x4))
    (View.readAt (Elt Ideal) k.arg6.view (Rect.unit ![0, 0] S1x1024.size inb_S1x1024_S1x1024_0_0).toLoadRect (k.harg6.unread k.x5))

/-- Columns `512 * p` onwards of the input projection, as the body loads them. -/
def colS (p : Fin 4) : FVec Ideal S1x1024x512 .bf16 :=
  (View.readAt (Elt Ideal) k.arg7.view (columns p).toLoadRect (k.harg7.unread k.x6))

/-- The store of the half-step of sub-block `n`. -/
def outPiece (n : ℕ) (h : n < 4) : View.Piece (Elt Ideal) S1024x1024 .f32 := ⟨rows1024 ⟨n, h⟩, outS k ⟨n, h⟩⟩

/-- The store of 512 columns `S` of sub-block `n`. -/
def rowPiece (S : Fin 4 → FVec Ideal S256x512 .bf16) (n : ℕ) (h : n < 4) : View.Piece (Elt Ideal) S1024x512 .bf16 :=
  ⟨rows512 ⟨n, h⟩, S ⟨n, h⟩⟩

/-- The store of a group of a sub-block: groups run fastest. -/
def foPiece (n : ℕ) (h : n < 16) : View.Piece (Elt Ideal) S4x1024x128 .f32 :=
  ⟨rows128 ⟨n / 4, by omega⟩ ⟨n % 4, by omega⟩, foV (outS k ⟨n / 4, by omega⟩) (colS k 3) ⟨n % 4, by omega⟩⟩

/-- The scaled queries of sub-block `s`. -/
def qS (s : Fin 4) : FVec Ideal S256x512 .bf16 := k0_pay87 (outS k s) (colS k 0)
/-- The keys of sub-block `s`. -/
def kS (s : Fin 4) : FVec Ideal S256x512 .bf16 := k0_pay88 (outS k s) (colS k 1)
/-- The values of sub-block `s`. -/
def vS (s : Fin 4) : FVec Ideal S256x512 .bf16 := k0_pay89 (outS k s) (colS k 2)

variable (c : Dev nD) (i : grid0.Coords)

/-! ## The body's stores -/

theorem run_out : (kernelRun0_A (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6).1
      = listed (outPiece k) 4 (le_refl 4) := by
  unfold kernelRun0_A
  rfl

theorem run_q : (kernelRun0_A (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6).2.1
      = listed (rowPiece (qS k)) 4 (le_refl 4) := by
  unfold kernelRun0_A
  rfl

theorem run_k : (kernelRun0_A (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6).2.2.1
      = listed (rowPiece (kS k)) 4 (le_refl 4) := by
  unfold kernelRun0_A
  rfl

theorem run_v : (kernelRun0_A (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6).2.2.2.1
      = listed (rowPiece (vS k)) 4 (le_refl 4) := by
  unfold kernelRun0_A
  rfl

theorem run_fo : (kernelRun0_A (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6).2.2.2.2.1
      = listed (foPiece k) 16 (le_refl 16) := by
  unfold kernelRun0_A
  rfl

/-- A load of part of an array that holds `X`, at an element. -/
theorem load_apply {sp : Space} {s : Shape} {e : EltTy} (M : Memref sig .tc sp s e) (hM : M.IsWhole) (X : s.Idx → Elt Ideal e)
    (off size : Fin s.rank → ℕ) (inb : ∀ a, off a + size a ≤ s.size a) (x : (Rect.unit off size inb).shape.Idx) (i : s.Idx)
    (hi : ∀ a, (i a).val = off a + (x a).val) :
    View.readAt (Elt Ideal) M.view (Rect.unit off size inb).toLoadRect (hM.unread X) x = X i := by
  rw [View.readAt_eq_ld, hM.read_unread]
  exact View.ld_unit_apply_of X off size inb x i hi

/-- The hidden numbers of row `R` of the block. -/
def hidRow (R : Fin 1024) : Fin 2816 → EReal :=
  Feed.hidden (fun j => k.x0 (ix2 R j)) (fun n f => k.x1 (ix3 0 n f)) (fun n f => k.x2 (ix3 0 n f))

/-- Row `R` of the block after the half-step. -/
def outRow (R : Fin 1024) : Fin 1024 → EReal :=
  Feed.half (fun j => k.x0 (ix2 R j)) (fun n f => k.x1 (ix3 0 n f)) (fun n f => k.x2 (ix3 0 n f)) (fun f n => k.x3 (ix3 0 f n))
    (fun j => k.x4 (ix2 0 j)) (fun j => k.x5 (ix2 0 j))

/-- Column `p` of the input projection of row `R` of the block. -/
def colRow (R : Fin 1024) (p : Fin 2048) : EReal := Feed.column (outRow k R) (fun n p => k.x6 (ix3 0 n p)) p

theorem tokS_apply (s : Fin 4) (r : Fin 256) (l : Fin 1024) : tokS k s (ix2 r l) = k.x0 (ix2 (row s r) l) :=
  load_apply _ _ _ _ _ _ _ _ (by intro a; fin_cases a <;> simp [row])

theorem hidS_apply (s : Fin 4) (j : Fin 11) (r e : Fin 256) :
    hidS k s j (ix3 0 r e) = hidRow k (row s r) ⟨256 * j.val + e.val, by omega⟩ := by
  unfold hidS hidRow Feed.hidden
  rw [hidV_apply]
  have h1 : ∀ n : Fin 1024, View.readAt (Elt Ideal) k.arg2.view (chunk j).toLoadRect (k.harg2.unread k.x1) (ix3 0 n e) = k.x1 (ix3 0 n ⟨256 * j.val + e.val, by omega⟩) :=
    fun n => load_apply _ _ _ _ _ _ _ _ (by intro a; fin_cases a <;> simp)
  have h2 : ∀ n : Fin 1024, View.readAt (Elt Ideal) k.arg3.view (chunk j).toLoadRect (k.harg3.unread k.x2) (ix3 0 n e) = k.x2 (ix3 0 n ⟨256 * j.val + e.val, by omega⟩) :=
    fun n => load_apply _ _ _ _ _ _ _ _ (by intro a; fin_cases a <;> simp)
  simp only [h1, h2, tokS_apply]

theorem hidS_cell (s : Fin 4) (j : Fin 11) (x : S1x256x256.Idx) :
    hidS k s j x = hidRow k (row ((cell s j).emb x 0) ((cell s j).emb x 1)) ((cell s j).emb x 2) := by
  have hx : x = ix3 0 (x 1) (x 2) := by
    funext a
    match a with
    | ⟨0, _⟩ => exact Subsingleton.elim (α := Fin 1) _ _
    | ⟨1, _⟩ => rfl
    | ⟨2, _⟩ => rfl
  have e0 : ∀ a, (((cell s j).emb x a : Fin _) : ℕ) = ![s.val, 0, 256 * j.val] a + (x a).val :=
    fun a => ValueKit.rect_emb_unit_val _ _ _ _ a
  have z0 : (x 0).val = 0 := Nat.lt_one_iff.mp (x 0).isLt
  have f0 : (cell s j).emb x 0 = s := Fin.ext (by have := e0 0; simpa [z0] using this)
  have f1 : (cell s j).emb x 1 = x 1 := Fin.ext (by have := e0 1; simpa using this)
  have f2 : (cell s j).emb x 2 = (⟨256 * j.val + (x 2).val, by have : (x 2).val < 256 := (x 2).isLt; omega⟩ : Fin 2816) :=
    Fin.ext (by have := e0 2; simpa using this)
  rw [f0, f1, f2]
  refine Eq.trans (congrArg (hidS k s j) hx) (hidS_apply k s j (x 1) (x 2))

/-- The scratch after its 44 stores, element by element. -/
theorem scratch_apply (y : S4x256x2816.Idx) :
    k.arg13.view.read (Elt Ideal) (k.arg13.view.writes (Elt Ideal) k.arg13.view.junk (listed (piece k) 44 (le_refl 44))) y
      = hidRow k (row (y 0) (y 1)) (y 2) := by
  refine View.read_writes_apply_of_pieces (Val := Elt Ideal) k.arg13.view _ (fun y => hidRow k (row (y 0) (y 1)) (y 2)) _ ?_ y ?_
  · intro p hp x
    obtain ⟨q, hq, rfl⟩ := (mem_listed (piece k) p 44 (le_refl 44)).mp hp
    exact hidS_cell k _ _ x
  · have y0 : (y 0).val < 4 := (y 0).isLt
    have y1 : (y 1).val < 256 := (y 1).isLt
    have y2 : (y 2).val < 2816 := (y 2).isLt
    refine ⟨piece k (4 * ((y 2).val / 256) + (y 0).val) (by omega), (mem_listed (piece k) _ 44 (le_refl 44)).mpr ⟨_, by omega, rfl⟩, ?_⟩
    have hm : ∀ (s : Fin 4) (j : Fin 11), (y 0).val = s.val → (y 2).val / 256 = j.val → y ∈ (cell s j).set := by
      intro s j h0 h2
      refine Rect.mem_set_unit.mpr fun a => ?_
      fin_cases a <;> simp [Shape.size] <;> omega
    exact hm _ _ (by show _ = (4 * ((y 2).val / 256) + (y 0).val) % 4; omega) (by show _ = (4 * ((y 2).val / 256) + (y 0).val) / 4; omega)

theorem slabS_apply (s : Fin 4) (r : Fin 256) (f : Fin 2816) : slabS k s (ix3 0 r f) = hidRow k (row s r) f := by
  unfold slabS View.readCov
  rw [View.readAt_apply, scratch_apply]
  have e0 : ∀ a, (((slab s).toLoadRect.idx (ix3 0 r f) a : Fin _) : ℕ) = ![s.val, 0, 0] a + (ix3 (0 : Fin 1) r f a).val :=
    fun a => Rect.idx_unit_val (s := S4x256x2816) ![s.val, 0, 0] S1x256x2816.size _ (ix3 0 r f) a
  congr 1
  · exact congrArg₂ row (Fin.ext (by have := e0 0; simpa using this)) (Fin.ext (by have := e0 1; simpa using this))
  · exact Fin.ext (by have := e0 2; simpa using this)

theorem outS_apply (s : Fin 4) (r : Fin 256) (l : Fin 1024) : outS k s (ix2 r l) = outRow k (row s r) l := by
  unfold outS outRow Feed.half
  rw [outV_apply]
  have h3 : ∀ (f : Fin 2816) (n : Fin 1024), View.readAt (Elt Ideal) k.arg4.view (Rect.unit ![0, 0, 0] S1x2816x1024.size inb_S1x2816x1024_S1x2816x1024_0_0_0).toLoadRect (k.harg4.unread k.x3) (ix3 0 f n) = k.x3 (ix3 0 f n) :=
    fun f n => load_apply _ _ _ _ _ _ _ _ (by intro a; fin_cases a <;> simp)
  have h4 : ∀ j : Fin 1024, View.readAt (Elt Ideal) k.arg5.view (Rect.unit ![0, 0] S1x1024.size inb_S1x1024_S1x1024_0_0).toLoadRect (k.harg5.unread k.x4) (ix2 0 j) = k.x4 (ix2 0 j) :=
    fun j => load_apply _ _ _ _ _ _ _ _ (by intro a; fin_cases a <;> simp)
  have h5 : ∀ j : Fin 1024, View.readAt (Elt Ideal) k.arg6.view (Rect.unit ![0, 0] S1x1024.size inb_S1x1024_S1x1024_0_0).toLoadRect (k.harg6.unread k.x5) (ix2 0 j) = k.x5 (ix2 0 j) :=
    fun j => load_apply _ _ _ _ _ _ _ _ (by intro a; fin_cases a <;> simp)
  simp only [h3, h4, h5, tokS_apply, slabS_apply]
  rfl

theorem colS_apply (p : Fin 4) (n : Fin 1024) (l : Fin 512) :
    colS k p (ix3 0 n l) = k.x6 (ix3 0 n ⟨512 * p.val + l.val, by omega⟩) :=
  load_apply _ _ _ _ _ _ _ _ (by intro a; fin_cases a <;> simp)

theorem qS_apply (s : Fin 4) (r : Fin 256) (l : Fin 512) :
    qS k s (ix2 r l) = colRow k (row s r) ⟨l.val, by omega⟩ * Feed.scale := by
  unfold qS colRow Feed.column
  rw [query_apply]
  simp only [outS_apply, colS_apply]
  refine congrArg (· * Feed.scale) (Finset.sum_congr rfl fun n _ => ?_)
  exact congrArg (fun p => outRow k (row s r) n * k.x6 (ix3 0 n p)) (Fin.ext (by simp))

theorem kS_apply (s : Fin 4) (r : Fin 256) (l : Fin 512) :
    kS k s (ix2 r l) = colRow k (row s r) ⟨512 + l.val, by omega⟩ := by
  unfold kS colRow Feed.column
  rw [key_apply]
  simp only [outS_apply, colS_apply]
  refine Finset.sum_congr rfl fun n _ => ?_
  exact congrArg (fun p => outRow k (row s r) n * k.x6 (ix3 0 n p)) (Fin.ext (by simp))

theorem vS_apply (s : Fin 4) (r : Fin 256) (l : Fin 512) :
    vS k s (ix2 r l) = colRow k (row s r) ⟨1024 + l.val, by omega⟩ := by
  unfold vS colRow Feed.column
  rw [value_apply]
  simp only [outS_apply, colS_apply]
  refine Finset.sum_congr rfl fun n _ => ?_
  exact congrArg (fun p => outRow k (row s r) n * k.x6 (ix3 0 n p)) (Fin.ext (by simp))

theorem foS_apply (s g : Fin 4) (r : Fin 256) (l : Fin 128) :
    foV (outS k s) (colS k 3) g (ix3 0 r l) = colRow k (row s r) ⟨1536 + (128 * g.val + l.val), by omega⟩ := by
  unfold colRow Feed.column
  rw [foV_apply]
  simp only [outS_apply, colS_apply]
  refine Finset.sum_congr rfl fun n _ => ?_
  exact congrArg (fun p => outRow k (row s r) n * k.x6 (ix3 0 n p)) (Fin.ext (by simp))

/-! ## The output blocks after the body -/

theorem outS_rows (s : Fin 4) (x : S256x1024.Idx) :
    outS k s x = outRow k ((rows1024 s).emb x 0) ((rows1024 s).emb x 1) := by
  have hx : x = ix2 (x 0) (x 1) := by
    funext a
    match a with
    | ⟨0, _⟩ => rfl
    | ⟨1, _⟩ => rfl
  have e0 : ∀ a, (((rows1024 s).emb x a : Fin _) : ℕ) = ![256 * s.val, 0] a + (x a).val :=
    fun a => ValueKit.rect_emb_unit_val _ _ _ _ a
  have f0 : (rows1024 s).emb x 0 = row s (x 0) := Fin.ext (by have := e0 0; simpa [row] using this)
  have f1 : (rows1024 s).emb x 1 = x 1 := Fin.ext (by have := e0 1; simpa using this)
  rw [f0, f1]
  exact Eq.trans (congrArg (outS k s) hx) (outS_apply k s (x 0) (x 1))

theorem outs_pieces : ∀ p ∈ listed (outPiece k) 4 (le_refl 4), ∀ x, p.2 x = (outRow k (p.1.emb x 0) (p.1.emb x 1) : Elt Ideal .f32) := by
  intro p hp x
  obtain ⟨q, hq, rfl⟩ := (mem_listed (outPiece k) p 4 (le_refl 4)).mp hp
  exact outS_rows k _ x

theorem outs_cover (y : S1024x1024.Idx) : ∃ p ∈ listed (outPiece k) 4 (le_refl 4), y ∈ p.1.set := by
  have y0 : (y 0).val < 1024 := (y 0).isLt
  have y1 : (y 1).val < 1024 := (y 1).isLt
  refine ⟨outPiece k ((y 0).val / 256) (by omega), (mem_listed (outPiece k) _ 4 (le_refl 4)).mpr ⟨_, by omega, rfl⟩, ?_⟩
  have hm : ∀ s : Fin 4, (y 0).val / 256 = s.val → y ∈ (rows1024 s).set := by
    intro s h
    refine Rect.mem_set_unit.mpr fun a => ?_
    fin_cases a <;> simp [Shape.size] <;> omega
  exact hm _ rfl

theorem rows_emb (S : Fin 4 → FVec Ideal S256x512 .bf16) (f : Fin 1024 → Fin 512 → EReal)
    (hS : ∀ s r l, S s (ix2 r l) = f (row s r) l) (s : Fin 4) (x : S256x512.Idx) :
    S s x = f ((rows512 s).emb x 0) ((rows512 s).emb x 1) := by
  have hx : x = ix2 (x 0) (x 1) := by
    funext a
    match a with
    | ⟨0, _⟩ => rfl
    | ⟨1, _⟩ => rfl
  have e0 : ∀ a, (((rows512 s).emb x a : Fin _) : ℕ) = ![256 * s.val, 0] a + (x a).val :=
    fun a => ValueKit.rect_emb_unit_val _ _ _ _ a
  have f0 : (rows512 s).emb x 0 = row s (x 0) := Fin.ext (by have := e0 0; simpa [row] using this)
  have f1 : (rows512 s).emb x 1 = x 1 := Fin.ext (by have := e0 1; simpa using this)
  rw [f0, f1]
  exact Eq.trans (congrArg (S s) hx) (hS s (x 0) (x 1))

theorem rows_pieces (S : Fin 4 → FVec Ideal S256x512 .bf16) (f : Fin 1024 → Fin 512 → EReal)
    (hS : ∀ s r l, S s (ix2 r l) = f (row s r) l) :
    ∀ p ∈ listed (rowPiece S) 4 (le_refl 4), ∀ x, p.2 x = (f (p.1.emb x 0) (p.1.emb x 1) : Elt Ideal .bf16) := by
  intro p hp x
  obtain ⟨q, hq, rfl⟩ := (mem_listed (rowPiece S) p 4 (le_refl 4)).mp hp
  exact rows_emb S f hS _ x

theorem rows_cover (S : Fin 4 → FVec Ideal S256x512 .bf16) (y : S1024x512.Idx) :
    ∃ p ∈ listed (rowPiece S) 4 (le_refl 4), y ∈ p.1.set := by
  have y0 : (y 0).val < 1024 := (y 0).isLt
  have y1 : (y 1).val < 512 := (y 1).isLt
  refine ⟨rowPiece S ((y 0).val / 256) (by omega), (mem_listed (rowPiece S) _ 4 (le_refl 4)).mpr ⟨_, by omega, rfl⟩, ?_⟩
  have hm : ∀ s : Fin 4, (y 0).val / 256 = s.val → y ∈ (rows512 s).set := by
    intro s h
    refine Rect.mem_set_unit.mpr fun a => ?_
    fin_cases a <;> simp [Shape.size] <;> omega
  exact hm _ rfl

/-- The Fourier mixing's column `l` of group `g`, of row `R` of the block. -/
def foRow (g : Fin 4) (R : Fin 1024) (l : Fin 128) : EReal := colRow k R ⟨1536 + (128 * g.val + l.val), by omega⟩

theorem foS_emb (s g : Fin 4) (x : S1x256x128.Idx) :
    foV (outS k s) (colS k 3) g x = foRow k ((rows128 s g).emb x 0) ((rows128 s g).emb x 1) ((rows128 s g).emb x 2) := by
  have hx : x = ix3 0 (x 1) (x 2) := by
    funext a
    match a with
    | ⟨0, _⟩ => exact Subsingleton.elim (α := Fin 1) _ _
    | ⟨1, _⟩ => rfl
    | ⟨2, _⟩ => rfl
  have e0 : ∀ a, (((rows128 s g).emb x a : Fin _) : ℕ) = ![g.val, 256 * s.val, 0] a + (x a).val :=
    fun a => ValueKit.rect_emb_unit_val _ _ _ _ a
  have z0 : (x 0).val = 0 := Nat.lt_one_iff.mp (x 0).isLt
  have f0 : (rows128 s g).emb x 0 = g := Fin.ext (by have := e0 0; simpa [z0] using this)
  have f1 : (rows128 s g).emb x 1 = row s (x 1) := Fin.ext (by have := e0 1; simpa [row] using this)
  have f2 : (rows128 s g).emb x 2 = x 2 := Fin.ext (by have := e0 2; simpa using this)
  rw [f0, f1, f2]
  exact Eq.trans (congrArg (foV (outS k s) (colS k 3) g) hx) (foS_apply k s g (x 1) (x 2))

theorem fo_pieces : ∀ p ∈ listed (foPiece k) 16 (le_refl 16), ∀ x,
    p.2 x = (foRow k (p.1.emb x 0) (p.1.emb x 1) (p.1.emb x 2) : Elt Ideal .f32) := by
  intro p hp x
  obtain ⟨q, hq, rfl⟩ := (mem_listed (foPiece k) p 16 (le_refl 16)).mp hp
  exact foS_emb k _ _ x

theorem fo_cover (y : S4x1024x128.Idx) : ∃ p ∈ listed (foPiece k) 16 (le_refl 16), y ∈ p.1.set := by
  have y0 : (y 0).val < 4 := (y 0).isLt
  have y1 : (y 1).val < 1024 := (y 1).isLt
  have y2 : (y 2).val < 128 := (y 2).isLt
  refine ⟨foPiece k (4 * ((y 1).val / 256) + (y 0).val) (by omega), (mem_listed (foPiece k) _ 16 (le_refl 16)).mpr ⟨_, by omega, rfl⟩, ?_⟩
  have hm : ∀ s g : Fin 4, (y 1).val / 256 = s.val → (y 0).val = g.val → y ∈ (rows128 s g).set := by
    intro s g h1 h0
    refine Rect.mem_set_unit.mpr fun a => ?_
    fin_cases a <;> simp [Shape.size] <;> omega
  exact hm _ _ (by show _ = (4 * ((y 1).val / 256) + (y 0).val) / 4; omega) (by show _ = (4 * ((y 1).val / 256) + (y 0).val) % 4; omega)

/-- The block of the stream after the body, element by element. -/
theorem out_block (y : S1024x1024.Idx) :
    out0_A_7 (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6 y = outRow k (y 0) (y 1) := by
  unfold out0_A_7
  rw [run_out]
  have key := View.read_writes_apply_of_pieces (Val := Elt Ideal) VO0_7 VO0_7.junk (fun z => (outRow k (z 0) (z 1) : Elt Ideal .f32))
    (listed (outPiece k) 4 (le_refl 4)) (outs_pieces k) y (outs_cover k y)
  exact key

/-- The block of queries after the body, element by element. -/
theorem q_block (y : S1024x512.Idx) :
    out0_A_8 (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6 y = colRow k (y 0) ⟨(y 1).val, by have : (y 1).val < 512 := (y 1).isLt; omega⟩ * Feed.scale := by
  unfold out0_A_8
  rw [run_q]
  have key := View.read_writes_apply_of_pieces (Val := Elt Ideal) VO0_8 VO0_8.junk (fun z => (colRow k (z 0) ⟨(z 1).val, by have : (z 1).val < 512 := (z 1).isLt; omega⟩ * Feed.scale : Elt Ideal .bf16))
    (listed (rowPiece (qS k)) 4 (le_refl 4)) (rows_pieces (qS k) (fun R l => colRow k R ⟨l.val, by omega⟩ * Feed.scale) (qS_apply k)) y (rows_cover (qS k) y)
  exact key

/-- The block of keys after the body, element by element. -/
theorem k_block (y : S1024x512.Idx) :
    out0_A_9 (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6 y = colRow k (y 0) ⟨512 + (y 1).val, by have : (y 1).val < 512 := (y 1).isLt; omega⟩ := by
  unfold out0_A_9
  rw [run_k]
  have key := View.read_writes_apply_of_pieces (Val := Elt Ideal) VO0_9 VO0_9.junk (fun z => (colRow k (z 0) ⟨512 + (z 1).val, by have : (z 1).val < 512 := (z 1).isLt; omega⟩ : Elt Ideal .bf16))
    (listed (rowPiece (kS k)) 4 (le_refl 4)) (rows_pieces (kS k) (fun R l => colRow k R ⟨512 + l.val, by omega⟩) (kS_apply k)) y (rows_cover (kS k) y)
  exact key

/-- The block of values after the body, element by element. -/
theorem v_block (y : S1024x512.Idx) :
    out0_A_10 (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6 y = colRow k (y 0) ⟨1024 + (y 1).val, by have : (y 1).val < 512 := (y 1).isLt; omega⟩ := by
  unfold out0_A_10
  rw [run_v]
  have key := View.read_writes_apply_of_pieces (Val := Elt Ideal) VO0_10 VO0_10.junk (fun z => (colRow k (z 0) ⟨1024 + (z 1).val, by have : (z 1).val < 512 := (z 1).isLt; omega⟩ : Elt Ideal .bf16))
    (listed (rowPiece (vS k)) 4 (le_refl 4)) (rows_pieces (vS k) (fun R l => colRow k R ⟨1024 + l.val, by omega⟩) (vS_apply k)) y (rows_cover (vS k) y)
  exact key

/-- The block of the Fourier mixing's columns after the body, element by element. -/
theorem fo_block (y : S4x1024x128.Idx) :
    out0_A_11 (F := Ideal) c i k.arg1 k.harg1 k.arg2 k.harg2 k.arg3 k.harg3 k.arg4 k.harg4 k.arg5 k.harg5 k.arg6 k.harg6 k.arg7 k.harg7 k.arg8 k.harg8 k.arg9 k.harg9 k.arg10 k.harg10 k.arg11 k.harg11 k.arg12 k.harg12 k.arg13 k.harg13 k.x0 k.x1 k.x2 k.x3 k.x4 k.x5 k.x6 y = foRow k (y 0) (y 1) (y 2) := by
  unfold out0_A_11
  rw [run_fo]
  have key := View.read_writes_apply_of_pieces (Val := Elt Ideal) VO0_11 VO0_11.junk (fun z => (foRow k (z 0) (z 1) (z 2) : Elt Ideal .f32))
    (listed (foPiece k) 16 (le_refl 16)) (fo_pieces k) y (fo_cover k y)
  exact key

end Cert.Kernel3Ideal.Head

end

end
-- ==== Proof.HeadFilled.lean ====
/-
  The first call: what its five results hold, from the call's arguments.
-/
module

public import proofs.«01_k».proof.Proof.Head
public import proofs.«01_k».proof.Proof.Gen.Kernel3Ideal.Value
public import Idealize.ShloMosaic.Lib.StableHlo.Run

@[expose] public section

set_option maxRecDepth 65536
set_option maxHeartbeats 1000000

noncomputable section

namespace Cert.Kernel3Ideal.HeadFilled

open Cert.Kernel3Ideal Cert.Kernel3Ideal.Gen Idealize.ShloMosaic Idealize.ShloMosaic.TcCoe Idealize.SL.Sem Idealize.ShloMosaic.StableHlo

variable (m : (ℓ : Loc nD τ sig) → Buf (Elt Ideal) ℓ) (c : Dev nD)

abbrev arg0 : FVec Ideal S32768x1024 .f32 := m (c, main_arg0)
abbrev arg1 : FVec Ideal S2x1024x2816 .f32 := m (c, main_arg1)
abbrev arg2 : FVec Ideal S2x1024x2816 .f32 := m (c, main_arg2)
abbrev arg3 : FVec Ideal S2x2816x1024 .f32 := m (c, main_arg3)
abbrev arg4 : FVec Ideal S2x1024 .f32 := m (c, main_arg4)
abbrev arg5 : FVec Ideal S2x1024 .f32 := m (c, main_arg5)
abbrev arg6 : FVec Ideal S2x1024x2048 .f32 := m (c, main_arg6)

/-! ## What the operations before the call leave -/

theorem V_v5 (j : Fin 1024) : (V m c main_v5 : FVec Ideal S1x1024 .f32) (ix2 0 j) = arg4 m c (ix2 1 j) := by
  have h : V m c main_v5 = (shapeCast S1x1024 (shapeCast S1024 (extractStridedSlice S1x1024 ![1, 0] (arg4 m c) slices_S2x1024_S1x1024_1_0) shapeCasts_S1x1024_S1024) shapeCasts_S1024_S1x1024 : FVec Ideal S1x1024 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v8 (j : Fin 1024) : (V m c main_v8 : FVec Ideal S1x1024 .f32) (ix2 0 j) = arg5 m c (ix2 1 j) := by
  have h : V m c main_v8 = (shapeCast S1x1024 (shapeCast S1024 (extractStridedSlice S1x1024 ![1, 0] (arg5 m c) slices_S2x1024_S1x1024_1_0) shapeCasts_S1x1024_S1024) shapeCasts_S1024_S1x1024 : FVec Ideal S1x1024 .f32) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v0 (n : Fin 1024) (j : Fin 2816) : (V m c main_v0 : FVec Ideal S2x1024x2816 .bf16) (ix3 1 n j) = arg1 m c (ix3 1 n j) := by
  have h : V m c main_v0 = (truncf .bf16 (arg1 m c) bitsLt_bf16_f32 : FVec Ideal S2x1024x2816 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v1 (n : Fin 1024) (j : Fin 2816) : (V m c main_v1 : FVec Ideal S2x1024x2816 .bf16) (ix3 1 n j) = arg2 m c (ix3 1 n j) := by
  have h : V m c main_v1 = (truncf .bf16 (arg2 m c) bitsLt_bf16_f32 : FVec Ideal S2x1024x2816 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v2 (n : Fin 2816) (j : Fin 1024) : (V m c main_v2 : FVec Ideal S2x2816x1024 .bf16) (ix3 1 n j) = arg3 m c (ix3 1 n j) := by
  have h : V m c main_v2 = (truncf .bf16 (arg3 m c) bitsLt_bf16_f32 : FVec Ideal S2x2816x1024 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

theorem V_v9 (n : Fin 1024) (j : Fin 2048) : (V m c main_v9 : FVec Ideal S2x1024x2048 .bf16) (ix3 1 n j) = arg6 m c (ix3 1 n j) := by
  have h : V m c main_v9 = (truncf .bf16 (arg6 m c) bitsLt_bf16_f32 : FVec Ideal S2x1024x2048 .bf16) := by
    unfold V
    simp only [hostOps0, List.flatten, List.append, List.cons_append, List.nil_append, TRef.binary, TRef.ternary, TRef.unary, TRef.toBuf, TRef.ofBuf, cast_eq]
    after_results_simp <;> rfl
  rw [h]
  pointwise

/-! ## The blocks a grid point is given -/

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 1 ∧ win0_1.index t 1 = 0 ∧ win0_1.index t 2 = 0 :=
  (by decide +kernel : ∀ t : Fin grid0.N, win0_1.index t 0 = 1 ∧ win0_1.index t 1 = 0 ∧ win0_1.index t 2 = 0)
theorem index_2 : ∀ t : Fin cfg0.N, win0_2.index t 0 = 1 ∧ win0_2.index t 1 = 0 ∧ win0_2.index t 2 = 0 :=
  (by decide +kernel : ∀ t : Fin grid0.N, win0_2.index t 0 = 1 ∧ win0_2.index t 1 = 0 ∧ win0_2.index t 2 = 0)
theorem index_3 : ∀ t : Fin cfg0.N, win0_3.index t 0 = 1 ∧ win0_3.index t 1 = 0 ∧ win0_3.index t 2 = 0 :=
  (by decide +kernel : ∀ t : Fin grid0.N, win0_3.index t 0 = 1 ∧ win0_3.index t 1 = 0 ∧ win0_3.index t 2 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = 1 ∧ win0_6.index t 1 = 0 ∧ win0_6.index t 2 = 0 :=
  (by decide +kernel : ∀ t : Fin grid0.N, win0_6.index t 0 = 1 ∧ win0_6.index t 1 = 0 ∧ win0_6.index t 2 = 0)
theorem index_7 : ∀ t : Fin cfg0.N, win0_7.index t 0 = t.val ∧ win0_7.index t 1 = 0 :=
  (by decide +kernel : ∀ t : Fin grid0.N, win0_7.index t 0 = t.val ∧ win0_7.index t 1 = 0)
theorem index_8 : ∀ t : Fin cfg0.N, win0_8.index t 0 = t.val ∧ win0_8.index t 1 = 0 :=
  (by decide +kernel : ∀ t : Fin grid0.N, win0_8.index t 0 = t.val ∧ win0_8.index t 1 = 0)
theorem index_9 : ∀ t : Fin cfg0.N, win0_9.index t 0 = t.val ∧ win0_9.index t 1 = 0 :=
  (by decide +kernel : ∀ t : Fin grid0.N, win0_9.index t 0 = t.val ∧ win0_9.index t 1 = 0)
theorem index_10 : ∀ t : Fin cfg0.N, win0_10.index t 0 = t.val ∧ win0_10.index t 1 = 0 :=
  (by decide +kernel : ∀ t : Fin grid0.N, win0_10.index t 0 = t.val ∧ win0_10.index t 1 = 0)
theorem index_11 : ∀ t : Fin cfg0.N, win0_11.index t 0 = 0 ∧ win0_11.index t 1 = t.val ∧ win0_11.index t 2 = 0 :=
  (by decide +kernel : ∀ t : Fin grid0.N, win0_11.index t 0 = 0 ∧ win0_11.index t 1 = t.val ∧ win0_11.index t 2 = 0)

variable (t : Fin cfg0.N)

/-- Row `R` of point `t`'s block, in the whole array. -/
def rowAt (R : Fin 1024) : Fin 32768 := ⟨1024 * t.val + R.val, by have h := lt_of_lt_of_eq t.isLt (show cfg0.N = 32 from N_0); omega⟩

theorem iblk_0 (R : Fin 1024) (j : Fin 1024) : (iblk m c 0 t : FVec Ideal S1024x1024 .f32) (ix2 R j) = arg0 m c (ix2 (rowAt t R) j) := by
  have e : V m c main_arg0 = arg0 m c := V_main_arg0 m c
  rw [← e]
  unfold iblk
  rw [View.read_apply]
  show V m c main_arg0 _ = _
  have h := index_0 t
  refine congrArg (V m c main_arg0) (funext fun a => Fin.ext ?_)
  match a with
  | ⟨0, _⟩ => show win0_0.index t 0 * 1024 + 1 * R.val = 1024 * t.val + R.val; rw [h.1]; omega
  | ⟨1, _⟩ => show win0_0.index t 1 * 1024 + 1 * j.val = j.val; rw [h.2]; omega

theorem iblk_4 (j : Fin 1024) : (iblk m c 4 t : FVec Ideal S1x1024 .f32) (ix2 0 j) = arg4 m c (ix2 1 j) := by
  rw [← V_v5]
  unfold iblk
  rw [View.read_apply]
  show V m c main_v5 _ = _
  have h := index_4 t
  refine congrArg (V m c main_v5) (funext fun a => Fin.ext ?_)
  match a with
  | ⟨0, _⟩ => show win0_4.index t 0 * 1 + 1 * 0 = 0; rw [h.1]
  | ⟨1, _⟩ => show win0_4.index t 1 * 1024 + 1 * j.val = j.val; rw [h.2]; omega

theorem iblk_5 (j : Fin 1024) : (iblk m c 5 t : FVec Ideal S1x1024 .f32) (ix2 0 j) = arg5 m c (ix2 1 j) := by
  rw [← V_v8]
  unfold iblk
  rw [View.read_apply]
  show V m c main_v8 _ = _
  have h := index_5 t
  refine congrArg (V m c main_v8) (funext fun a => Fin.ext ?_)
  match a with
  | ⟨0, _⟩ => show win0_5.index t 0 * 1 + 1 * 0 = 0; rw [h.1]
  | ⟨1, _⟩ => show win0_5.index t 1 * 1024 + 1 * j.val = j.val; rw [h.2]; omega

theorem iblk_1 (n : Fin 1024) (j : Fin 2816) : (iblk m c 1 t : FVec Ideal S1x1024x2816 .bf16) (ix3 0 n j) = arg1 m c (ix3 1 n j) := by
  rw [← V_v0]
  unfold iblk
  rw [View.read_apply]
  show V m c main_v0 _ = _
  have h := index_1 t
  refine congrArg (V m c main_v0) (funext fun a => Fin.ext ?_)
  match a with
  | ⟨0, _⟩ => show win0_1.index t 0 * 1 + 1 * 0 = 1; rw [h.1]
  | ⟨1, _⟩ => show win0_1.index t 1 * 1024 + 1 * n.val = n.val; rw [h.2.1]; omega
  | ⟨2, _⟩ => show win0_1.index t 2 * 2816 + 1 * j.val = j.val; rw [h.2.2]; omega

theorem iblk_2 (n : Fin 1024) (j : Fin 2816) : (iblk m c 2 t : FVec Ideal S1x1024x2816 .bf16) (ix3 0 n j) = arg2 m c (ix3 1 n j) := by
  rw [← V_v1]
  unfold iblk
  rw [View.read_apply]
  show V m c main_v1 _ = _
  have h := index_2 t
  refine congrArg (V m c main_v1) (funext fun a => Fin.ext ?_)
  match a with
  | ⟨0, _⟩ => show win0_2.index t 0 * 1 + 1 * 0 = 1; rw [h.1]
  | ⟨1, _⟩ => show win0_2.index t 1 * 1024 + 1 * n.val = n.val; rw [h.2.1]; omega
  | ⟨2, _⟩ => show win0_2.index t 2 * 2816 + 1 * j.val = j.val; rw [h.2.2]; omega

theorem iblk_3 (n : Fin 2816) (j : Fin 1024) : (iblk m c 3 t : FVec Ideal S1x2816x1024 .bf16) (ix3 0 n j) = arg3 m c (ix3 1 n j) := by
  rw [← V_v2]
  unfold iblk
  rw [View.read_apply]
  show V m c main_v2 _ = _
  have h := index_3 t
  refine congrArg (V m c main_v2) (funext fun a => Fin.ext ?_)
  match a with
  | ⟨0, _⟩ => show win0_3.index t 0 * 1 + 1 * 0 = 1; rw [h.1]
  | ⟨1, _⟩ => show win0_3.index t 1 * 2816 + 1 * n.val = n.val; rw [h.2.1]; omega
  | ⟨2, _⟩ => show win0_3.index t 2 * 1024 + 1 * j.val = j.val; rw [h.2.2]; omega

theorem iblk_6 (n : Fin 1024) (j : Fin 2048) : (iblk m c 6 t : FVec Ideal S1x1024x2048 .bf16) (ix3 0 n j) = arg6 m c (ix3 1 n j) := by
  rw [← V_v9]
  unfold iblk
  rw [View.read_apply]
  show V m c main_v9 _ = _
  have h := index_6 t
  refine congrArg (V m c main_v9) (funext fun a => Fin.ext ?_)
  match a with
  | ⟨0, _⟩ => show win0_6.index t 0 * 1 + 1 * 0 = 1; rw [h.1]
  | ⟨1, _⟩ => show win0_6.index t 1 * 1024 + 1 * n.val = n.val; rw [h.2.1]; omega
  | ⟨2, _⟩ => show win0_6.index t 2 * 2048 + 1 * j.val = j.val; rw [h.2.2]; omega

/-- What the body is given at point `t`. -/
def blk : Head.Blk :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, scM0_0, Memref.isWhole_whole _,
    iblk m c 0 t, iblk m c 1 t, iblk m c 2 t, iblk m c 3 t, iblk m c 4 t, iblk m c 5 t, iblk m c 6 t⟩

/-- The half-step of token `R`. -/
def tok (R : Fin 32768) : Fin 1024 → EReal := Feed.first (arg0 m c) (arg1 m c) (arg2 m c) (arg3 m c) (arg4 m c) (arg5 m c) R

/-- Column `p` of the input projection of token `R`. -/
def col (R : Fin 32768) (p : Fin 2048) : EReal := Feed.column (tok m c R) (fun n p => arg6 m c (ix3 1 n p)) p

theorem outRow_eq (R : Fin 1024) : Head.outRow (blk m c t) R = tok m c (rowAt t R) := by
  unfold Head.outRow tok Feed.first
  simp only [blk, iblk_0, iblk_1, iblk_2, iblk_3, iblk_4, iblk_5]

theorem colRow_eq (R : Fin 1024) (p : Fin 2048) : Head.colRow (blk m c t) R p = col m c (rowAt t R) p := by
  unfold Head.colRow col
  rw [outRow_eq]
  simp only [blk, iblk_6]

/-- The five results at an element. -/
abbrev streamAt (R : Fin 32768) (l : Fin 1024) : EReal := tok m c R l
abbrev queriesAt (R : Fin 32768) (l : Fin 512) : EReal := col m c R ⟨l.val, by omega⟩ * Feed.scale
abbrev keysAt (R : Fin 32768) (l : Fin 512) : EReal := col m c R ⟨512 + l.val, by omega⟩
abbrev valuesAt (R : Fin 32768) (l : Fin 512) : EReal := col m c R ⟨1024 + l.val, by omega⟩
abbrev fourierAt (g : Fin 4) (R : Fin 32768) (l : Fin 128) : EReal := col m c R ⟨1536 + (128 * g.val + l.val), by omega⟩

/-! ### The stream -/

/-- The stream, after the call. -/
def stream : FVec Ideal S32768x1024 .f32 := fun y => streamAt m c (y 0) (y 1)

theorem stream_emb (j : S1024x1024.Idx) :
    (((cfg0.win 7).blk t).view.emb j : S32768x1024.Idx) 0 = rowAt t (j 0) ∧ (((cfg0.win 7).blk t).view.emb j : S32768x1024.Idx) 1 = j 1 := by
  have h := index_7 t
  constructor
  · refine Fin.ext ?_; show win0_7.index t 0 * 1024 + 1 * (j 0).val = 1024 * t.val + (j 0).val; rw [h.1]; omega
  · refine Fin.ext ?_; show win0_7.index t 1 * 1024 + 1 * (j 1).val = (j 1).val; rw [h.2]; omega

theorem stream_flushed : (dats m 0 c).flushed 7 t = ((cfg0.win 7).blk t).view.read (Elt Ideal) (stream m c) := by
  rw [Value.flushed7_A]
  funext j
  rw [View.read_apply]
  have he := stream_emb t j
  refine Eq.trans (Head.out_block (blk m c t) c (grid0.coords t) j) ?_
  refine Eq.trans (congrFun (outRow_eq m c t (j 0)) (j 1)) ?_
  exact (congrArg₂ (streamAt m c) he.1 he.2).symm

theorem stream_xsize : ∀ t : Fin cfg0.N, win0_7.xsize (grid0.coords t) 0 = 1024 ∧ win0_7.xsize (grid0.coords t) 1 = 1024 :=
  (by decide +kernel : ∀ t : Fin grid0.N, win0_7.xsize (grid0.coords t) 0 = 1024 ∧ win0_7.xsize (grid0.coords t) 1 = 1024)

theorem stream_cover (y : S32768x1024.Idx) : ∃ t : Fin cfg0.N, (cfg0.win 7).flush t = true ∧ y ∈ ((cfg0.win 7).blk t).view.set := by
  have h0 : (y 0 : Nat) < 32768 := (y 0).isLt
  have h1 : (y 1 : Nat) < 1024 := (y 1).isLt
  have ht : (y 0).val / 1024 < cfg0.N := by rw [show cfg0.N = 32 from N_0]; omega
  refine ⟨⟨(y 0).val / 1024, ht⟩, flush0_7 _, ?_⟩
  show y ∈ ((View.whole main_v10_0).slice (win0_7.rect ⟨(y 0).val / 1024, ht⟩)).set
  rw [View.set_slice_whole, Rect.mem_set_unit]
  have hi := index_7 ⟨(y 0).val / 1024, ht⟩
  have hx := stream_xsize ⟨(y 0).val / 1024, ht⟩
  intro a
  match a with
  | ⟨0, _⟩ =>
    show win0_7.index ⟨(y 0).val / 1024, ht⟩ 0 * 1024 ≤ (y 0 : Nat)
      ∧ (y 0 : Nat) < win0_7.index ⟨(y 0).val / 1024, ht⟩ 0 * 1024 + win0_7.xsize (grid0.coords ⟨(y 0).val / 1024, ht⟩) 0
    rw [hi.1, hx.1]; show (y 0).val / 1024 * 1024 ≤ _ ∧ _ < (y 0).val / 1024 * 1024 + 1024; omega
  | ⟨1, _⟩ =>
    show win0_7.index ⟨(y 0).val / 1024, ht⟩ 1 * 1024 ≤ (y 1 : Nat)
      ∧ (y 1 : Nat) < win0_7.index ⟨(y 0).val / 1024, ht⟩ 1 * 1024 + win0_7.xsize (grid0.coords ⟨(y 0).val / 1024, ht⟩) 1
    rw [hi.2, hx.2]; omega

theorem stream_final : (dats m 0 c).arrAt 7 cfg0.N = stream m c :=
  (dats m 0 c).arrAt_eq_of_cover 7 (stream m c) (fun t _ => stream_flushed m c t) stream_cover

/-! ### The queries -/

/-- The queries, after the call. -/
def queries : FVec Ideal S32768x512 .bf16 := fun y => queriesAt m c (y 0) (y 1)

theorem queries_emb (j : S1024x512.Idx) :
    (((cfg0.win 8).blk t).view.emb j : S32768x512.Idx) 0 = rowAt t (j 0) ∧ (((cfg0.win 8).blk t).view.emb j : S32768x512.Idx) 1 = j 1 := by
  have h := index_8 t
  constructor
  · refine Fin.ext ?_; show win0_8.index t 0 * 1024 + 1 * (j 0).val = 1024 * t.val + (j 0).val; rw [h.1]; omega
  · refine Fin.ext ?_; show win0_8.index t 1 * 512 + 1 * (j 1).val = (j 1).val; rw [h.2]; omega

theorem queries_flushed : (dats m 0 c).flushed 8 t = ((cfg0.win 8).blk t).view.read (Elt Ideal) (queries m c) := by
  rw [Value.flushed8_A]
  funext j
  rw [View.read_apply]
  have he := queries_emb t j
  refine Eq.trans (Head.q_block (blk m c t) c (grid0.coords t) j) ?_
  refine Eq.trans (congrArg (· * Feed.scale) (colRow_eq m c t (j 0) _)) ?_
  exact (congrArg₂ (queriesAt m c) he.1 he.2).symm

theorem queries_xsize : ∀ t : Fin cfg0.N, win0_8.xsize (grid0.coords t) 0 = 1024 ∧ win0_8.xsize (grid0.coords t) 1 = 512 :=
  (by decide +kernel : ∀ t : Fin grid0.N, win0_8.xsize (grid0.coords t) 0 = 1024 ∧ win0_8.xsize (grid0.coords t) 1 = 512)

theorem queries_cover (y : S32768x512.Idx) : ∃ t : Fin cfg0.N, (cfg0.win 8).flush t = true ∧ y ∈ ((cfg0.win 8).blk t).view.set := by
  have h0 : (y 0 : Nat) < 32768 := (y 0).isLt
  have h1 : (y 1 : Nat) < 512 := (y 1).isLt
  have ht : (y 0).val / 1024 < cfg0.N := by rw [show cfg0.N = 32 from N_0]; omega
  refine ⟨⟨(y 0).val / 1024, ht⟩, flush0_8 _, ?_⟩
  show y ∈ ((View.whole main_v10_1).slice (win0_8.rect ⟨(y 0).val / 1024, ht⟩)).set
  rw [View.set_slice_whole, Rect.mem_set_unit]
  have hi := index_8 ⟨(y 0).val / 1024, ht⟩
  have hx := queries_xsize ⟨(y 0).val / 1024, ht⟩
  intro a
  match a with
  | ⟨0, _⟩ =>
    show win0_8.index ⟨(y 0).val / 1024, ht⟩ 0 * 1024 ≤ (y 0 : Nat)
      ∧ (y 0 : Nat) < win0_8.index ⟨(y 0).val / 1024, ht⟩ 0 * 1024 + win0_8.xsize (grid0.coords ⟨(y 0).val / 1024, ht⟩) 0
    rw [hi.1, hx.1]; show (y 0).val / 1024 * 1024 ≤ _ ∧ _ < (y 0).val / 1024 * 1024 + 1024; omega
  | ⟨1, _⟩ =>
    show win0_8.index ⟨(y 0).val / 1024, ht⟩ 1 * 512 ≤ (y 1 : Nat)
      ∧ (y 1 : Nat) < win0_8.index ⟨(y 0).val / 1024, ht⟩ 1 * 512 + win0_8.xsize (grid0.coords ⟨(y 0).val / 1024, ht⟩) 1
    rw [hi.2, hx.2]; omega

theorem queries_final : (dats m 0 c).arrAt 8 cfg0.N = queries m c :=
  (dats m 0 c).arrAt_eq_of_cover 8 (queries m c) (fun t _ => queries_flushed m c t) queries_cover

/-! ### The keys -/

/-- The keys, after the call. -/
def keys : FVec Ideal S32768x512 .bf16 := fun y => keysAt m c (y 0) (y 1)

theorem keys_emb (j : S1024x512.Idx) :
    (((cfg0.win 9).blk t).view.emb j : S32768x512.Idx) 0 = rowAt t (j 0) ∧ (((cfg0.win 9).blk t).view.emb j : S32768x512.Idx) 1 = j 1 := by
  have h := index_9 t
  constructor
  · refine Fin.ext ?_; show win0_9.index t 0 * 1024 + 1 * (j 0).val = 1024 * t.val + (j 0).val; rw [h.1]; omega
  · refine Fin.ext ?_; show win0_9.index t 1 * 512 + 1 * (j 1).val = (j 1).val; rw [h.2]; omega

theorem keys_flushed : (dats m 0 c).flushed 9 t = ((cfg0.win 9).blk t).view.read (Elt Ideal) (keys m c) := by
  rw [Value.flushed9_A]
  funext j
  rw [View.read_apply]
  have he := keys_emb t j
  refine Eq.trans (Head.k_block (blk m c t) c (grid0.coords t) j) ?_
  refine Eq.trans (colRow_eq m c t (j 0) _) ?_
  exact (congrArg₂ (keysAt m c) he.1 he.2).symm

theorem keys_xsize : ∀ t : Fin cfg0.N, win0_9.xsize (grid0.coords t) 0 = 1024 ∧ win0_9.xsize (grid0.coords t) 1 = 512 :=
  (by decide +kernel : ∀ t : Fin grid0.N, win0_9.xsize (grid0.coords t) 0 = 1024 ∧ win0_9.xsize (grid0.coords t) 1 = 512)

theorem keys_cover (y : S32768x512.Idx) : ∃ t : Fin cfg0.N, (cfg0.win 9).flush t = true ∧ y ∈ ((cfg0.win 9).blk t).view.set := by
  have h0 : (y 0 : Nat) < 32768 := (y 0).isLt
  have h1 : (y 1 : Nat) < 512 := (y 1).isLt
  have ht : (y 0).val / 1024 < cfg0.N := by rw [show cfg0.N = 32 from N_0]; omega
  refine ⟨⟨(y 0).val / 1024, ht⟩, flush0_9 _, ?_⟩
  show y ∈ ((View.whole main_v10_2).slice (win0_9.rect ⟨(y 0).val / 1024, ht⟩)).set
  rw [View.set_slice_whole, Rect.mem_set_unit]
  have hi := index_9 ⟨(y 0).val / 1024, ht⟩
  have hx := keys_xsize ⟨(y 0).val / 1024, ht⟩
  intro a
  match a with
  | ⟨0, _⟩ =>
    show win0_9.index ⟨(y 0).val / 1024, ht⟩ 0 * 1024 ≤ (y 0 : Nat)
      ∧ (y 0 : Nat) < win0_9.index ⟨(y 0).val / 1024, ht⟩ 0 * 1024 + win0_9.xsize (grid0.coords ⟨(y 0).val / 1024, ht⟩) 0
    rw [hi.1, hx.1]; show (y 0).val / 1024 * 1024 ≤ _ ∧ _ < (y 0).val / 1024 * 1024 + 1024; omega
  | ⟨1, _⟩ =>
    show win0_9.index ⟨(y 0).val / 1024, ht⟩ 1 * 512 ≤ (y 1 : Nat)
      ∧ (y 1 : Nat) < win0_9.index ⟨(y 0).val / 1024, ht⟩ 1 * 512 + win0_9.xsize (grid0.coords ⟨(y 0).val / 1024, ht⟩) 1
    rw [hi.2, hx.2]; omega

theorem keys_final : (dats m 0 c).arrAt 9 cfg0.N = keys m c :=
  (dats m 0 c).arrAt_eq_of_cover 9 (keys m c) (fun t _ => keys_flushed m c t) keys_cover

/-! ### The values -/

/-- The values, after the call. -/
def values : FVec Ideal S32768x512 .bf16 := fun y => valuesAt m c (y 0) (y 1)

theorem values_emb (j : S1024x512.Idx) :
    (((cfg0.win 10).blk t).view.emb j : S32768x512.Idx) 0 = rowAt t (j 0) ∧ (((cfg0.win 10).blk t).view.emb j : S32768x512.Idx) 1 = j 1 := by
  have h := index_10 t
  constructor
  · refine Fin.ext ?_; show win0_10.index t 0 * 1024 + 1 * (j 0).val = 1024 * t.val + (j 0).val; rw [h.1]; omega
  · refine Fin.ext ?_; show win0_10.index t 1 * 512 + 1 * (j 1).val = (j 1).val; rw [h.2]; omega

theorem values_flushed : (dats m 0 c).flushed 10 t = ((cfg0.win 10).blk t).view.read (Elt Ideal) (values m c) := by
  rw [Value.flushed10_A]
  funext j
  rw [View.read_apply]
  have he := values_emb t j
  refine Eq.trans (Head.v_block (blk m c t) c (grid0.coords t) j) ?_
  refine Eq.trans (colRow_eq m c t (j 0) _) ?_
  exact (congrArg₂ (valuesAt m c) he.1 he.2).symm

theorem values_xsize : ∀ t : Fin cfg0.N, win0_10.xsize (grid0.coords t) 0 = 1024 ∧ win0_10.xsize (grid0.coords t) 1 = 512 :=
  (by decide +kernel : ∀ t : Fin grid0.N, win0_10.xsize (grid0.coords t) 0 = 1024 ∧ win0_10.xsize (grid0.coords t) 1 = 512)

theorem values_cover (y : S32768x512.Idx) : ∃ t : Fin cfg0.N, (cfg0.win 10).flush t = true ∧ y ∈ ((cfg0.win 10).blk t).view.set := by
  have h0 : (y 0 : Nat) < 32768 := (y 0).isLt
  have h1 : (y 1 : Nat) < 512 := (y 1).isLt
  have ht : (y 0).val / 1024 < cfg0.N := by rw [show cfg0.N = 32 from N_0]; omega
  refine ⟨⟨(y 0).val / 1024, ht⟩, flush0_10 _, ?_⟩
  show y ∈ ((View.whole main_v10_3).slice (win0_10.rect ⟨(y 0).val / 1024, ht⟩)).set
  rw [View.set_slice_whole, Rect.mem_set_unit]
  have hi := index_10 ⟨(y 0).val / 1024, ht⟩
  have hx := values_xsize ⟨(y 0).val / 1024, ht⟩
  intro a
  match a with
  | ⟨0, _⟩ =>
    show win0_10.index ⟨(y 0).val / 1024, ht⟩ 0 * 1024 ≤ (y 0 : Nat)
      ∧ (y 0 : Nat) < win0_10.index ⟨(y 0).val / 1024, ht⟩ 0 * 1024 + win0_10.xsize (grid0.coords ⟨(y 0).val / 1024, ht⟩) 0
    rw [hi.1, hx.1]; show (y 0).val / 1024 * 1024 ≤ _ ∧ _ < (y 0).val / 1024 * 1024 + 1024; omega
  | ⟨1, _⟩ =>
    show win0_10.index ⟨(y 0).val / 1024, ht⟩ 1 * 512 ≤ (y 1 : Nat)
      ∧ (y 1 : Nat) < win0_10.index ⟨(y 0).val / 1024, ht⟩ 1 * 512 + win0_10.xsize (grid0.coords ⟨(y 0).val / 1024, ht⟩) 1
    rw [hi.2, hx.2]; omega

theorem values_final : (dats m 0 c).arrAt 10 cfg0.N = values m c :=
  (dats m 0 c).arrAt_eq_of_cover 10 (values m c) (fun t _ => values_flushed m c t) values_cover

/-! ### The Fourier mixing's columns -/

/-- The Fourier mixing's columns, group by group, after the call. -/
def fourier : FVec Ideal S4x32768x128 .f32 := fun y => fourierAt m c (y 0) (y 1) (y 2)

theorem fourier_emb (j : S4x1024x128.Idx) :
    (((cfg0.win 11).blk t).view.emb j : S4x32768x128.Idx) = ix3 (j 0) (rowAt t (j 1)) (j 2) := by
  have h := index_11 t
  refine funext fun a => Fin.ext ?_
  match a with
  | ⟨0, _⟩ => show win0_11.index t 0 * 4 + 1 * (j 0).val = (j 0).val; rw [h.1]; omega
  | ⟨1, _⟩ => show win0_11.index t 1 * 1024 + 1 * (j 1).val = 1024 * t.val + (j 1).val; rw [h.2.1]; omega
  | ⟨2, _⟩ => show win0_11.index t 2 * 128 + 1 * (j 2).val = (j 2).val; rw [h.2.2]; omega

theorem fourier_flushed : (dats m 0 c).flushed 11 t = ((cfg0.win 11).blk t).view.read (Elt Ideal) (fourier m c) := by
  rw [Value.flushed11_A]
  funext j
  rw [View.read_apply]
  refine Eq.trans (Head.fo_block (blk m c t) c (grid0.coords t) j) ?_
  refine Eq.trans (colRow_eq m c t (j 1) _) ?_
  exact (congrArg (fourier m c) (fourier_emb t j)).symm

theorem fourier_xsize : ∀ t : Fin cfg0.N, win0_11.xsize (grid0.coords t) 0 = 4 ∧ win0_11.xsize (grid0.coords t) 1 = 1024 ∧ win0_11.xsize (grid0.coords t) 2 = 128 :=
  (by decide +kernel : ∀ t : Fin grid0.N, win0_11.xsize (grid0.coords t) 0 = 4 ∧ win0_11.xsize (grid0.coords t) 1 = 1024 ∧ win0_11.xsize (grid0.coords t) 2 = 128)

theorem fourier_cover (y : S4x32768x128.Idx) : ∃ t : Fin cfg0.N, (cfg0.win 11).flush t = true ∧ y ∈ ((cfg0.win 11).blk t).view.set := by
  have h0 : (y 0 : Nat) < 4 := (y 0).isLt
  have h1 : (y 1 : Nat) < 32768 := (y 1).isLt
  have h2 : (y 2 : Nat) < 128 := (y 2).isLt
  have ht : (y 1).val / 1024 < cfg0.N := by rw [show cfg0.N = 32 from N_0]; omega
  refine ⟨⟨(y 1).val / 1024, ht⟩, flush0_11 _, ?_⟩
  show y ∈ ((View.whole main_v10_4).slice (win0_11.rect ⟨(y 1).val / 1024, ht⟩)).set
  rw [View.set_slice_whole, Rect.mem_set_unit]
  have hi := index_11 ⟨(y 1).val / 1024, ht⟩
  have hx := fourier_xsize ⟨(y 1).val / 1024, ht⟩
  intro a
  match a with
  | ⟨0, _⟩ =>
    show win0_11.index ⟨(y 1).val / 1024, ht⟩ 0 * 4 ≤ (y 0 : Nat)
      ∧ (y 0 : Nat) < win0_11.index ⟨(y 1).val / 1024, ht⟩ 0 * 4 + win0_11.xsize (grid0.coords ⟨(y 1).val / 1024, ht⟩) 0
    rw [hi.1, hx.1]; omega
  | ⟨1, _⟩ =>
    show win0_11.index ⟨(y 1).val / 1024, ht⟩ 1 * 1024 ≤ (y 1 : Nat)
      ∧ (y 1 : Nat) < win0_11.index ⟨(y 1).val / 1024, ht⟩ 1 * 1024 + win0_11.xsize (grid0.coords ⟨(y 1).val / 1024, ht⟩) 1
    rw [hi.2.1, hx.2.1]; show (y 1).val / 1024 * 1024 ≤ _ ∧ _ < (y 1).val / 1024 * 1024 + 1024; omega
  | ⟨2, _⟩ =>
    show win0_11.index ⟨(y 1).val / 1024, ht⟩ 2 * 128 ≤ (y 2 : Nat)
      ∧ (y 2 : Nat) < win0_11.index ⟨(y 1).val / 1024, ht⟩ 2 * 128 + win0_11.xsize (grid0.coords ⟨(y 1).val / 1024, ht⟩) 2
    rw [hi.2.2, hx.2.2]; omega

theorem fourier_final : (dats m 0 c).arrAt 11 cfg0.N = fourier m c :=
  (dats m 0 c).arrAt_eq_of_cover 11 (fourier m c) (fun t _ => fourier_flushed m c t) fourier_cover

end Cert.Kernel3Ideal.HeadFilled

end

end
-- ==== Proof.HeadTold.lean ====
/-
  The reference of the second layer's first half-step and input projection, element by element.
-/
module

public import proofs.«01_k».proof.Proof.Tables
public import proofs.«01_k».proof.Proof.Feed
public import proofs.«01_k».proof.Proof.Gen.Reference3Ideal.Read

@[expose] public section

set_option maxRecDepth 65536
set_option maxHeartbeats 1000000

noncomputable section

namespace Cert.HeadTold

open Cert.Reference3Ideal Cert.Reference3Ideal.Gen Cert.Reference3Ideal.Read Idealize.ShloMosaic

variable (x0 : FVec Ideal S32768x1024 .f32) (x1 x2 : FVec Ideal S2x1024x2816 .f32) (x3 : FVec Ideal S2x2816x1024 .f32)
  (x4 x5 : FVec Ideal S2x1024 .f32) (x6 : FVec Ideal S2x1024x2048 .f32)

theorem hidden_apply (R : Fin 32768) (q : Fin 2816) :
    val_main_v11 (F := Ideal) x0 x1 x2 (ix2 R q)
      = Feed.hidden (fun j => x0 (ix2 R j)) (fun n q => x1 (ix3 1 n q)) (fun n q => x2 (ix3 1 n q)) q := by
  pointwise [val_main_v5, val_main_v4, val_main_v3, val_main_v2, val_main_v11, val_main_v10, val_main_v9, val_main_v8, val_main_call0_v5, val_main_call0_v4, val_main_call0_v3, val_main_call0_v2, val_main_call0_v1, val_main_call0_v0, val_main_call0_cst, val_main_call0_cst_0]
  rfl

theorem first_apply (R : Fin 32768) (l : Fin 1024) :
    val_main_v41 (F := Ideal) x0 x1 x2 x3 x4 x5 (ix2 R l) = Feed.first x0 x1 x2 x3 x4 x5 R l := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v7, val_main_v6, val_main_v1, val_main_v0, val_main_cst, val_main_cst_0, val_main_cst_1, val_main_cst_2, val_main_cst_3, val_main_cst_4, val_main_cst_5]
  simp only [hidden_apply]
  rfl

/-- Column `p` of the input projection of token `R`. -/
def colRow (R : Fin 32768) (p : Fin 2048) : EReal :=
  Feed.column (Feed.first x0 x1 x2 x3 x4 x5 R) (fun n p => x6 (ix3 1 n p)) p

theorem column_apply (R : Fin 32768) (p : Fin 2048) :
    val_main_v44 (F := Ideal) x0 x1 x2 x3 x4 x5 x6 (ix2 R p) = colRow x0 x1 x2 x3 x4 x5 x6 R p := by
  pointwise [val_main_v44, val_main_v43, val_main_v42]
  simp only [first_apply]
  rfl

/-- The reference's scale of the queries. -/
theorem scale_eq : Ideal.div (Ideal.ofBits .f32 0x3E000000#32) (Ideal.log (Ideal.ofBits .f32 0x40000000#32)) = Feed.scale := by
  rw [Cert.KernelIdeal.Gen.ofBits_eighth, Cert.KernelIdeal.Gen.ofBits_two, Ideal.log_coe, if_neg (by norm_num),
    Ideal.div_coe Cert.KernelIdeal.Gen.log_two_ne]
  rw [one_div (Real.log 2)]
  exact (EReal.coe_mul _ _).symm

theorem query_apply (R : Fin 32768) (l : Fin 512) :
    val_main_v54 (F := Ideal) x0 x1 x2 x3 x4 x5 x6 (ix2 R l) = colRow x0 x1 x2 x3 x4 x5 x6 R ⟨l.val, by omega⟩ * Feed.scale := by
  pointwise [val_main_v54, val_main_v49, val_main_v48, val_main_v47, val_main_v46, val_main_v45, val_main_cst_6, val_main_cst_7]
  rw [column_apply, scale_eq]

theorem key_apply (R : Fin 32768) (l : Fin 512) :
    val_main_v55 (F := Ideal) x0 x1 x2 x3 x4 x5 x6 (ix2 R l) = colRow x0 x1 x2 x3 x4 x5 x6 R ⟨512 + l.val, by omega⟩ := by
  pointwise [val_main_v55, val_main_v50]
  exact column_apply x0 x1 x2 x3 x4 x5 x6 R ⟨512 + l.val, by omega⟩

theorem value_apply (R : Fin 32768) (l : Fin 512) :
    val_main_v56 (F := Ideal) x0 x1 x2 x3 x4 x5 x6 (ix2 R l) = colRow x0 x1 x2 x3 x4 x5 x6 R ⟨1024 + l.val, by omega⟩ := by
  pointwise [val_main_v56, val_main_v51]
  exact column_apply x0 x1 x2 x3 x4 x5 x6 R ⟨1024 + l.val, by omega⟩

theorem fourier_apply (g : Fin 4) (R : Fin 32768) (l : Fin 128) :
    val_main_v57 (F := Ideal) x0 x1 x2 x3 x4 x5 x6 (ix3 g R l)
      = colRow x0 x1 x2 x3 x4 x5 x6 R ⟨1536 + (128 * g.val + l.val), by omega⟩ := by
  have h : val_main_v53 (F := Ideal) x0 x1 x2 x3 x4 x5 x6 (ix3 R g l)
      = val_main_v52 (F := Ideal) x0 x1 x2 x3 x4 x5 x6 (ix2 R ⟨128 * g.val + l.val, by omega⟩) := by
    unfold val_main_v53
    refine shapeCast_apply _ _ _ (ix2 R ⟨128 * g.val + l.val, by omega⟩) ?_
    refine (Shape.rowMajor_val_two _).trans (Eq.trans ?_ (Shape.rowMajor_val_three (ix3 R g l)).symm)
    show R.val * 512 + (128 * g.val + l.val) = (R.val * 4 + g.val) * 128 + l.val; omega
  pointwise [val_main_v57]
  rw [h]
  pointwise [val_main_v52]
  rw [column_apply]

end Cert.HeadTold

end

end
-- ==== Proof.lean ====
/- The claims. Of the call before the attention, of the attention call and of the mixing call: the programs run and leave their arguments, and kernel and
   reference have equal results, the attention's on finite queries, keys and biases. -/
module

public import proofs.«01_k».proof.Proof.Gen.Kernel3Ideal.Value
public import proofs.«01_k».proof.Proof.Gen.Kernel3.Frame
public import proofs.«01_k».proof.Proof.Gen.Reference3Ideal.Run
public import proofs.«01_k».proof.Proof.Gen.Reference3Ideal.Read
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.KernelIdeal.Frame.Runs
public import proofs.«01_k».proof.Proof.Gen.ReferenceIdeal.Run
public import proofs.«01_k».proof.Proof.Gen.ReferenceIdeal.Read
public import proofs.«01_k».proof.Proof.Equal
public import proofs.«01_k».proof.Proof.Same
public import proofs.«01_k».proof.Proof.Filled
public import proofs.«01_k».proof.Proof.Told
public import proofs.«01_k».proof.Proof.HeadFilled
public import proofs.«01_k».proof.Proof.HeadTold
public import Idealize.ShloMosaic.Adequacy
public import Idealize.ShloMosaic.Init

@[expose] public section

set_option maxRecDepth 65536

noncomputable section

namespace Cert.Proof

open Idealize.ShloMosaic Idealize.ShloMosaic.TcCoe Idealize.SL.Sem
open Cert.KernelIdeal.Gen (rowIx laneIx attended argQ argK argV argB)

/-- The side conditions of the precondition. -/
theorem facts_pre : Cert.Pre_finite_scores.Facts where
  bcast_S_S32768x512 := Cert.KernelIdeal.Facts₀.bcast_S_S32768x512
  bcast_S_S8x15x31 := Cert.KernelIdeal.Facts₀.bcast_S_S8x15x31

theorem frame_kernel : Cert.quiescent_Kernel := by
  intro m ρ _
  rw [Cert.Same.defs_eq, Cert.Same.main_eq]
  exact Cert.KernelIdeal.Gen.frame_all (F := Bits) m ρ

theorem frame_ideal : Cert.quiescent_KernelIdeal := fun m ρ _ => Cert.KernelIdeal.Gen.frame_all (F := Ideal) m ρ

/-- The reference's run, its counters zero for it declares none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every element of the result lies at a row of a grid and a lane of a head. -/
theorem place_eq (y : Cert.KernelIdeal.S32768x512.Idx) :
    ∃ (b : Fin 4) (r : Fin 128) (i : Fin 64) (h : Fin 8) (l : Fin 64), y = ValueIdx.ix2 (rowIx b r i) (laneIx h l) := by
  have h0 : (y 0).val < 32768 := (y 0).isLt
  have h1 : (y 1).val < 512 := (y 1).isLt
  refine ⟨⟨(y 0).val / 8192, by omega⟩, ⟨(y 0).val / 64 % 128, by omega⟩, ⟨(y 0).val % 64, by omega⟩,
    ⟨(y 1).val / 64, by omega⟩, ⟨(y 1).val % 64, by omega⟩, ?_⟩
  funext a
  match a with
  | ⟨0, _⟩ => refine Fin.ext ?_; show (y 0).val = 8192 * ((y 0).val / 8192) + 64 * ((y 0).val / 64 % 128) + (y 0).val % 64; omega
  | ⟨1, _⟩ => refine Fin.ext ?_; show (y 1).val = 64 * ((y 1).val / 64) + (y 1).val % 64; omega

/-- The kernel's result is the reference's value of the same arguments. -/
theorem attended_eq (m : (ℓ : Loc Cert.KernelIdeal.nD Cert.KernelIdeal.τ Cert.KernelIdeal.sig) → Buf (Elt Ideal) ℓ)
    (c : Dev Cert.KernelIdeal.nD)
    (hq : ∀ i, ∃ x : ℝ, argQ m c i = (x : EReal)) (hk : ∀ i, ∃ x : ℝ, argK m c i = (x : EReal))
    (hb : ∀ i, ∃ x : ℝ, argB m c i = (x : EReal)) :
    attended m c = Cert.ReferenceIdeal.Read.val_main_v104 (F := Ideal) (argQ m c) (argK m c) (argV m c) (argB m c) := by
  funext y
  obtain ⟨b, r, i, h, l, rfl⟩ := place_eq y
  exact (Cert.KernelIdeal.Gen.attended_apply m c b r i h l).trans
    (Cert.Equal.element_eq (argQ m c) (argK m c) (argV m c) (argB m c) hq hk hb b r i h l)

theorem equal_results : Cert.algebraic_KernelIdeal_ReferenceIdeal_pre_finite_scores (hPre_finite_scores := facts_pre) := by
  intro m ρ m' ρ' hpre hargs
  refine ⟨fun c => attended m c, Cert.KernelIdeal.Gen.run_value (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3⟩ := hargs c
  obtain ⟨p0, p1, p3⟩ := hpre c
  refine (Cert.ReferenceIdeal.Read.val_main_v104_eq (F := Ideal) m' c).trans ?_
  rw [h0, h1, h2, h3]
  exact (attended_eq m c (fun i => Cert.Equal.real_of_below _ (congrFun p0 i))
    (fun i => Cert.Equal.real_of_below _ (congrFun p1 i)) (fun i => Cert.Equal.real_of_below _ (congrFun p3 i))).symm

/-- The second reference's run, its counters zero for it declares none. -/
theorem frame_told : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The mixing call leaves the second half-step of its arguments, and so does its reference. -/
theorem equal_mixed : Cert.algebraic_Kernel2Ideal_Reference2Ideal := by
  intro m ρ m' ρ' _ hargs
  refine ⟨fun c => Cert.Kernel2Ideal.Filled.filled m c,
    (θ_run Cert.Kernel2Ideal.defs _ _).mono
      (fun r h c => ⟨(h c).1.trans (Cert.Kernel2Ideal.Filled.final m c), (h c).2⟩)
      (Cert.Kernel2Ideal.Value.run_blocks (F := Ideal) m ρ), ?_⟩
  refine (θ_run Cert.Reference2Ideal.defs _ _).mono (fun r h c => ⟨(h c).1.trans ?_, (h c).2⟩)
    (Cert.Reference2Ideal.Value.run (F := Ideal) m' ρ')
  obtain ⟨h0, h1, h2, h3, h4, h5, h6, h7, h8, h9, h10, h11, h12⟩ := hargs c
  refine (Cert.Reference2Ideal.Read.val_main_v104_eq (F := Ideal) _).trans ?_
  refine Eq.trans (congr (congr (congr (congr (congr (congr (congr (congr (congr (congr (congr (congr
    (congrArg Cert.Reference2Ideal.Read.val_main_v104 h0) h1) h2) h3) h4) h5) h6) h7) h8) h9) h10) h11) h12) ?_
  funext y
  have hy : y = ix2 (y 0) (y 1) := by funext a; fin_cases a <;> rfl
  rw [hy]
  exact Cert.Told.second_apply _ _ _ _ _ _ _ _ _ _ _ _ _ _ _

/-- The third reference's run, its counters zero for it declares none. -/
theorem frame_head : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

/-- The stream of both is the half-step. -/
theorem stream_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v41 (F := Ideal) (Cert.Kernel3Ideal.HeadFilled.arg0 m c) (Cert.Kernel3Ideal.HeadFilled.arg1 m c) (Cert.Kernel3Ideal.HeadFilled.arg2 m c) (Cert.Kernel3Ideal.HeadFilled.arg3 m c) (Cert.Kernel3Ideal.HeadFilled.arg4 m c) (Cert.Kernel3Ideal.HeadFilled.arg5 m c) = Cert.Kernel3Ideal.HeadFilled.stream m c := by
  funext y
  have hy : y = ix2 (y 0) (y 1) := by funext a; fin_cases a <;> rfl
  rw [hy]
  exact Cert.HeadTold.first_apply _ _ _ _ _ _ _ _

/-- The queries of both. -/
theorem queries_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v54 (F := Ideal) (Cert.Kernel3Ideal.HeadFilled.arg0 m c) (Cert.Kernel3Ideal.HeadFilled.arg1 m c) (Cert.Kernel3Ideal.HeadFilled.arg2 m c) (Cert.Kernel3Ideal.HeadFilled.arg3 m c) (Cert.Kernel3Ideal.HeadFilled.arg4 m c) (Cert.Kernel3Ideal.HeadFilled.arg5 m c) (Cert.Kernel3Ideal.HeadFilled.arg6 m c) = Cert.Kernel3Ideal.HeadFilled.queries m c := by
  funext y
  have hy : y = ix2 (y 0) (y 1) := by funext a; fin_cases a <;> rfl
  rw [hy]
  exact Cert.HeadTold.query_apply _ _ _ _ _ _ _ _ _

/-- The keys of both. -/
theorem keys_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v55 (F := Ideal) (Cert.Kernel3Ideal.HeadFilled.arg0 m c) (Cert.Kernel3Ideal.HeadFilled.arg1 m c) (Cert.Kernel3Ideal.HeadFilled.arg2 m c) (Cert.Kernel3Ideal.HeadFilled.arg3 m c) (Cert.Kernel3Ideal.HeadFilled.arg4 m c) (Cert.Kernel3Ideal.HeadFilled.arg5 m c) (Cert.Kernel3Ideal.HeadFilled.arg6 m c) = Cert.Kernel3Ideal.HeadFilled.keys m c := by
  funext y
  have hy : y = ix2 (y 0) (y 1) := by funext a; fin_cases a <;> rfl
  rw [hy]
  exact Cert.HeadTold.key_apply _ _ _ _ _ _ _ _ _

/-- The values of both. -/
theorem values_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v56 (F := Ideal) (Cert.Kernel3Ideal.HeadFilled.arg0 m c) (Cert.Kernel3Ideal.HeadFilled.arg1 m c) (Cert.Kernel3Ideal.HeadFilled.arg2 m c) (Cert.Kernel3Ideal.HeadFilled.arg3 m c) (Cert.Kernel3Ideal.HeadFilled.arg4 m c) (Cert.Kernel3Ideal.HeadFilled.arg5 m c) (Cert.Kernel3Ideal.HeadFilled.arg6 m c) = Cert.Kernel3Ideal.HeadFilled.values m c := by
  funext y
  have hy : y = ix2 (y 0) (y 1) := by funext a; fin_cases a <;> rfl
  rw [hy]
  exact Cert.HeadTold.value_apply _ _ _ _ _ _ _ _ _

/-- The Fourier mixing's columns of both. -/
theorem fourier_eq (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v57 (F := Ideal) (Cert.Kernel3Ideal.HeadFilled.arg0 m c) (Cert.Kernel3Ideal.HeadFilled.arg1 m c) (Cert.Kernel3Ideal.HeadFilled.arg2 m c) (Cert.Kernel3Ideal.HeadFilled.arg3 m c) (Cert.Kernel3Ideal.HeadFilled.arg4 m c) (Cert.Kernel3Ideal.HeadFilled.arg5 m c) (Cert.Kernel3Ideal.HeadFilled.arg6 m c) = Cert.Kernel3Ideal.HeadFilled.fourier m c := by
  funext y
  have hy : y = ix3 (y 0) (y 1) (y 2) := by funext a; fin_cases a <;> rfl
  rw [hy]
  exact Cert.HeadTold.fourier_apply _ _ _ _ _ _ _ _ _ _

/-- The first call leaves the stream, the queries, the keys, the values and the Fourier mixing's columns, and so does its
    reference. -/
theorem equal_head : Cert.algebraic_Kernel3Ideal_Reference3Ideal := by
  intro m ρ m' ρ' _ hargs
  refine ⟨fun c => Cert.Kernel3Ideal.HeadFilled.stream m c, fun c => Cert.Kernel3Ideal.HeadFilled.queries m c, fun c => Cert.Kernel3Ideal.HeadFilled.keys m c, fun c => Cert.Kernel3Ideal.HeadFilled.values m c, fun c => Cert.Kernel3Ideal.HeadFilled.fourier m c,
    (θ_run Cert.Kernel3Ideal.defs _ _).mono
      (fun r h c => ⟨(h c).1.trans (Cert.Kernel3Ideal.HeadFilled.stream_final m c), (h c).2.1.trans (Cert.Kernel3Ideal.HeadFilled.queries_final m c), (h c).2.2.1.trans (Cert.Kernel3Ideal.HeadFilled.keys_final m c), (h c).2.2.2.1.trans (Cert.Kernel3Ideal.HeadFilled.values_final m c), (h c).2.2.2.2.1.trans (Cert.Kernel3Ideal.HeadFilled.fourier_final m c), (h c).2.2.2.2.2⟩)
      (Cert.Kernel3Ideal.Value.run_blocks (F := Ideal) m ρ), ?_⟩
  refine (θ_run Cert.Reference3Ideal.defs _ _).mono
    (fun r h c => ⟨(h c).1.trans ?_, (h c).2.1.trans ?_, (h c).2.2.1.trans ?_, (h c).2.2.2.1.trans ?_, (h c).2.2.2.2.1.trans ?_, (h c).2.2.2.2.2⟩)
    (Cert.Reference3Ideal.Value.run (F := Ideal) m' ρ')
  all_goals obtain ⟨h0, h1, h2, h3, h4, h5, h6⟩ := hargs c
  · refine (Cert.Reference3Ideal.Read.val_main_v41_eq (F := Ideal) _ _).trans (Eq.trans ?_ (stream_eq m c))
    exact congr (congr (congr (congr (congr (congrArg (Cert.Reference3Ideal.Read.val_main_v41 (F := Ideal)) h0) h1) h2) h3) h4) h5
  · refine (Cert.Reference3Ideal.Read.val_main_v54_eq (F := Ideal) _ _).trans (Eq.trans ?_ (queries_eq m c))
    exact congr (congr (congr (congr (congr (congr (congrArg (Cert.Reference3Ideal.Read.val_main_v54 (F := Ideal)) h0) h1) h2) h3) h4) h5) h6
  · refine (Cert.Reference3Ideal.Read.val_main_v55_eq (F := Ideal) _ _).trans (Eq.trans ?_ (keys_eq m c))
    exact congr (congr (congr (congr (congr (congr (congrArg (Cert.Reference3Ideal.Read.val_main_v55 (F := Ideal)) h0) h1) h2) h3) h4) h5) h6
  · refine (Cert.Reference3Ideal.Read.val_main_v56_eq (F := Ideal) _ _).trans (Eq.trans ?_ (values_eq m c))
    exact congr (congr (congr (congr (congr (congr (congrArg (Cert.Reference3Ideal.Read.val_main_v56 (F := Ideal)) h0) h1) h2) h3) h4) h5) h6
  · refine (Cert.Reference3Ideal.Read.val_main_v57_eq (F := Ideal) _ _).trans (Eq.trans ?_ (fourier_eq m c))
    exact congr (congr (congr (congr (congr (congr (congrArg (Cert.Reference3Ideal.Read.val_main_v57 (F := Ideal)) h0) h1) h2) h3) h4) h5) h6

/-- The queries' scale is read as the real number that its name stands for. -/
theorem kept : Cert.preserves_Kernel3_Kernel3Ideal :=
  IdealRules.named_const.statement Cert.Kernel3Ideal.κ "q_scale" .f32 0x3E38AA3B#32 (((1 / 8) * (Real.log 2)⁻¹ : ℝ) : EReal) rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, facts_pre, frame_kernel, frame_ideal,
    fun m ρ _ => Cert.KernelIdeal.Gen.frame_all (F := Ideal) m ρ, frame_reference,
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => Cert.Kernel2.Gen.frame m ρ, fun m ρ _ => Cert.Kernel2Ideal.Gen.frame m ρ, frame_told,
    fun m ρ _ => Cert.Kernel3.Gen.frame m ρ, fun m ρ _ => Cert.Kernel3Ideal.Gen.frame m ρ, frame_head,
    trivial, equal_results, trivial, equal_mixed, kept, equal_head⟩

end Cert.Proof

end
